-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_MixDsa (m : (ℓ : Loc Cert.MixDsa.nD Cert.MixDsa.τ Cert.MixDsa.sig) → Buf (Elt Bits) ℓ) : Prop :=
  True

def Pre_MixDsaIdeal (m : (ℓ : Loc Cert.MixDsaIdeal.nD Cert.MixDsaIdeal.τ Cert.MixDsaIdeal.sig) → Buf (Elt Ideal) ℓ) : Prop :=
  True

def Pre_MixPre (m : (ℓ : Loc Cert.MixPre.nD Cert.MixPre.τ Cert.MixPre.sig) → Buf (Elt Bits) ℓ) : Prop :=
  True

def Pre_MixPreIdeal (m : (ℓ : Loc Cert.MixPreIdeal.nD Cert.MixPreIdeal.τ Cert.MixPreIdeal.sig) → Buf (Elt Ideal) ℓ) : Prop :=
  True

def Pre_MixPreRefIdeal (m : (ℓ : Loc Cert.MixPreRefIdeal.nD Cert.MixPreRefIdeal.τ Cert.MixPreRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10))
      ∧ r.2.sem = fun _ => 0)

def quiescent_MixDsa [hMixDsa : Cert.MixDsa.Facts] : Prop :=
  ∀ (m : (ℓ : Loc Cert.MixDsa.nD Cert.MixDsa.τ Cert.MixDsa.sig) → Buf (Elt Bits) ℓ) (g : Dev Cert.MixDsa.nD → PrngReg), Pre_MixDsa m →
    θ_run (Cert.MixDsa.defs (F := Bits)) (onTc (τ := Cert.MixDsa.τ) (Cert.MixDsa.main (F := Bits))) ⟨m, fun _ => 0, g⟩ (fun r => (∀ c : Dev Cert.MixDsa.nD,
      r.2.mem ((c.tc : Thread Cert.MixDsa.nD Cert.MixDsa.τ).loc Cert.MixDsa.main_arg0) = m ((c.tc : Thread Cert.MixDsa.nD Cert.MixDsa.τ).loc Cert.MixDsa.main_arg0)
      ∧ r.2.mem ((c.tc : Thread Cert.MixDsa.nD Cert.MixDsa.τ).loc Cert.MixDsa.main_arg1) = m ((c.tc : Thread Cert.MixDsa.nD Cert.MixDsa.τ).loc Cert.MixDsa.main_arg1)
      ∧ r.2.mem ((c.tc : Thread Cert.MixDsa.nD Cert.MixDsa.τ).loc Cert.MixDsa.main_arg2) = m ((c.tc : Thread Cert.MixDsa.nD Cert.MixDsa.τ).loc Cert.MixDsa.main_arg2)
      ∧ r.2.mem ((c.tc : Thread Cert.MixDsa.nD Cert.MixDsa.τ).loc Cert.MixDsa.main_arg3) = m ((c.tc : Thread Cert.MixDsa.nD Cert.MixDsa.τ).loc Cert.MixDsa.main_arg3)
      ∧ r.2.mem ((c.tc : Thread Cert.MixDsa.nD Cert.MixDsa.τ).loc Cert.MixDsa.main_arg4) = m ((c.tc : Thread Cert.MixDsa.nD Cert.MixDsa.τ).loc Cert.MixDsa.main_arg4)
      ∧ r.2.mem ((c.tc : Thread Cert.MixDsa.nD Cert.MixDsa.τ).loc Cert.MixDsa.main_arg5) = m ((c.tc : Thread Cert.MixDsa.nD Cert.MixDsa.τ).loc Cert.MixDsa.main_arg5)
      ∧ r.2.mem ((c.tc : Thread Cert.MixDsa.nD Cert.MixDsa.τ).loc Cert.MixDsa.main_arg6) = m ((c.tc : Thread Cert.MixDsa.nD Cert.MixDsa.τ).loc Cert.MixDsa.main_arg6)
      ∧ r.2.mem ((c.tc : Thread Cert.MixDsa.nD Cert.MixDsa.τ).loc Cert.MixDsa.main_arg7) = m ((c.tc : Thread Cert.MixDsa.nD Cert.MixDsa.τ).loc Cert.MixDsa.main_arg7)
      ∧ r.2.mem ((c.tc : Thread Cert.MixDsa.nD Cert.MixDsa.τ).loc Cert.MixDsa.main_arg8) = m ((c.tc : Thread Cert.MixDsa.nD Cert.MixDsa.τ).loc Cert.MixDsa.main_arg8))
      ∧ r.2.sem = fun _ => 0)

def quiescent_MixDsaIdeal [hMixDsaIdeal : Cert.MixDsaIdeal.Facts] : Prop :=
  ∀ (m : (ℓ : Loc Cert.MixDsaIdeal.nD Cert.MixDsaIdeal.τ Cert.MixDsaIdeal.sig) → Buf (Elt Ideal) ℓ) (g : Dev Cert.MixDsaIdeal.nD → PrngReg), Pre_MixDsaIdeal m →
    θ_run (Cert.MixDsaIdeal.defs (F := Ideal)) (onTc (τ := Cert.MixDsaIdeal.τ) (Cert.MixDsaIdeal.main (F := Ideal))) ⟨m, fun _ => 0, g⟩ (fun r => (∀ c : Dev Cert.MixDsaIdeal.nD,
      r.2.mem ((c.tc : Thread Cert.MixDsaIdeal.nD Cert.MixDsaIdeal.τ).loc Cert.MixDsaIdeal.main_arg0) = m ((c.tc : Thread Cert.MixDsaIdeal.nD Cert.MixDsaIdeal.τ).loc Cert.MixDsaIdeal.main_arg0)
      ∧ r.2.mem ((c.tc : Thread Cert.MixDsaIdeal.nD Cert.MixDsaIdeal.τ).loc Cert.MixDsaIdeal.main_arg1) = m ((c.tc : Thread Cert.MixDsaIdeal.nD Cert.MixDsaIdeal.τ).loc Cert.MixDsaIdeal.main_arg1)
      ∧ r.2.mem ((c.tc : Thread Cert.MixDsaIdeal.nD Cert.MixDsaIdeal.τ).loc Cert.MixDsaIdeal.main_arg2) = m ((c.tc : Thread Cert.MixDsaIdeal.nD Cert.MixDsaIdeal.τ).loc Cert.MixDsaIdeal.main_arg2)
      ∧ r.2.mem ((c.tc : Thread Cert.MixDsaIdeal.nD Cert.MixDsaIdeal.τ).loc Cert.MixDsaIdeal.main_arg3) = m ((c.tc : Thread Cert.MixDsaIdeal.nD Cert.MixDsaIdeal.τ).loc Cert.MixDsaIdeal.main_arg3)
      ∧ r.2.mem ((c.tc : Thread Cert.MixDsaIdeal.nD Cert.MixDsaIdeal.τ).loc Cert.MixDsaIdeal.main_arg4) = m ((c.tc : Thread Cert.MixDsaIdeal.nD Cert.MixDsaIdeal.τ).loc Cert.MixDsaIdeal.main_arg4)
      ∧ r.2.mem ((c.tc : Thread Cert.MixDsaIdeal.nD Cert.MixDsaIdeal.τ).loc Cert.MixDsaIdeal.main_arg5) = m ((c.tc : Thread Cert.MixDsaIdeal.nD Cert.MixDsaIdeal.τ).loc Cert.MixDsaIdeal.main_arg5)
      ∧ r.2.mem ((c.tc : Thread Cert.MixDsaIdeal.nD Cert.MixDsaIdeal.τ).loc Cert.MixDsaIdeal.main_arg6) = m ((c.tc : Thread Cert.MixDsaIdeal.nD Cert.MixDsaIdeal.τ).loc Cert.MixDsaIdeal.main_arg6)
      ∧ r.2.mem ((c.tc : Thread Cert.MixDsaIdeal.nD Cert.MixDsaIdeal.τ).loc Cert.MixDsaIdeal.main_arg7) = m ((c.tc : Thread Cert.MixDsaIdeal.nD Cert.MixDsaIdeal.τ).loc Cert.MixDsaIdeal.main_arg7)
      ∧ r.2.mem ((c.tc : Thread Cert.MixDsaIdeal.nD Cert.MixDsaIdeal.τ).loc Cert.MixDsaIdeal.main_arg8) = m ((c.tc : Thread Cert.MixDsaIdeal.nD Cert.MixDsaIdeal.τ).loc Cert.MixDsaIdeal.main_arg8))
      ∧ r.2.sem = fun _ => 0)

def quiescent_MixPre [hMixPre : Cert.MixPre.Facts] : Prop :=
  ∀ (m : (ℓ : Loc Cert.MixPre.nD Cert.MixPre.τ Cert.MixPre.sig) → Buf (Elt Bits) ℓ) (g : Dev Cert.MixPre.nD → PrngReg), Pre_MixPre m →
    θ_run (Cert.MixPre.defs (F := Bits)) (onTc (τ := Cert.MixPre.τ) (Cert.MixPre.main (F := Bits))) ⟨m, fun _ => 0, g⟩ (fun r => (∀ c : Dev Cert.MixPre.nD,
      r.2.mem ((c.tc : Thread Cert.MixPre.nD Cert.MixPre.τ).loc Cert.MixPre.main_arg0) = m ((c.tc : Thread Cert.MixPre.nD Cert.MixPre.τ).loc Cert.MixPre.main_arg0)
      ∧ r.2.mem ((c.tc : Thread Cert.MixPre.nD Cert.MixPre.τ).loc Cert.MixPre.main_arg1) = m ((c.tc : Thread Cert.MixPre.nD Cert.MixPre.τ).loc Cert.MixPre.main_arg1)
      ∧ r.2.mem ((c.tc : Thread Cert.MixPre.nD Cert.MixPre.τ).loc Cert.MixPre.main_arg2) = m ((c.tc : Thread Cert.MixPre.nD Cert.MixPre.τ).loc Cert.MixPre.main_arg2)
      ∧ r.2.mem ((c.tc : Thread Cert.MixPre.nD Cert.MixPre.τ).loc Cert.MixPre.main_arg3) = m ((c.tc : Thread Cert.MixPre.nD Cert.MixPre.τ).loc Cert.MixPre.main_arg3)
      ∧ r.2.mem ((c.tc : Thread Cert.MixPre.nD Cert.MixPre.τ).loc Cert.MixPre.main_arg4) = m ((c.tc : Thread Cert.MixPre.nD Cert.MixPre.τ).loc Cert.MixPre.main_arg4)
      ∧ r.2.mem ((c.tc : Thread Cert.MixPre.nD Cert.MixPre.τ).loc Cert.MixPre.main_arg5) = m ((c.tc : Thread Cert.MixPre.nD Cert.MixPre.τ).loc Cert.MixPre.main_arg5)
      ∧ r.2.mem ((c.tc : Thread Cert.MixPre.nD Cert.MixPre.τ).loc Cert.MixPre.main_arg6) = m ((c.tc : Thread Cert.MixPre.nD Cert.MixPre.τ).loc Cert.MixPre.main_arg6)
      ∧ r.2.mem ((c.tc : Thread Cert.MixPre.nD Cert.MixPre.τ).loc Cert.MixPre.main_arg7) = m ((c.tc : Thread Cert.MixPre.nD Cert.MixPre.τ).loc Cert.MixPre.main_arg7)
      ∧ r.2.mem ((c.tc : Thread Cert.MixPre.nD Cert.MixPre.τ).loc Cert.MixPre.main_arg8) = m ((c.tc : Thread Cert.MixPre.nD Cert.MixPre.τ).loc Cert.MixPre.main_arg8)
      ∧ r.2.mem ((c.tc : Thread Cert.MixPre.nD Cert.MixPre.τ).loc Cert.MixPre.main_arg9) = m ((c.tc : Thread Cert.MixPre.nD Cert.MixPre.τ).loc Cert.MixPre.main_arg9)
      ∧ r.2.mem ((c.tc : Thread Cert.MixPre.nD Cert.MixPre.τ).loc Cert.MixPre.main_arg10) = m ((c.tc : Thread Cert.MixPre.nD Cert.MixPre.τ).loc Cert.MixPre.main_arg10)
      ∧ r.2.mem ((c.tc : Thread Cert.MixPre.nD Cert.MixPre.τ).loc Cert.MixPre.main_arg11) = m ((c.tc : Thread Cert.MixPre.nD Cert.MixPre.τ).loc Cert.MixPre.main_arg11)
      ∧ r.2.mem ((c.tc : Thread Cert.MixPre.nD Cert.MixPre.τ).loc Cert.MixPre.main_arg12) = m ((c.tc : Thread Cert.MixPre.nD Cert.MixPre.τ).loc Cert.MixPre.main_arg12)
      ∧ r.2.mem ((c.tc : Thread Cert.MixPre.nD Cert.MixPre.τ).loc Cert.MixPre.main_arg13) = m ((c.tc : Thread Cert.MixPre.nD Cert.MixPre.τ).loc Cert.MixPre.main_arg13)
      ∧ r.2.mem ((c.tc : Thread Cert.MixPre.nD Cert.MixPre.τ).loc Cert.MixPre.main_arg14) = m ((c.tc : Thread Cert.MixPre.nD Cert.MixPre.τ).loc Cert.MixPre.main_arg14)
      ∧ r.2.mem ((c.tc : Thread Cert.MixPre.nD Cert.MixPre.τ).loc Cert.MixPre.main_arg15) = m ((c.tc : Thread Cert.MixPre.nD Cert.MixPre.τ).loc Cert.MixPre.main_arg15))
      ∧ r.2.sem = fun _ => 0)

def quiescent_MixPreIdeal [hMixPreIdeal : Cert.MixPreIdeal.Facts] : Prop :=
  ∀ (m : (ℓ : Loc Cert.MixPreIdeal.nD Cert.MixPreIdeal.τ Cert.MixPreIdeal.sig) → Buf (Elt Ideal) ℓ) (g : Dev Cert.MixPreIdeal.nD → PrngReg), Pre_MixPreIdeal m →
    θ_run (Cert.MixPreIdeal.defs (F := Ideal)) (onTc (τ := Cert.MixPreIdeal.τ) (Cert.MixPreIdeal.main (F := Ideal))) ⟨m, fun _ => 0, g⟩ (fun r => (∀ c : Dev Cert.MixPreIdeal.nD,
      r.2.mem ((c.tc : Thread Cert.MixPreIdeal.nD Cert.MixPreIdeal.τ).loc Cert.MixPreIdeal.main_arg0) = m ((c.tc : Thread Cert.MixPreIdeal.nD Cert.MixPreIdeal.τ).loc Cert.MixPreIdeal.main_arg0)
      ∧ r.2.mem ((c.tc : Thread Cert.MixPreIdeal.nD Cert.MixPreIdeal.τ).loc Cert.MixPreIdeal.main_arg1) = m ((c.tc : Thread Cert.MixPreIdeal.nD Cert.MixPreIdeal.τ).loc Cert.MixPreIdeal.main_arg1)
      ∧ r.2.mem ((c.tc : Thread Cert.MixPreIdeal.nD Cert.MixPreIdeal.τ).loc Cert.MixPreIdeal.main_arg2) = m ((c.tc : Thread Cert.MixPreIdeal.nD Cert.MixPreIdeal.τ).loc Cert.MixPreIdeal.main_arg2)
      ∧ r.2.mem ((c.tc : Thread Cert.MixPreIdeal.nD Cert.MixPreIdeal.τ).loc Cert.MixPreIdeal.main_arg3) = m ((c.tc : Thread Cert.MixPreIdeal.nD Cert.MixPreIdeal.τ).loc Cert.MixPreIdeal.main_arg3)
      ∧ r.2.mem ((c.tc : Thread Cert.MixPreIdeal.nD Cert.MixPreIdeal.τ).loc Cert.MixPreIdeal.main_arg4) = m ((c.tc : Thread Cert.MixPreIdeal.nD Cert.MixPreIdeal.τ).loc Cert.MixPreIdeal.main_arg4)
      ∧ r.2.mem ((c.tc : Thread Cert.MixPreIdeal.nD Cert.MixPreIdeal.τ).loc Cert.MixPreIdeal.main_arg5) = m ((c.tc : Thread Cert.MixPreIdeal.nD Cert.MixPreIdeal.τ).loc Cert.MixPreIdeal.main_arg5)
      ∧ r.2.mem ((c.tc : Thread Cert.MixPreIdeal.nD Cert.MixPreIdeal.τ).loc Cert.MixPreIdeal.main_arg6) = m ((c.tc : Thread Cert.MixPreIdeal.nD Cert.MixPreIdeal.τ).loc Cert.MixPreIdeal.main_arg6)
      ∧ r.2.mem ((c.tc : Thread Cert.MixPreIdeal.nD Cert.MixPreIdeal.τ).loc Cert.MixPreIdeal.main_arg7) = m ((c.tc : Thread Cert.MixPreIdeal.nD Cert.MixPreIdeal.τ).loc Cert.MixPreIdeal.main_arg7)
      ∧ r.2.mem ((c.tc : Thread Cert.MixPreIdeal.nD Cert.MixPreIdeal.τ).loc Cert.MixPreIdeal.main_arg8) = m ((c.tc : Thread Cert.MixPreIdeal.nD Cert.MixPreIdeal.τ).loc Cert.MixPreIdeal.main_arg8)
      ∧ r.2.mem ((c.tc : Thread Cert.MixPreIdeal.nD Cert.MixPreIdeal.τ).loc Cert.MixPreIdeal.main_arg9) = m ((c.tc : Thread Cert.MixPreIdeal.nD Cert.MixPreIdeal.τ).loc Cert.MixPreIdeal.main_arg9)
      ∧ r.2.mem ((c.tc : Thread Cert.MixPreIdeal.nD Cert.MixPreIdeal.τ).loc Cert.MixPreIdeal.main_arg10) = m ((c.tc : Thread Cert.MixPreIdeal.nD Cert.MixPreIdeal.τ).loc Cert.MixPreIdeal.main_arg10)
      ∧ r.2.mem ((c.tc : Thread Cert.MixPreIdeal.nD Cert.MixPreIdeal.τ).loc Cert.MixPreIdeal.main_arg11) = m ((c.tc : Thread Cert.MixPreIdeal.nD Cert.MixPreIdeal.τ).loc Cert.MixPreIdeal.main_arg11)
      ∧ r.2.mem ((c.tc : Thread Cert.MixPreIdeal.nD Cert.MixPreIdeal.τ).loc Cert.MixPreIdeal.main_arg12) = m ((c.tc : Thread Cert.MixPreIdeal.nD Cert.MixPreIdeal.τ).loc Cert.MixPreIdeal.main_arg12)
      ∧ r.2.mem ((c.tc : Thread Cert.MixPreIdeal.nD Cert.MixPreIdeal.τ).loc Cert.MixPreIdeal.main_arg13) = m ((c.tc : Thread Cert.MixPreIdeal.nD Cert.MixPreIdeal.τ).loc Cert.MixPreIdeal.main_arg13)
      ∧ r.2.mem ((c.tc : Thread Cert.MixPreIdeal.nD Cert.MixPreIdeal.τ).loc Cert.MixPreIdeal.main_arg14) = m ((c.tc : Thread Cert.MixPreIdeal.nD Cert.MixPreIdeal.τ).loc Cert.MixPreIdeal.main_arg14)
      ∧ r.2.mem ((c.tc : Thread Cert.MixPreIdeal.nD Cert.MixPreIdeal.τ).loc Cert.MixPreIdeal.main_arg15) = m ((c.tc : Thread Cert.MixPreIdeal.nD Cert.MixPreIdeal.τ).loc Cert.MixPreIdeal.main_arg15))
      ∧ r.2.sem = fun _ => 0)

def quiescent_MixPreRefIdeal [hMixPreRefIdeal : Cert.MixPreRefIdeal.Facts] : Prop :=
  ∀ (m : (ℓ : Loc Cert.MixPreRefIdeal.nD Cert.MixPreRefIdeal.τ Cert.MixPreRefIdeal.sig) → Buf (Elt Ideal) ℓ) (g : Dev Cert.MixPreRefIdeal.nD → PrngReg), Pre_MixPreRefIdeal m →
    θ_run (Cert.MixPreRefIdeal.defs (F := Ideal)) (onTc (τ := Cert.MixPreRefIdeal.τ) (Cert.MixPreRefIdeal.main (F := Ideal))) ⟨m, fun _ => 0, g⟩ (fun r => (∀ c : Dev Cert.MixPreRefIdeal.nD,
      r.2.mem ((c.tc : Thread Cert.MixPreRefIdeal.nD Cert.MixPreRefIdeal.τ).loc Cert.MixPreRefIdeal.main_arg0) = m ((c.tc : Thread Cert.MixPreRefIdeal.nD Cert.MixPreRefIdeal.τ).loc Cert.MixPreRefIdeal.main_arg0)
      ∧ r.2.mem ((c.tc : Thread Cert.MixPreRefIdeal.nD Cert.MixPreRefIdeal.τ).loc Cert.MixPreRefIdeal.main_arg1) = m ((c.tc : Thread Cert.MixPreRefIdeal.nD Cert.MixPreRefIdeal.τ).loc Cert.MixPreRefIdeal.main_arg1)
      ∧ r.2.mem ((c.tc : Thread Cert.MixPreRefIdeal.nD Cert.MixPreRefIdeal.τ).loc Cert.MixPreRefIdeal.main_arg2) = m ((c.tc : Thread Cert.MixPreRefIdeal.nD Cert.MixPreRefIdeal.τ).loc Cert.MixPreRefIdeal.main_arg2)
      ∧ r.2.mem ((c.tc : Thread Cert.MixPreRefIdeal.nD Cert.MixPreRefIdeal.τ).loc Cert.MixPreRefIdeal.main_arg3) = m ((c.tc : Thread Cert.MixPreRefIdeal.nD Cert.MixPreRefIdeal.τ).loc Cert.MixPreRefIdeal.main_arg3)
      ∧ r.2.mem ((c.tc : Thread Cert.MixPreRefIdeal.nD Cert.MixPreRefIdeal.τ).loc Cert.MixPreRefIdeal.main_arg4) = m ((c.tc : Thread Cert.MixPreRefIdeal.nD Cert.MixPreRefIdeal.τ).loc Cert.MixPreRefIdeal.main_arg4)
      ∧ r.2.mem ((c.tc : Thread Cert.MixPreRefIdeal.nD Cert.MixPreRefIdeal.τ).loc Cert.MixPreRefIdeal.main_arg5) = m ((c.tc : Thread Cert.MixPreRefIdeal.nD Cert.MixPreRefIdeal.τ).loc Cert.MixPreRefIdeal.main_arg5)
      ∧ r.2.mem ((c.tc : Thread Cert.MixPreRefIdeal.nD Cert.MixPreRefIdeal.τ).loc Cert.MixPreRefIdeal.main_arg6) = m ((c.tc : Thread Cert.MixPreRefIdeal.nD Cert.MixPreRefIdeal.τ).loc Cert.MixPreRefIdeal.main_arg6)
      ∧ r.2.mem ((c.tc : Thread Cert.MixPreRefIdeal.nD Cert.MixPreRefIdeal.τ).loc Cert.MixPreRefIdeal.main_arg7) = m ((c.tc : Thread Cert.MixPreRefIdeal.nD Cert.MixPreRefIdeal.τ).loc Cert.MixPreRefIdeal.main_arg7)
      ∧ r.2.mem ((c.tc : Thread Cert.MixPreRefIdeal.nD Cert.MixPreRefIdeal.τ).loc Cert.MixPreRefIdeal.main_arg8) = m ((c.tc : Thread Cert.MixPreRefIdeal.nD Cert.MixPreRefIdeal.τ).loc Cert.MixPreRefIdeal.main_arg8)
      ∧ r.2.mem ((c.tc : Thread Cert.MixPreRefIdeal.nD Cert.MixPreRefIdeal.τ).loc Cert.MixPreRefIdeal.main_arg9) = m ((c.tc : Thread Cert.MixPreRefIdeal.nD Cert.MixPreRefIdeal.τ).loc Cert.MixPreRefIdeal.main_arg9)
      ∧ r.2.mem ((c.tc : Thread Cert.MixPreRefIdeal.nD Cert.MixPreRefIdeal.τ).loc Cert.MixPreRefIdeal.main_arg10) = m ((c.tc : Thread Cert.MixPreRefIdeal.nD Cert.MixPreRefIdeal.τ).loc Cert.MixPreRefIdeal.main_arg10)
      ∧ r.2.mem ((c.tc : Thread Cert.MixPreRefIdeal.nD Cert.MixPreRefIdeal.τ).loc Cert.MixPreRefIdeal.main_arg11) = m ((c.tc : Thread Cert.MixPreRefIdeal.nD Cert.MixPreRefIdeal.τ).loc Cert.MixPreRefIdeal.main_arg11)
      ∧ r.2.mem ((c.tc : Thread Cert.MixPreRefIdeal.nD Cert.MixPreRefIdeal.τ).loc Cert.MixPreRefIdeal.main_arg12) = m ((c.tc : Thread Cert.MixPreRefIdeal.nD Cert.MixPreRefIdeal.τ).loc Cert.MixPreRefIdeal.main_arg12)
      ∧ r.2.mem ((c.tc : Thread Cert.MixPreRefIdeal.nD Cert.MixPreRefIdeal.τ).loc Cert.MixPreRefIdeal.main_arg13) = m ((c.tc : Thread Cert.MixPreRefIdeal.nD Cert.MixPreRefIdeal.τ).loc Cert.MixPreRefIdeal.main_arg13)
      ∧ r.2.mem ((c.tc : Thread Cert.MixPreRefIdeal.nD Cert.MixPreRefIdeal.τ).loc Cert.MixPreRefIdeal.main_arg14) = m ((c.tc : Thread Cert.MixPreRefIdeal.nD Cert.MixPreRefIdeal.τ).loc Cert.MixPreRefIdeal.main_arg14)
      ∧ r.2.mem ((c.tc : Thread Cert.MixPreRefIdeal.nD Cert.MixPreRefIdeal.τ).loc Cert.MixPreRefIdeal.main_arg15) = m ((c.tc : Thread Cert.MixPreRefIdeal.nD Cert.MixPreRefIdeal.τ).loc Cert.MixPreRefIdeal.main_arg15))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v39) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)) →
    ∃ (v0 : (c : Dev Cert.PostIdeal.nD) → Buf (Elt Ideal) ((c.tc : Thread Cert.PostIdeal.nD Cert.PostIdeal.τ).loc Cert.PostIdeal.main_v17)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v17) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v65) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10))

def preserves_MixDsa_MixDsaIdeal : Prop :=
  True

def preserves_MixPre_MixPreIdeal : Prop :=
  True

def algebraic_MixPreIdeal_MixPreRefIdeal [hMixPreIdeal : Cert.MixPreIdeal.Facts] [hMixPreRefIdeal : Cert.MixPreRefIdeal.Facts] : Prop :=
  ∀ (m : (ℓ : Loc Cert.MixPreIdeal.nD Cert.MixPreIdeal.τ Cert.MixPreIdeal.sig) → Buf (Elt Ideal) ℓ) (g : Dev Cert.MixPreIdeal.nD → PrngReg)
    (m' : (ℓ : Loc Cert.MixPreRefIdeal.nD Cert.MixPreRefIdeal.τ Cert.MixPreRefIdeal.sig) → Buf (Elt Ideal) ℓ) (g' : Dev Cert.MixPreRefIdeal.nD → PrngReg), Pre_MixPreIdeal m →
    (∀ c : Dev Cert.MixPreIdeal.nD,
      m' ((c.tc : Thread Cert.MixPreRefIdeal.nD Cert.MixPreRefIdeal.τ).loc Cert.MixPreRefIdeal.main_arg0) = m ((c.tc : Thread Cert.MixPreIdeal.nD Cert.MixPreIdeal.τ).loc Cert.MixPreIdeal.main_arg0)
      ∧ m' ((c.tc : Thread Cert.MixPreRefIdeal.nD Cert.MixPreRefIdeal.τ).loc Cert.MixPreRefIdeal.main_arg1) = m ((c.tc : Thread Cert.MixPreIdeal.nD Cert.MixPreIdeal.τ).loc Cert.MixPreIdeal.main_arg1)
      ∧ m' ((c.tc : Thread Cert.MixPreRefIdeal.nD Cert.MixPreRefIdeal.τ).loc Cert.MixPreRefIdeal.main_arg2) = m ((c.tc : Thread Cert.MixPreIdeal.nD Cert.MixPreIdeal.τ).loc Cert.MixPreIdeal.main_arg2)
      ∧ m' ((c.tc : Thread Cert.MixPreRefIdeal.nD Cert.MixPreRefIdeal.τ).loc Cert.MixPreRefIdeal.main_arg3) = m ((c.tc : Thread Cert.MixPreIdeal.nD Cert.MixPreIdeal.τ).loc Cert.MixPreIdeal.main_arg3)
      ∧ m' ((c.tc : Thread Cert.MixPreRefIdeal.nD Cert.MixPreRefIdeal.τ).loc Cert.MixPreRefIdeal.main_arg4) = m ((c.tc : Thread Cert.MixPreIdeal.nD Cert.MixPreIdeal.τ).loc Cert.MixPreIdeal.main_arg4)
      ∧ m' ((c.tc : Thread Cert.MixPreRefIdeal.nD Cert.MixPreRefIdeal.τ).loc Cert.MixPreRefIdeal.main_arg5) = m ((c.tc : Thread Cert.MixPreIdeal.nD Cert.MixPreIdeal.τ).loc Cert.MixPreIdeal.main_arg5)
      ∧ m' ((c.tc : Thread Cert.MixPreRefIdeal.nD Cert.MixPreRefIdeal.τ).loc Cert.MixPreRefIdeal.main_arg6) = m ((c.tc : Thread Cert.MixPreIdeal.nD Cert.MixPreIdeal.τ).loc Cert.MixPreIdeal.main_arg6)
      ∧ m' ((c.tc : Thread Cert.MixPreRefIdeal.nD Cert.MixPreRefIdeal.τ).loc Cert.MixPreRefIdeal.main_arg7) = m ((c.tc : Thread Cert.MixPreIdeal.nD Cert.MixPreIdeal.τ).loc Cert.MixPreIdeal.main_arg7)
      ∧ m' ((c.tc : Thread Cert.MixPreRefIdeal.nD Cert.MixPreRefIdeal.τ).loc Cert.MixPreRefIdeal.main_arg8) = m ((c.tc : Thread Cert.MixPreIdeal.nD Cert.MixPreIdeal.τ).loc Cert.MixPreIdeal.main_arg8)
      ∧ m' ((c.tc : Thread Cert.MixPreRefIdeal.nD Cert.MixPreRefIdeal.τ).loc Cert.MixPreRefIdeal.main_arg9) = m ((c.tc : Thread Cert.MixPreIdeal.nD Cert.MixPreIdeal.τ).loc Cert.MixPreIdeal.main_arg9)
      ∧ m' ((c.tc : Thread Cert.MixPreRefIdeal.nD Cert.MixPreRefIdeal.τ).loc Cert.MixPreRefIdeal.main_arg10) = m ((c.tc : Thread Cert.MixPreIdeal.nD Cert.MixPreIdeal.τ).loc Cert.MixPreIdeal.main_arg10)
      ∧ m' ((c.tc : Thread Cert.MixPreRefIdeal.nD Cert.MixPreRefIdeal.τ).loc Cert.MixPreRefIdeal.main_arg11) = m ((c.tc : Thread Cert.MixPreIdeal.nD Cert.MixPreIdeal.τ).loc Cert.MixPreIdeal.main_arg11)
      ∧ m' ((c.tc : Thread Cert.MixPreRefIdeal.nD Cert.MixPreRefIdeal.τ).loc Cert.MixPreRefIdeal.main_arg12) = m ((c.tc : Thread Cert.MixPreIdeal.nD Cert.MixPreIdeal.τ).loc Cert.MixPreIdeal.main_arg12)
      ∧ m' ((c.tc : Thread Cert.MixPreRefIdeal.nD Cert.MixPreRefIdeal.τ).loc Cert.MixPreRefIdeal.main_arg13) = m ((c.tc : Thread Cert.MixPreIdeal.nD Cert.MixPreIdeal.τ).loc Cert.MixPreIdeal.main_arg13)
      ∧ m' ((c.tc : Thread Cert.MixPreRefIdeal.nD Cert.MixPreRefIdeal.τ).loc Cert.MixPreRefIdeal.main_arg14) = m ((c.tc : Thread Cert.MixPreIdeal.nD Cert.MixPreIdeal.τ).loc Cert.MixPreIdeal.main_arg14)
      ∧ m' ((c.tc : Thread Cert.MixPreRefIdeal.nD Cert.MixPreRefIdeal.τ).loc Cert.MixPreRefIdeal.main_arg15) = m ((c.tc : Thread Cert.MixPreIdeal.nD Cert.MixPreIdeal.τ).loc Cert.MixPreIdeal.main_arg15)) →
    ∃ (v0 : (c : Dev Cert.MixPreIdeal.nD) → Buf (Elt Ideal) ((c.tc : Thread Cert.MixPreIdeal.nD Cert.MixPreIdeal.τ).loc Cert.MixPreIdeal.main_v57_0)) (v1 : (c : Dev Cert.MixPreIdeal.nD) → Buf (Elt Ideal) ((c.tc : Thread Cert.MixPreIdeal.nD Cert.MixPreIdeal.τ).loc Cert.MixPreIdeal.main_v57_1)) (v2 : (c : Dev Cert.MixPreIdeal.nD) → Buf (Elt Ideal) ((c.tc : Thread Cert.MixPreIdeal.nD Cert.MixPreIdeal.τ).loc Cert.MixPreIdeal.main_v57_2)) (v3 : (c : Dev Cert.MixPreIdeal.nD) → Buf (Elt Ideal) ((c.tc : Thread Cert.MixPreIdeal.nD Cert.MixPreIdeal.τ).loc Cert.MixPreIdeal.main_v57_3)) (v4 : (c : Dev Cert.MixPreIdeal.nD) → Buf (Elt Ideal) ((c.tc : Thread Cert.MixPreIdeal.nD Cert.MixPreIdeal.τ).loc Cert.MixPreIdeal.main_v57_4)) (v5 : (c : Dev Cert.MixPreIdeal.nD) → Buf (Elt Ideal) ((c.tc : Thread Cert.MixPreIdeal.nD Cert.MixPreIdeal.τ).loc Cert.MixPreIdeal.main_v57_5)),
      θ_run (Cert.MixPreIdeal.defs (F := Ideal)) (onTc (τ := Cert.MixPreIdeal.τ) (Cert.MixPreIdeal.main (F := Ideal))) ⟨m, fun _ => 0, g⟩ (fun r => ∀ c : Dev Cert.MixPreIdeal.nD,
          r.2.mem ((c.tc : Thread Cert.MixPreIdeal.nD Cert.MixPreIdeal.τ).loc Cert.MixPreIdeal.main_v57_0) = v0 c
          ∧ r.2.mem ((c.tc : Thread Cert.MixPreIdeal.nD Cert.MixPreIdeal.τ).loc Cert.MixPreIdeal.main_v57_1) = v1 c
          ∧ r.2.mem ((c.tc : Thread Cert.MixPreIdeal.nD Cert.MixPreIdeal.τ).loc Cert.MixPreIdeal.main_v57_2) = v2 c
          ∧ r.2.mem ((c.tc : Thread Cert.MixPreIdeal.nD Cert.MixPreIdeal.τ).loc Cert.MixPreIdeal.main_v57_3) = v3 c
          ∧ r.2.mem ((c.tc : Thread Cert.MixPreIdeal.nD Cert.MixPreIdeal.τ).loc Cert.MixPreIdeal.main_v57_4) = v4 c
          ∧ r.2.mem ((c.tc : Thread Cert.MixPreIdeal.nD Cert.MixPreIdeal.τ).loc Cert.MixPreIdeal.main_v57_5) = v5 c
          ∧ r.2.mem ((c.tc : Thread Cert.MixPreIdeal.nD Cert.MixPreIdeal.τ).loc Cert.MixPreIdeal.main_arg0) = m ((c.tc : Thread Cert.MixPreIdeal.nD Cert.MixPreIdeal.τ).loc Cert.MixPreIdeal.main_arg0)
          ∧ r.2.mem ((c.tc : Thread Cert.MixPreIdeal.nD Cert.MixPreIdeal.τ).loc Cert.MixPreIdeal.main_arg1) = m ((c.tc : Thread Cert.MixPreIdeal.nD Cert.MixPreIdeal.τ).loc Cert.MixPreIdeal.main_arg1)
          ∧ r.2.mem ((c.tc : Thread Cert.MixPreIdeal.nD Cert.MixPreIdeal.τ).loc Cert.MixPreIdeal.main_arg2) = m ((c.tc : Thread Cert.MixPreIdeal.nD Cert.MixPreIdeal.τ).loc Cert.MixPreIdeal.main_arg2)
          ∧ r.2.mem ((c.tc : Thread Cert.MixPreIdeal.nD Cert.MixPreIdeal.τ).loc Cert.MixPreIdeal.main_arg3) = m ((c.tc : Thread Cert.MixPreIdeal.nD Cert.MixPreIdeal.τ).loc Cert.MixPreIdeal.main_arg3)
          ∧ r.2.mem ((c.tc : Thread Cert.MixPreIdeal.nD Cert.MixPreIdeal.τ).loc Cert.MixPreIdeal.main_arg4) = m ((c.tc : Thread Cert.MixPreIdeal.nD Cert.MixPreIdeal.τ).loc Cert.MixPreIdeal.main_arg4)
          ∧ r.2.mem ((c.tc : Thread Cert.MixPreIdeal.nD Cert.MixPreIdeal.τ).loc Cert.MixPreIdeal.main_arg5) = m ((c.tc : Thread Cert.MixPreIdeal.nD Cert.MixPreIdeal.τ).loc Cert.MixPreIdeal.main_arg5)
          ∧ r.2.mem ((c.tc : Thread Cert.MixPreIdeal.nD Cert.MixPreIdeal.τ).loc Cert.MixPreIdeal.main_arg6) = m ((c.tc : Thread Cert.MixPreIdeal.nD Cert.MixPreIdeal.τ).loc Cert.MixPreIdeal.main_arg6)
          ∧ r.2.mem ((c.tc : Thread Cert.MixPreIdeal.nD Cert.MixPreIdeal.τ).loc Cert.MixPreIdeal.main_arg7) = m ((c.tc : Thread Cert.MixPreIdeal.nD Cert.MixPreIdeal.τ).loc Cert.MixPreIdeal.main_arg7)
          ∧ r.2.mem ((c.tc : Thread Cert.MixPreIdeal.nD Cert.MixPreIdeal.τ).loc Cert.MixPreIdeal.main_arg8) = m ((c.tc : Thread Cert.MixPreIdeal.nD Cert.MixPreIdeal.τ).loc Cert.MixPreIdeal.main_arg8)
          ∧ r.2.mem ((c.tc : Thread Cert.MixPreIdeal.nD Cert.MixPreIdeal.τ).loc Cert.MixPreIdeal.main_arg9) = m ((c.tc : Thread Cert.MixPreIdeal.nD Cert.MixPreIdeal.τ).loc Cert.MixPreIdeal.main_arg9)
          ∧ r.2.mem ((c.tc : Thread Cert.MixPreIdeal.nD Cert.MixPreIdeal.τ).loc Cert.MixPreIdeal.main_arg10) = m ((c.tc : Thread Cert.MixPreIdeal.nD Cert.MixPreIdeal.τ).loc Cert.MixPreIdeal.main_arg10)
          ∧ r.2.mem ((c.tc : Thread Cert.MixPreIdeal.nD Cert.MixPreIdeal.τ).loc Cert.MixPreIdeal.main_arg11) = m ((c.tc : Thread Cert.MixPreIdeal.nD Cert.MixPreIdeal.τ).loc Cert.MixPreIdeal.main_arg11)
          ∧ r.2.mem ((c.tc : Thread Cert.MixPreIdeal.nD Cert.MixPreIdeal.τ).loc Cert.MixPreIdeal.main_arg12) = m ((c.tc : Thread Cert.MixPreIdeal.nD Cert.MixPreIdeal.τ).loc Cert.MixPreIdeal.main_arg12)
          ∧ r.2.mem ((c.tc : Thread Cert.MixPreIdeal.nD Cert.MixPreIdeal.τ).loc Cert.MixPreIdeal.main_arg13) = m ((c.tc : Thread Cert.MixPreIdeal.nD Cert.MixPreIdeal.τ).loc Cert.MixPreIdeal.main_arg13)
          ∧ r.2.mem ((c.tc : Thread Cert.MixPreIdeal.nD Cert.MixPreIdeal.τ).loc Cert.MixPreIdeal.main_arg14) = m ((c.tc : Thread Cert.MixPreIdeal.nD Cert.MixPreIdeal.τ).loc Cert.MixPreIdeal.main_arg14)
          ∧ r.2.mem ((c.tc : Thread Cert.MixPreIdeal.nD Cert.MixPreIdeal.τ).loc Cert.MixPreIdeal.main_arg15) = m ((c.tc : Thread Cert.MixPreIdeal.nD Cert.MixPreIdeal.τ).loc Cert.MixPreIdeal.main_arg15))
      ∧ θ_run (Cert.MixPreRefIdeal.defs (F := Ideal)) (onTc (τ := Cert.MixPreRefIdeal.τ) (Cert.MixPreRefIdeal.main (F := Ideal))) ⟨m', fun _ => 0, g'⟩ (fun r => ∀ c : Dev Cert.MixPreRefIdeal.nD,
          r.2.mem ((c.tc : Thread Cert.MixPreRefIdeal.nD Cert.MixPreRefIdeal.τ).loc Cert.MixPreRefIdeal.main_v37) = v0 c
          ∧ r.2.mem ((c.tc : Thread Cert.MixPreRefIdeal.nD Cert.MixPreRefIdeal.τ).loc Cert.MixPreRefIdeal.main_v52) = v1 c
          ∧ r.2.mem ((c.tc : Thread Cert.MixPreRefIdeal.nD Cert.MixPreRefIdeal.τ).loc Cert.MixPreRefIdeal.main_v89) = v2 c
          ∧ r.2.mem ((c.tc : Thread Cert.MixPreRefIdeal.nD Cert.MixPreRefIdeal.τ).loc Cert.MixPreRefIdeal.main_v77) = v3 c
          ∧ r.2.mem ((c.tc : Thread Cert.MixPreRefIdeal.nD Cert.MixPreRefIdeal.τ).loc Cert.MixPreRefIdeal.main_v93) = v4 c
          ∧ r.2.mem ((c.tc : Thread Cert.MixPreRefIdeal.nD Cert.MixPreRefIdeal.τ).loc Cert.MixPreRefIdeal.main_v85) = v5 c
          ∧ r.2.mem ((c.tc : Thread Cert.MixPreRefIdeal.nD Cert.MixPreRefIdeal.τ).loc Cert.MixPreRefIdeal.main_arg0) = m' ((c.tc : Thread Cert.MixPreRefIdeal.nD Cert.MixPreRefIdeal.τ).loc Cert.MixPreRefIdeal.main_arg0)
          ∧ r.2.mem ((c.tc : Thread Cert.MixPreRefIdeal.nD Cert.MixPreRefIdeal.τ).loc Cert.MixPreRefIdeal.main_arg1) = m' ((c.tc : Thread Cert.MixPreRefIdeal.nD Cert.MixPreRefIdeal.τ).loc Cert.MixPreRefIdeal.main_arg1)
          ∧ r.2.mem ((c.tc : Thread Cert.MixPreRefIdeal.nD Cert.MixPreRefIdeal.τ).loc Cert.MixPreRefIdeal.main_arg2) = m' ((c.tc : Thread Cert.MixPreRefIdeal.nD Cert.MixPreRefIdeal.τ).loc Cert.MixPreRefIdeal.main_arg2)
          ∧ r.2.mem ((c.tc : Thread Cert.MixPreRefIdeal.nD Cert.MixPreRefIdeal.τ).loc Cert.MixPreRefIdeal.main_arg3) = m' ((c.tc : Thread Cert.MixPreRefIdeal.nD Cert.MixPreRefIdeal.τ).loc Cert.MixPreRefIdeal.main_arg3)
          ∧ r.2.mem ((c.tc : Thread Cert.MixPreRefIdeal.nD Cert.MixPreRefIdeal.τ).loc Cert.MixPreRefIdeal.main_arg4) = m' ((c.tc : Thread Cert.MixPreRefIdeal.nD Cert.MixPreRefIdeal.τ).loc Cert.MixPreRefIdeal.main_arg4)
          ∧ r.2.mem ((c.tc : Thread Cert.MixPreRefIdeal.nD Cert.MixPreRefIdeal.τ).loc Cert.MixPreRefIdeal.main_arg5) = m' ((c.tc : Thread Cert.MixPreRefIdeal.nD Cert.MixPreRefIdeal.τ).loc Cert.MixPreRefIdeal.main_arg5)
          ∧ r.2.mem ((c.tc : Thread Cert.MixPreRefIdeal.nD Cert.MixPreRefIdeal.τ).loc Cert.MixPreRefIdeal.main_arg6) = m' ((c.tc : Thread Cert.MixPreRefIdeal.nD Cert.MixPreRefIdeal.τ).loc Cert.MixPreRefIdeal.main_arg6)
          ∧ r.2.mem ((c.tc : Thread Cert.MixPreRefIdeal.nD Cert.MixPreRefIdeal.τ).loc Cert.MixPreRefIdeal.main_arg7) = m' ((c.tc : Thread Cert.MixPreRefIdeal.nD Cert.MixPreRefIdeal.τ).loc Cert.MixPreRefIdeal.main_arg7)
          ∧ r.2.mem ((c.tc : Thread Cert.MixPreRefIdeal.nD Cert.MixPreRefIdeal.τ).loc Cert.MixPreRefIdeal.main_arg8) = m' ((c.tc : Thread Cert.MixPreRefIdeal.nD Cert.MixPreRefIdeal.τ).loc Cert.MixPreRefIdeal.main_arg8)
          ∧ r.2.mem ((c.tc : Thread Cert.MixPreRefIdeal.nD Cert.MixPreRefIdeal.τ).loc Cert.MixPreRefIdeal.main_arg9) = m' ((c.tc : Thread Cert.MixPreRefIdeal.nD Cert.MixPreRefIdeal.τ).loc Cert.MixPreRefIdeal.main_arg9)
          ∧ r.2.mem ((c.tc : Thread Cert.MixPreRefIdeal.nD Cert.MixPreRefIdeal.τ).loc Cert.MixPreRefIdeal.main_arg10) = m' ((c.tc : Thread Cert.MixPreRefIdeal.nD Cert.MixPreRefIdeal.τ).loc Cert.MixPreRefIdeal.main_arg10)
          ∧ r.2.mem ((c.tc : Thread Cert.MixPreRefIdeal.nD Cert.MixPreRefIdeal.τ).loc Cert.MixPreRefIdeal.main_arg11) = m' ((c.tc : Thread Cert.MixPreRefIdeal.nD Cert.MixPreRefIdeal.τ).loc Cert.MixPreRefIdeal.main_arg11)
          ∧ r.2.mem ((c.tc : Thread Cert.MixPreRefIdeal.nD Cert.MixPreRefIdeal.τ).loc Cert.MixPreRefIdeal.main_arg12) = m' ((c.tc : Thread Cert.MixPreRefIdeal.nD Cert.MixPreRefIdeal.τ).loc Cert.MixPreRefIdeal.main_arg12)
          ∧ r.2.mem ((c.tc : Thread Cert.MixPreRefIdeal.nD Cert.MixPreRefIdeal.τ).loc Cert.MixPreRefIdeal.main_arg13) = m' ((c.tc : Thread Cert.MixPreRefIdeal.nD Cert.MixPreRefIdeal.τ).loc Cert.MixPreRefIdeal.main_arg13)
          ∧ r.2.mem ((c.tc : Thread Cert.MixPreRefIdeal.nD Cert.MixPreRefIdeal.τ).loc Cert.MixPreRefIdeal.main_arg14) = m' ((c.tc : Thread Cert.MixPreRefIdeal.nD Cert.MixPreRefIdeal.τ).loc Cert.MixPreRefIdeal.main_arg14)
          ∧ r.2.mem ((c.tc : Thread Cert.MixPreRefIdeal.nD Cert.MixPreRefIdeal.τ).loc Cert.MixPreRefIdeal.main_arg15) = m' ((c.tc : Thread Cert.MixPreRefIdeal.nD Cert.MixPreRefIdeal.τ).loc Cert.MixPreRefIdeal.main_arg15))

def Claim : Prop :=
  ∃ (hFfn : Cert.Ffn.Facts) (hFfnIdeal : Cert.FfnIdeal.Facts) (hFfnRefIdeal : Cert.FfnRefIdeal.Facts) (hPost : Cert.Post.Facts) (hPostIdeal : Cert.PostIdeal.Facts) (hPostRefIdeal : Cert.PostRefIdeal.Facts) (hMixDsa : Cert.MixDsa.Facts) (hMixDsaIdeal : Cert.MixDsaIdeal.Facts) (hMixPre : Cert.MixPre.Facts) (hMixPreIdeal : Cert.MixPreIdeal.Facts) (hMixPreRefIdeal : Cert.MixPreRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Post (hPost := hPost)
    ∧ quiescent_PostIdeal (hPostIdeal := hPostIdeal)
    ∧ quiescent_PostRefIdeal (hPostRefIdeal := hPostRefIdeal)
    ∧ quiescent_MixDsa (hMixDsa := hMixDsa)
    ∧ quiescent_MixDsaIdeal (hMixDsaIdeal := hMixDsaIdeal)
    ∧ quiescent_MixPre (hMixPre := hMixPre)
    ∧ quiescent_MixPreIdeal (hMixPreIdeal := hMixPreIdeal)
    ∧ quiescent_MixPreRefIdeal (hMixPreRefIdeal := hMixPreRefIdeal)
    ∧ preserves_Ffn_FfnIdeal
    ∧ algebraic_FfnIdeal_FfnRefIdeal (hFfnIdeal := hFfnIdeal) (hFfnRefIdeal := hFfnRefIdeal)
    ∧ preserves_Post_PostIdeal
    ∧ algebraic_PostIdeal_PostRefIdeal (hPostIdeal := hPostIdeal) (hPostRefIdeal := hPostRefIdeal)
    ∧ preserves_MixDsa_MixDsaIdeal
    ∧ preserves_MixPre_MixPreIdeal
    ∧ algebraic_MixPreIdeal_MixPreRefIdeal (hMixPreIdeal := hMixPreIdeal) (hMixPreRefIdeal := hMixPreRefIdeal)
-- ==== Ffn.lean ====
abbrev S16x2048x1024 : Shape := ⟨3, ![16, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 15
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S32768x1024, .f32⟩
  | .hbm, ⟨6, _⟩ => ⟨S1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S1x1024, .f32⟩
  | .hbm, ⟨11, _⟩ => ⟨S1x1024, .f32⟩
  | .hbm, ⟨12, _⟩ => ⟨S1024x5632, .bf16⟩
  | .hbm, ⟨13, _⟩ => ⟨S2816x1024, .bf16⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16x2048x1024 : Shape := ⟨3, ![16, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S32768x5632 : Shape := ⟨2, ![32768, 5632]⟩
abbrev S32768x2816 : Shape := ⟨2, ![32768, 2816]⟩

abbrev nBuf : Space → Nat
  | .hbm => 60
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S32768x1024, .f32⟩
  | .hbm, ⟨6, _⟩ => ⟨S1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x5632, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S_, .f32⟩
  | .hbm, ⟨32, _⟩ => ⟨S32768x2816, .f32⟩
  | .hbm, ⟨33, _⟩ => ⟨S32768x2816, .f32⟩
  | .hbm, ⟨34, _⟩ => ⟨S_, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768x1024, .f32⟩
  | .hbm, ⟨58, _⟩ => ⟨S32768x1024, .f32⟩
  | .hbm, ⟨59, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Post.lean ====
abbrev S32768x1024 : Shape := ⟨2, ![32768, 1024]⟩
abbrev S16x2048x512 : Shape := ⟨3, ![16, 2048, 512]⟩
abbrev S16x2048x1024 : Shape := ⟨3, ![16, 2048, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S1024x1024 : Shape := ⟨2, ![1024, 1024]⟩
abbrev S1024 : Shape := ⟨1, ![1024]⟩
abbrev S32768x512 : Shape := ⟨2, ![32768, 512]⟩
abbrev S1024x5632 : Shape := ⟨2, ![1024, 5632]⟩
abbrev S2816x1024 : Shape := ⟨2, ![2816, 1024]⟩
abbrev S512x512 : Shape := ⟨2, ![512, 512]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 29
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S16x2048x512, .bf16⟩
  | .hbm, ⟨2, _⟩ => ⟨S16x2048x1024, .bf16⟩
  | .hbm, ⟨3, _⟩ => ⟨S16x2048x1024, .bf16⟩
  | .hbm, ⟨4, _⟩ => ⟨S1x512x1024, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024x5632, .f32⟩
  | .hbm, ⟨10, _⟩ => ⟨S1x2816x1024, .f32⟩
  | .hbm, ⟨11, _⟩ => ⟨S512x1024, .f32⟩
  | .hbm, ⟨12, _⟩ => ⟨S512x1024, .bf16⟩
  | .hbm, ⟨13, _⟩ => ⟨S1024x1024, .f32⟩
  | .hbm, ⟨14, _⟩ => ⟨S1024x1024, .bf16⟩
  | .hbm, ⟨15, _⟩ => ⟨S1024, .f32⟩
  | .hbm, ⟨16, _⟩ => ⟨S1x1024, .f32⟩
  | .hbm, ⟨17, _⟩ => ⟨S32768x512, .bf16⟩
  | .hbm, ⟨18, _⟩ => ⟨S32768x1024, .bf16⟩
  | .hbm, ⟨19, _⟩ => ⟨S32768x1024, .bf16⟩
  | .hbm, ⟨20, _⟩ => ⟨S1024, .f32⟩
  | .hbm, ⟨21, _⟩ => ⟨S1024, .f32⟩
  | .hbm, ⟨22, _⟩ => ⟨S1024x5632, .f32⟩
  | .hbm, ⟨23, _⟩ => ⟨S2816x1024, .f32⟩
  | .hbm, ⟨24, _⟩ => ⟨S1x1024, .f32⟩
  | .hbm, ⟨25, _⟩ => ⟨S1x1024, .f32⟩
  | .hbm, ⟨26, _⟩ => ⟨S1024x5632, .bf16⟩
  | .hbm, ⟨27, _⟩ => ⟨S2816x1024, .bf16⟩
  | .hbm, ⟨28, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x5632, .bf16⟩
  | .local _ .vmem, ⟨14, _⟩ => ⟨S2816x1024, .bf16⟩
  | .local _ .vmem, ⟨15, _⟩ => ⟨S512x1024, .f32⟩
  | .local _ .vmem, ⟨16, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PostRefIdeal.lean ====
abbrev S32768x1024 : Shape := ⟨2, ![32768, 1024]⟩
abbrev S16x2048x512 : Shape := ⟨3, ![16, 2048, 512]⟩
abbrev S16x2048x1024 : Shape := ⟨3, ![16, 2048, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S32768x512 : Shape := ⟨2, ![32768, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x5632 : Shape := ⟨2, ![1024, 5632]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 95
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x2048x512, .bf16⟩
  | .hbm, ⟨2, _⟩ => ⟨S16x2048x1024, .bf16⟩
  | .hbm, ⟨3, _⟩ => ⟨S16x2048x1024, .bf16⟩
  | .hbm, ⟨4, _⟩ => ⟨S1x512x1024, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024x5632, .f32⟩
  | .hbm, ⟨10, _⟩ => ⟨S1x2816x1024, .f32⟩
  | .hbm, ⟨11, _⟩ => ⟨S16x2048x512, .f32⟩
  | .hbm, ⟨12, _⟩ => ⟨S32768x512, .f32⟩
  | .hbm, ⟨13, _⟩ => ⟨S512x1024, .f32⟩
  | .hbm, ⟨14, _⟩ => ⟨S32768x1024, .f32⟩
  | .hbm, ⟨15, _⟩ => ⟨S16x2048x1024, .f32⟩
  | .hbm, ⟨16, _⟩ => ⟨S32768x1024, .f32⟩
  | .hbm, ⟨17, _⟩ => ⟨S32768x1024, .f32⟩
  | .hbm, ⟨18, _⟩ => ⟨S16x2048x1024, .f32⟩
  | .hbm, ⟨19, _⟩ => ⟨S32768x1024, .f32⟩
  | .hbm, ⟨20, _⟩ => ⟨S32768x1024, .f32⟩
  | .hbm, ⟨21, _⟩ => ⟨S1024x1024, .f32⟩
  | .hbm, ⟨22, _⟩ => ⟨S32768x1024, .f32⟩
  | .hbm, ⟨23, _⟩ => ⟨S1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S1024, .f32⟩
  | .hbm, ⟨42, _⟩ => ⟨S1024, .f32⟩
  | .hbm, ⟨43, _⟩ => ⟨S1024x5632, .f32⟩
  | .hbm, ⟨44, _⟩ => ⟨S2816x1024, .f32⟩
  | .hbm, ⟨45, _⟩ => ⟨S32768x1024, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x1024, .f32⟩
  | .hbm, ⟨57, _⟩ => ⟨S32768x1024, .f32⟩
  | .hbm, ⟨58, _⟩ => ⟨S1x1024, .f32⟩
  | .hbm, ⟨59, _⟩ => ⟨S32768x1024, .f32⟩
  | .hbm, ⟨60, _⟩ => ⟨S32768x1024, .f32⟩
  | .hbm, ⟨61, _⟩ => ⟨S32768x5632, .f32⟩
  | .hbm, ⟨62, _⟩ => ⟨S32768x2816, .f32⟩
  | .hbm, ⟨63, _⟩ => ⟨S32768x2816, .f32⟩
  | .hbm, ⟨64, _⟩ => ⟨S32768x2816, .f32⟩
  | .hbm, ⟨65, _⟩ => ⟨S32768x2816, .f32⟩
  | .hbm, ⟨66, _⟩ => ⟨S_, .f32⟩
  | .hbm, ⟨67, _⟩ => ⟨S32768x2816, .f32⟩
  | .hbm, ⟨68, _⟩ => ⟨S32768x2816, .f32⟩
  | .hbm, ⟨69, _⟩ => ⟨S_, .f32⟩
  | .hbm, ⟨70, _⟩ => ⟨S32768x2816, .f32⟩
  | .hbm, ⟨71, _⟩ => ⟨S32768x2816, .f32⟩
  | .hbm, ⟨72, _⟩ => ⟨S32768x2816, .f32⟩
  | .hbm, ⟨73, _⟩ => ⟨S32768x2816, .f32⟩
  | .hbm, ⟨74, _⟩ => ⟨S32768x1024, .f32⟩
  | .hbm, ⟨75, _⟩ => ⟨S32768x1024, .f32⟩
  | .hbm, ⟨76, _⟩ => ⟨S_, .f32⟩
  | .hbm, ⟨77, _⟩ => ⟨S32768, .f32⟩
  | .hbm, ⟨78, _⟩ => ⟨S32768x1, .f32⟩
  | .hbm, ⟨79, _⟩ => ⟨S_, .f32⟩
  | .hbm, ⟨80, _⟩ => ⟨S32768x1, .f32⟩
  | .hbm, ⟨81, _⟩ => ⟨S32768x1, .f32⟩
  | .hbm, ⟨82, _⟩ => ⟨S_, .f32⟩
  | .hbm, ⟨83, _⟩ => ⟨S32768x1, .f32⟩
  | .hbm, ⟨84, _⟩ => ⟨S32768x1, .f32⟩
  | .hbm, ⟨85, _⟩ => ⟨S32768x1, .f32⟩
  | .hbm, ⟨86, _⟩ => ⟨S32768x1024, .f32⟩
  | .hbm, ⟨87, _⟩ => ⟨S32768x1024, .f32⟩
  | .hbm, ⟨88, _⟩ => ⟨S1x1024, .f32⟩
  | .hbm, ⟨89, _⟩ => ⟨S32768x1024, .f32⟩
  | .hbm, ⟨90, _⟩ => ⟨S32768x1024, .f32⟩
  | .hbm, ⟨91, _⟩ => ⟨S_, .f32⟩
  | .hbm, ⟨92, _⟩ => ⟨S32768x1024, .f32⟩
  | .hbm, ⟨93, _⟩ => ⟨S32768x1024, .f32⟩
  | .hbm, ⟨94, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_5 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_cst_7 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_8 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩

abbrev nD : Nat := 1
abbrev τ : Topo := Topo.v7x

variable {F : FTy → Type} [FloatOps F]
-- ==== MixDsa.lean ====
abbrev S16x2048x256 : Shape := ⟨3, ![16, 2048, 256]⟩
abbrev S16x8x272x256 : Shape := ⟨4, ![16, 8, 272, 256]⟩
abbrev S16x2048x64 : Shape := ⟨3, ![16, 2048, 64]⟩
abbrev S16x8x2048 : Shape := ⟨3, ![16, 8, 2048]⟩
abbrev S256x256 : Shape := ⟨2, ![256, 256]⟩
abbrev S256x512 : Shape := ⟨2, ![256, 512]⟩
abbrev S256x8x64 : Shape := ⟨3, ![256, 8, 64]⟩
abbrev S512x256 : Shape := ⟨2, ![512, 256]⟩
abbrev S8x256x64 : Shape := ⟨3, ![8, 256, 64]⟩
abbrev S8x64x256 : Shape := ⟨3, ![8, 64, 256]⟩
abbrev S16x2048x512 : Shape := ⟨3, ![16, 2048, 512]⟩
abbrev S1x256x256 : Shape := ⟨3, ![1, 256, 256]⟩
abbrev S1x8x256 : Shape := ⟨3, ![1, 8, 256]⟩
abbrev S1x2048x256 : Shape := ⟨3, ![1, 2048, 256]⟩
abbrev S1x8x272x256 : Shape := ⟨4, ![1, 8, 272, 256]⟩
abbrev S1x2048x64 : Shape := ⟨3, ![1, 2048, 64]⟩
abbrev S1x256x512 : Shape := ⟨3, ![1, 256, 512]⟩
abbrev S2048x256 : Shape := ⟨2, ![2048, 256]⟩
abbrev S8x256x256 : Shape := ⟨3, ![8, 256, 256]⟩
abbrev S4x256x256 : Shape := ⟨3, ![4, 256, 256]⟩
abbrev S1x256 : Shape := ⟨2, ![1, 256]⟩
abbrev S8x256 : Shape := ⟨2, ![8, 256]⟩
abbrev S1x256x64 : Shape := ⟨3, ![1, 256, 64]⟩
abbrev S256x64 : Shape := ⟨2, ![256, 64]⟩
abbrev S64x256 : Shape := ⟨2, ![64, 256]⟩
abbrev S32x256 : Shape := ⟨2, ![32, 256]⟩
abbrev S8x32x256 : Shape := ⟨3, ![8, 32, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S1x1x272x256 : Shape := ⟨4, ![1, 1, 272, 256]⟩
abbrev S272x256 : Shape := ⟨2, ![272, 256]⟩
abbrev S1x64x256 : Shape := ⟨3, ![1, 64, 256]⟩

abbrev nBuf : Space → Nat
  | .hbm => 22
  | .vmem => 22
  | .smem => 0
  | _ => 0

abbrev bufTy : (tb : Table) → Fin (tcTables nBuf tb) → BufTy
  | .hbm, ⟨0, _⟩ => ⟨S16x2048x256, .bf16⟩
  | .hbm, ⟨1, _⟩ => ⟨S16x2048x256, .bf16⟩
  | .hbm, ⟨2, _⟩ => ⟨S16x8x272x256, .bf16⟩
  | .hbm, ⟨3, _⟩ => ⟨S16x2048x64, .bf16⟩
  | .hbm, ⟨4, _⟩ => ⟨S16x8x2048, .f32⟩
  | .hbm, ⟨5, _⟩ => ⟨S256x256, .f32⟩
  | .hbm, ⟨6, _⟩ => ⟨S256x512, .f32⟩
  | .hbm, ⟨7, _⟩ => ⟨S256x8x64, .f32⟩
  | .hbm, ⟨8, _⟩ => ⟨S256x8x64, .f32⟩
  | .hbm, ⟨9, _⟩ => ⟨S256x256, .f32⟩
  | .hbm, ⟨10, _⟩ => ⟨S256x256, .bf16⟩
  | .hbm, ⟨11, _⟩ => ⟨S512x256, .f32⟩
  | .hbm, ⟨12, _⟩ => ⟨S512x256, .bf16⟩
  | .hbm, ⟨13, _⟩ => ⟨S8x256x64, .f32⟩
  | .hbm, ⟨14, _⟩ => ⟨S8x256x64, .bf16⟩
  | .hbm, ⟨15, _⟩ => ⟨S8x64x256, .f32⟩
  | .hbm, ⟨16, _⟩ => ⟨S8x64x256, .bf16⟩
  | .hbm, ⟨17, _⟩ => ⟨S256x256, .i32⟩
  | .hbm, ⟨18, _⟩ => ⟨S256x256, .i32⟩
  | .hbm, ⟨19, _⟩ => ⟨S256x256, .i1⟩
  | .hbm, ⟨20, _⟩ => ⟨S256x256, .bf16⟩
  | .hbm, ⟨21, _⟩ => ⟨S16x2048x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x8x256, .f32⟩
  | .local _ .vmem, ⟨3, _⟩ => ⟨S1x8x256, .f32⟩
  | .local _ .vmem, ⟨4, _⟩ => ⟨S1x2048x256, .bf16⟩
  | .local _ .vmem, ⟨5, _⟩ => ⟨S1x2048x256, .bf16⟩
  | .local _ .vmem, ⟨6, _⟩ => ⟨S1x8x272x256, .bf16⟩
  | .local _ .vmem, ⟨7, _⟩ => ⟨S1x8x272x256, .bf16⟩
  | .local _ .vmem, ⟨8, _⟩ => ⟨S1x2048x64, .bf16⟩
  | .local _ .vmem, ⟨9, _⟩ => ⟨S1x2048x64, .bf16⟩
  | .local _ .vmem, ⟨10, _⟩ => ⟨S256x256, .bf16⟩
  | .local _ .vmem, ⟨11, _⟩ => ⟨S512x256, .bf16⟩
  | .local _ .vmem, ⟨12, _⟩ => ⟨S8x256x64, .bf16⟩
  | .local _ .vmem, ⟨13, _⟩ => ⟨S8x64x256, .bf16⟩
  | .local _ .vmem, ⟨14, _⟩ => ⟨S256x256, .bf16⟩
  | .local _ .vmem, ⟨15, _⟩ => ⟨S1x256x512, .bf16⟩
  | .local _ .vmem, ⟨16, _⟩ => ⟨S1x256x512, .bf16⟩
  | .local _ .vmem, ⟨17, _⟩ => ⟨S2048x256, .f32⟩
  | .local _ .vmem, ⟨18, _⟩ => ⟨S8x256x256, .f32⟩
  | .local _ .vmem, ⟨19, _⟩ => ⟨S8x256x256, .bf16⟩
  | .local _ .vmem, ⟨20, _⟩ => ⟨S8x256x256, .f32⟩
  | .local _ .vmem, ⟨21, _⟩ => ⟨S4x256x256, .f32⟩
  | _, _ => ⟨S16x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 8], ![false, false]⟩

def k0_mult1 : BitVec 32 :=
  let c0_i32_82 : BitVec 32 := 0#32
  c0_i32_82
def k0_mult2 : BitVec 32 :=
  let c0_i32_89 : BitVec 32 := 0#32
  c0_i32_89
def k0_mult3 : BitVec 32 :=
  let c0_i32_96 : BitVec 32 := 0#32
  c0_i32_96
def k0_mult4 : BitVec 32 :=
  let c0_i32_103 : BitVec 32 := 0#32
  c0_i32_103
@[reducible] def k0_t1_loop (i : grid0.Coords) : Scf.Loop 32 :=
  let c1_i32_112 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v163 : BitVec 32 := Scalar.subi v20 c1_i32_112
  let c1_i32_113 : BitVec 32 := 1#32
  let v165 : BitVec 32 := Scalar.divsi v163 c1_i32_113
  let v166 : BitVec 32 := Scalar.muli v165 c1_i32_113
  let v167 : BitVec 32 := Scalar.addi c1_i32_112 v166
  let c1_i32_114 : BitVec 32 := 1#32
  ⟨c1_i32_112, v167, c1_i32_114⟩
def k0_mult5 (i : grid0.Coords) (k0_t1 : Fin (k0_t1_loop i).trips) : BitVec 32 :=
  let c1_i32_112 : BitVec 32 := 1#32
  let c1_i32_114 : BitVec 32 := 1#32
  let arg18 : BitVec 32 := Scf.iv c1_i32_112 c1_i32_114 k0_t1
  let c1_i32_524 : BitVec 32 := 1#32
  let v834 : BitVec 32 := Scalar.subi arg18 c1_i32_524
  let c256_i32_525 : BitVec 32 := 256#32
  let v835 : BitVec 32 := Scalar.muli v834 c256_i32_525
  v835
def k0_mult6 (i : grid0.Coords) (k0_t1 : Fin (k0_t1_loop i).trips) : BitVec 32 :=
  let c1_i32_112 : BitVec 32 := 1#32
  let c1_i32_114 : BitVec 32 := 1#32
  let arg18 : BitVec 32 := Scf.iv c1_i32_112 c1_i32_114 k0_t1
  let c256_i32_530 : BitVec 32 := 256#32
  let v844 : BitVec 32 := Scalar.muli arg18 c256_i32_530
  v844
def k0_off1 (i : grid0.Coords) (k0_t1 : Fin (k0_t1_loop i).trips) : Fin 3 → Nat :=
  let c0_531 : Index := 0#32
  let c1_i32_112 : BitVec 32 := 1#32
  let c1_i32_114 : BitVec 32 := 1#32
  let arg18 : BitVec 32 := Scf.iv c1_i32_112 c1_i32_114 k0_t1
  let c256_i32_530 : BitVec 32 := 256#32
  let v844 : BitVec 32 := Scalar.muli arg18 c256_i32_530
  let v845 : BitVec 32 := v844
  let v846 : Index := Scalar.indexCast v845
  let c0_532 : Index := 0#32
  ![0, v846.toNat, 0]
def k0_mult7 (i : grid0.Coords) (k0_t1 : Fin (k0_t1_loop i).trips) : BitVec 32 :=
  let c1_i32_112 : BitVec 32 := 1#32
  let c1_i32_114 : BitVec 32 := 1#32
  let arg18 : BitVec 32 := Scf.iv c1_i32_112 c1_i32_114 k0_t1
  let c256_i32_541 : BitVec 32 := 256#32
  let v862 : BitVec 32 := Scalar.muli arg18 c256_i32_541
  v862
def k0_mult8 (i : grid0.Coords) (k0_t1 : Fin (k0_t1_loop i).trips) : BitVec 32 :=
  let c1_i32_112 : BitVec 32 := 1#32
  let c1_i32_114 : BitVec 32 := 1#32
  let arg18 : BitVec 32 := Scf.iv c1_i32_112 c1_i32_114 k0_t1
  let c256_i32_552 : BitVec 32 := 256#32
  let v880 : BitVec 32 := Scalar.muli arg18 c256_i32_552
  v880
def k0_mult9 (i : grid0.Coords) (k0_t1 : Fin (k0_t1_loop i).trips) : BitVec 32 :=
  let c1_i32_112 : BitVec 32 := 1#32
  let c1_i32_114 : BitVec 32 := 1#32
  let arg18 : BitVec 32 := Scf.iv c1_i32_112 c1_i32_114 k0_t1
  let c256_i32_563 : BitVec 32 := 256#32
  let v898 : BitVec 32 := Scalar.muli arg18 c256_i32_563
  v898
def k0_off2 (i : grid0.Coords) (k0_t1 : Fin (k0_t1_loop i).trips) : Fin 2 → Nat :=
  let c1_i32_112 : BitVec 32 := 1#32
  let c1_i32_114 : BitVec 32 := 1#32
  let arg18 : BitVec 32 := Scf.iv c1_i32_112 c1_i32_114 k0_t1
  let c1_i32_524 : BitVec 32 := 1#32
  let v834 : BitVec 32 := Scalar.subi arg18 c1_i32_524
  let c256_i32_525 : BitVec 32 := 256#32
  let v835 : BitVec 32 := Scalar.muli v834 c256_i32_525
  let v836 : BitVec 32 := v835
  let v914 : Index := Scalar.indexCast v836
  let c0_571 : Index := 0#32
  ![v914.toNat, 0]
@[reducible] def k0_t2_loop (i : grid0.Coords) : Scf.Loop 32 :=
  let c1_i32_112 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v163 : BitVec 32 := Scalar.subi v20 c1_i32_112
  let c1_i32_113 : BitVec 32 := 1#32
  let v165 : BitVec 32 := Scalar.divsi v163 c1_i32_113
  let v166 : BitVec 32 := Scalar.muli v165 c1_i32_113
  let v167 : BitVec 32 := Scalar.addi c1_i32_112 v166
  let v164 : BitVec 32 := Scalar.addi c1_i32_112 v163
  let c1_i32_115 : BitVec 32 := 1#32
  ⟨v167, v164, c1_i32_115⟩
def k0_mult10 (i : grid0.Coords) (k0_t2 : Fin (k0_t2_loop i).trips) : BitVec 32 :=
  let c1_i32_112 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v163 : BitVec 32 := Scalar.subi v20 c1_i32_112
  let c1_i32_113 : BitVec 32 := 1#32
  let v165 : BitVec 32 := Scalar.divsi v163 c1_i32_113
  let v166 : BitVec 32 := Scalar.muli v165 c1_i32_113
  let v167 : BitVec 32 := Scalar.addi c1_i32_112 v166
  let c1_i32_115 : BitVec 32 := 1#32
  let arg18 : BitVec 32 := Scf.iv v167 c1_i32_115 k0_t2
  let c1_i32_524 : BitVec 32 := 1#32
  let v834 : BitVec 32 := Scalar.subi arg18 c1_i32_524
  let c256_i32_525 : BitVec 32 := 256#32
  let v835 : BitVec 32 := Scalar.muli v834 c256_i32_525
  v835
def k0_mult11 (i : grid0.Coords) (k0_t2 : Fin (k0_t2_loop i).trips) : BitVec 32 :=
  let c1_i32_112 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v163 : BitVec 32 := Scalar.subi v20 c1_i32_112
  let c1_i32_113 : BitVec 32 := 1#32
  let v165 : BitVec 32 := Scalar.divsi v163 c1_i32_113
  let v166 : BitVec 32 := Scalar.muli v165 c1_i32_113
  let v167 : BitVec 32 := Scalar.addi c1_i32_112 v166
  let c1_i32_115 : BitVec 32 := 1#32
  let arg18 : BitVec 32 := Scf.iv v167 c1_i32_115 k0_t2
  let c256_i32_530 : BitVec 32 := 256#32
  let v844 : BitVec 32 := Scalar.muli arg18 c256_i32_530
  v844
def k0_off3 (i : grid0.Coords) (k0_t2 : Fin (k0_t2_loop i).trips) : Fin 3 → Nat :=
  let c0_531 : Index := 0#32
  let c1_i32_112 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v163 : BitVec 32 := Scalar.subi v20 c1_i32_112
  let c1_i32_113 : BitVec 32 := 1#32
  let v165 : BitVec 32 := Scalar.divsi v163 c1_i32_113
  let v166 : BitVec 32 := Scalar.muli v165 c1_i32_113
  let v167 : BitVec 32 := Scalar.addi c1_i32_112 v166
  let c1_i32_115 : BitVec 32 := 1#32
  let arg18 : BitVec 32 := Scf.iv v167 c1_i32_115 k0_t2
  let c256_i32_530 : BitVec 32 := 256#32
  let v844 : BitVec 32 := Scalar.muli arg18 c256_i32_530
  let v845 : BitVec 32 := v844
  let v846 : Index := Scalar.indexCast v845
  let c0_532 : Index := 0#32
  ![0, v846.toNat, 0]
def k0_mult12 (i : grid0.Coords) (k0_t2 : Fin (k0_t2_loop i).trips) : BitVec 32 :=
  let c1_i32_112 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v163 : BitVec 32 := Scalar.subi v20 c1_i32_112
  let c1_i32_113 : BitVec 32 := 1#32
  let v165 : BitVec 32 := Scalar.divsi v163 c1_i32_113
  let v166 : BitVec 32 := Scalar.muli v165 c1_i32_113
  let v167 : BitVec 32 := Scalar.addi c1_i32_112 v166
  let c1_i32_115 : BitVec 32 := 1#32
  let arg18 : BitVec 32 := Scf.iv v167 c1_i32_115 k0_t2
  let c256_i32_541 : BitVec 32 := 256#32
  let v862 : BitVec 32 := Scalar.muli arg18 c256_i32_541
  v862
def k0_mult13 (i : grid0.Coords) (k0_t2 : Fin (k0_t2_loop i).trips) : BitVec 32 :=
  let c1_i32_112 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v163 : BitVec 32 := Scalar.subi v20 c1_i32_112
  let c1_i32_113 : BitVec 32 := 1#32
  let v165 : BitVec 32 := Scalar.divsi v163 c1_i32_113
  let v166 : BitVec 32 := Scalar.muli v165 c1_i32_113
  let v167 : BitVec 32 := Scalar.addi c1_i32_112 v166
  let c1_i32_115 : BitVec 32 := 1#32
  let arg18 : BitVec 32 := Scf.iv v167 c1_i32_115 k0_t2
  let c256_i32_552 : BitVec 32 := 256#32
  let v880 : BitVec 32 := Scalar.muli arg18 c256_i32_552
  v880
def k0_mult14 (i : grid0.Coords) (k0_t2 : Fin (k0_t2_loop i).trips) : BitVec 32 :=
  let c1_i32_112 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v163 : BitVec 32 := Scalar.subi v20 c1_i32_112
  let c1_i32_113 : BitVec 32 := 1#32
  let v165 : BitVec 32 := Scalar.divsi v163 c1_i32_113
  let v166 : BitVec 32 := Scalar.muli v165 c1_i32_113
  let v167 : BitVec 32 := Scalar.addi c1_i32_112 v166
  let c1_i32_115 : BitVec 32 := 1#32
  let arg18 : BitVec 32 := Scf.iv v167 c1_i32_115 k0_t2
  let c256_i32_563 : BitVec 32 := 256#32
  let v898 : BitVec 32 := Scalar.muli arg18 c256_i32_563
  v898
def k0_off4 (i : grid0.Coords) (k0_t2 : Fin (k0_t2_loop i).trips) : Fin 2 → Nat :=
  let c1_i32_112 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v163 : BitVec 32 := Scalar.subi v20 c1_i32_112
  let c1_i32_113 : BitVec 32 := 1#32
  let v165 : BitVec 32 := Scalar.divsi v163 c1_i32_113
  let v166 : BitVec 32 := Scalar.muli v165 c1_i32_113
  let v167 : BitVec 32 := Scalar.addi c1_i32_112 v166
  let c1_i32_115 : BitVec 32 := 1#32
  let arg18 : BitVec 32 := Scf.iv v167 c1_i32_115 k0_t2
  let c1_i32_524 : BitVec 32 := 1#32
  let v834 : BitVec 32 := Scalar.subi arg18 c1_i32_524
  let c256_i32_525 : BitVec 32 := 256#32
  let v835 : BitVec 32 := Scalar.muli v834 c256_i32_525
  let v836 : BitVec 32 := v835
  let v914 : Index := Scalar.indexCast v836
  let c0_571 : Index := 0#32
  ![v914.toNat, 0]
def k0_mult15 (i : grid0.Coords) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_116 : BitVec 32 := 1#32
  let v170 : BitVec 32 := Scalar.subi v20 c1_i32_116
  let c256_i32_117 : BitVec 32 := 256#32
  let v171 : BitVec 32 := Scalar.muli v170 c256_i32_117
  v171
def k0_off5 (i : grid0.Coords) : Fin 2 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_116 : BitVec 32 := 1#32
  let v170 : BitVec 32 := Scalar.subi v20 c1_i32_116
  let c256_i32_117 : BitVec 32 := 256#32
  let v171 : BitVec 32 := Scalar.muli v170 c256_i32_117
  let v172 : BitVec 32 := v171
  let v210 : Index := Scalar.indexCast v172
  let c0_135 : Index := 0#32
  ![v210.toNat, 0]
@[reducible] def k0_t3_loop (i : grid0.Coords) : Scf.Loop 32 :=
  let c0_i32_178 : BitVec 32 := 0#32
  let arg1 : BitVec 32 := BitVec.ofNat 32 (i 1).val
  let c256_i32_174 : BitVec 32 := 256#32
  let v293 : BitVec 32 := Scalar.muli arg1 c256_i32_174
  let c256_i32_175 : BitVec 32 := 256#32
  let v294 : BitVec 32 := Scalar.addi v293 c256_i32_175
  let c256_i32_176 : BitVec 32 := 256#32
  let v295 : BitVec 1 := Scalar.cmpi .sle v294 c256_i32_176
  let c0_i32_177 : BitVec 32 := 0#32
  let c19_i32 : BitVec 32 := 19#32
  let v296 : BitVec 32 := Scalar.select v295 c0_i32_177 c19_i32
  let v297 : BitVec 32 := Scalar.subi v296 c0_i32_178
  let c1_i32_179 : BitVec 32 := 1#32
  let v299 : BitVec 32 := Scalar.divsi v297 c1_i32_179
  let v300 : BitVec 32 := Scalar.muli v299 c1_i32_179
  let v301 : BitVec 32 := Scalar.addi c0_i32_178 v300
  let c1_i32_180 : BitVec 32 := 1#32
  ⟨c0_i32_178, v301, c1_i32_180⟩
@[reducible] def k0_t4_loop (i : grid0.Coords) : Scf.Loop 32 :=
  let c0_i32_528 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v845 : BitVec 32 := Scalar.subi v20 c0_i32_528
  let c1_i32_529 : BitVec 32 := 1#32
  let v847 : BitVec 32 := Scalar.divsi v845 c1_i32_529
  let v848 : BitVec 32 := Scalar.muli v847 c1_i32_529
  let v849 : BitVec 32 := Scalar.addi c0_i32_528 v848
  let c1_i32_530 : BitVec 32 := 1#32
  ⟨c0_i32_528, v849, c1_i32_530⟩
def k0_mult16 (i : grid0.Coords) (k0_t4 : Fin (k0_t4_loop i).trips) : BitVec 32 :=
  let c0_i32_528 : BitVec 32 := 0#32
  let c1_i32_530 : BitVec 32 := 1#32
  let arg24 : BitVec 32 := Scf.iv c0_i32_528 c1_i32_530 k0_t4
  let c256_i32_544 : BitVec 32 := 256#32
  let v881 : BitVec 32 := Scalar.muli arg24 c256_i32_544
  v881
def k0_off6 (i : grid0.Coords) (k0_t4 : Fin (k0_t4_loop i).trips) : Fin 2 → Nat :=
  let c0_i32_528 : BitVec 32 := 0#32
  let c1_i32_530 : BitVec 32 := 1#32
  let arg24 : BitVec 32 := Scf.iv c0_i32_528 c1_i32_530 k0_t4
  let c256_i32_544 : BitVec 32 := 256#32
  let v881 : BitVec 32 := Scalar.muli arg24 c256_i32_544
  let v882 : BitVec 32 := v881
  let v883 : Index := Scalar.indexCast v882
  let c0_545 : Index := 0#32
  ![v883.toNat, 0]
@[reducible] def k0_t5_loop (i : grid0.Coords) : Scf.Loop 32 :=
  let c0_i32_528 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v845 : BitVec 32 := Scalar.subi v20 c0_i32_528
  let c1_i32_529 : BitVec 32 := 1#32
  let v847 : BitVec 32 := Scalar.divsi v845 c1_i32_529
  let v848 : BitVec 32 := Scalar.muli v847 c1_i32_529
  let v849 : BitVec 32 := Scalar.addi c0_i32_528 v848
  let v846 : BitVec 32 := Scalar.addi c0_i32_528 v845
  let c1_i32_531 : BitVec 32 := 1#32
  ⟨v849, v846, c1_i32_531⟩
def k0_mult17 (i : grid0.Coords) (k0_t5 : Fin (k0_t5_loop i).trips) : BitVec 32 :=
  let c0_i32_528 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v845 : BitVec 32 := Scalar.subi v20 c0_i32_528
  let c1_i32_529 : BitVec 32 := 1#32
  let v847 : BitVec 32 := Scalar.divsi v845 c1_i32_529
  let v848 : BitVec 32 := Scalar.muli v847 c1_i32_529
  let v849 : BitVec 32 := Scalar.addi c0_i32_528 v848
  let c1_i32_531 : BitVec 32 := 1#32
  let arg24 : BitVec 32 := Scf.iv v849 c1_i32_531 k0_t5
  let c256_i32_544 : BitVec 32 := 256#32
  let v881 : BitVec 32 := Scalar.muli arg24 c256_i32_544
  v881
def k0_off7 (i : grid0.Coords) (k0_t5 : Fin (k0_t5_loop i).trips) : Fin 2 → Nat :=
  let c0_i32_528 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v845 : BitVec 32 := Scalar.subi v20 c0_i32_528
  let c1_i32_529 : BitVec 32 := 1#32
  let v847 : BitVec 32 := Scalar.divsi v845 c1_i32_529
  let v848 : BitVec 32 := Scalar.muli v847 c1_i32_529
  let v849 : BitVec 32 := Scalar.addi c0_i32_528 v848
  let c1_i32_531 : BitVec 32 := 1#32
  let arg24 : BitVec 32 := Scf.iv v849 c1_i32_531 k0_t5
  let c256_i32_544 : BitVec 32 := 256#32
  let v881 : BitVec 32 := Scalar.muli arg24 c256_i32_544
  let v882 : BitVec 32 := v881
  let v883 : Index := Scalar.indexCast v882
  let c0_545 : Index := 0#32
  ![v883.toNat, 0]
@[reducible] def k0_t6_loop (i : grid0.Coords) : Scf.Loop 32 :=
  let c0_i32_178 : BitVec 32 := 0#32
  let arg1 : BitVec 32 := BitVec.ofNat 32 (i 1).val
  let c256_i32_174 : BitVec 32 := 256#32
  let v293 : BitVec 32 := Scalar.muli arg1 c256_i32_174
  let c256_i32_175 : BitVec 32 := 256#32
  let v294 : BitVec 32 := Scalar.addi v293 c256_i32_175
  let c256_i32_176 : BitVec 32 := 256#32
  let v295 : BitVec 1 := Scalar.cmpi .sle v294 c256_i32_176
  let c0_i32_177 : BitVec 32 := 0#32
  let c19_i32 : BitVec 32 := 19#32
  let v296 : BitVec 32 := Scalar.select v295 c0_i32_177 c19_i32
  let v297 : BitVec 32 := Scalar.subi v296 c0_i32_178
  let c1_i32_179 : BitVec 32 := 1#32
  let v299 : BitVec 32 := Scalar.divsi v297 c1_i32_179
  let v300 : BitVec 32 := Scalar.muli v299 c1_i32_179
  let v301 : BitVec 32 := Scalar.addi c0_i32_178 v300
  let v298 : BitVec 32 := Scalar.addi c0_i32_178 v297
  let c1_i32_181 : BitVec 32 := 1#32
  ⟨v301, v298, c1_i32_181⟩
@[reducible] def k0_t7_loop (i : grid0.Coords) : Scf.Loop 32 :=
  let c0_i32_528 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v845 : BitVec 32 := Scalar.subi v20 c0_i32_528
  let c1_i32_529 : BitVec 32 := 1#32
  let v847 : BitVec 32 := Scalar.divsi v845 c1_i32_529
  let v848 : BitVec 32 := Scalar.muli v847 c1_i32_529
  let v849 : BitVec 32 := Scalar.addi c0_i32_528 v848
  let c1_i32_530 : BitVec 32 := 1#32
  ⟨c0_i32_528, v849, c1_i32_530⟩
def k0_mult18 (i : grid0.Coords) (k0_t7 : Fin (k0_t7_loop i).trips) : BitVec 32 :=
  let c0_i32_528 : BitVec 32 := 0#32
  let c1_i32_530 : BitVec 32 := 1#32
  let arg24 : BitVec 32 := Scf.iv c0_i32_528 c1_i32_530 k0_t7
  let c256_i32_544 : BitVec 32 := 256#32
  let v881 : BitVec 32 := Scalar.muli arg24 c256_i32_544
  v881
def k0_off8 (i : grid0.Coords) (k0_t7 : Fin (k0_t7_loop i).trips) : Fin 2 → Nat :=
  let c0_i32_528 : BitVec 32 := 0#32
  let c1_i32_530 : BitVec 32 := 1#32
  let arg24 : BitVec 32 := Scf.iv c0_i32_528 c1_i32_530 k0_t7
  let c256_i32_544 : BitVec 32 := 256#32
  let v881 : BitVec 32 := Scalar.muli arg24 c256_i32_544
  let v882 : BitVec 32 := v881
  let v883 : Index := Scalar.indexCast v882
  let c0_545 : Index := 0#32
  ![v883.toNat, 0]
@[reducible] def k0_t8_loop (i : grid0.Coords) : Scf.Loop 32 :=
  let c0_i32_528 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v845 : BitVec 32 := Scalar.subi v20 c0_i32_528
  let c1_i32_529 : BitVec 32 := 1#32
  let v847 : BitVec 32 := Scalar.divsi v845 c1_i32_529
  let v848 : BitVec 32 := Scalar.muli v847 c1_i32_529
  let v849 : BitVec 32 := Scalar.addi c0_i32_528 v848
  let v846 : BitVec 32 := Scalar.addi c0_i32_528 v845
  let c1_i32_531 : BitVec 32 := 1#32
  ⟨v849, v846, c1_i32_531⟩
def k0_mult19 (i : grid0.Coords) (k0_t8 : Fin (k0_t8_loop i).trips) : BitVec 32 :=
  let c0_i32_528 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v845 : BitVec 32 := Scalar.subi v20 c0_i32_528
  let c1_i32_529 : BitVec 32 := 1#32
  let v847 : BitVec 32 := Scalar.divsi v845 c1_i32_529
  let v848 : BitVec 32 := Scalar.muli v847 c1_i32_529
  let v849 : BitVec 32 := Scalar.addi c0_i32_528 v848
  let c1_i32_531 : BitVec 32 := 1#32
  let arg24 : BitVec 32 := Scf.iv v849 c1_i32_531 k0_t8
  let c256_i32_544 : BitVec 32 := 256#32
  let v881 : BitVec 32 := Scalar.muli arg24 c256_i32_544
  v881
def k0_off9 (i : grid0.Coords) (k0_t8 : Fin (k0_t8_loop i).trips) : Fin 2 → Nat :=
  let c0_i32_528 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v845 : BitVec 32 := Scalar.subi v20 c0_i32_528
  let c1_i32_529 : BitVec 32 := 1#32
  let v847 : BitVec 32 := Scalar.divsi v845 c1_i32_529
  let v848 : BitVec 32 := Scalar.muli v847 c1_i32_529
  let v849 : BitVec 32 := Scalar.addi c0_i32_528 v848
  let c1_i32_531 : BitVec 32 := 1#32
  let arg24 : BitVec 32 := Scf.iv v849 c1_i32_531 k0_t8
  let c256_i32_544 : BitVec 32 := 256#32
  let v881 : BitVec 32 := Scalar.muli arg24 c256_i32_544
  let v882 : BitVec 32 := v881
  let v883 : Index := Scalar.indexCast v882
  let c0_545 : Index := 0#32
  ![v883.toNat, 0]
@[reducible] def k0_t9_loop (i : grid0.Coords) : Scf.Loop 32 :=
  let c0_i32_528 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v845 : BitVec 32 := Scalar.subi v20 c0_i32_528
  let c1_i32_529 : BitVec 32 := 1#32
  let v847 : BitVec 32 := Scalar.divsi v845 c1_i32_529
  let v848 : BitVec 32 := Scalar.muli v847 c1_i32_529
  let v849 : BitVec 32 := Scalar.addi c0_i32_528 v848
  let c1_i32_530 : BitVec 32 := 1#32
  ⟨c0_i32_528, v849, c1_i32_530⟩
def k0_mult20 (i : grid0.Coords) (k0_t9 : Fin (k0_t9_loop i).trips) : BitVec 32 :=
  let c0_i32_528 : BitVec 32 := 0#32
  let c1_i32_530 : BitVec 32 := 1#32
  let arg25 : BitVec 32 := Scf.iv c0_i32_528 c1_i32_530 k0_t9
  let c256_i32_546 : BitVec 32 := 256#32
  let v886 : BitVec 32 := Scalar.muli arg25 c256_i32_546
  v886
def k0_off10 (i : grid0.Coords) (k0_t9 : Fin (k0_t9_loop i).trips) : Fin 2 → Nat :=
  let c0_i32_528 : BitVec 32 := 0#32
  let c1_i32_530 : BitVec 32 := 1#32
  let arg25 : BitVec 32 := Scf.iv c0_i32_528 c1_i32_530 k0_t9
  let c256_i32_546 : BitVec 32 := 256#32
  let v886 : BitVec 32 := Scalar.muli arg25 c256_i32_546
  let v887 : BitVec 32 := v886
  let v888 : Index := Scalar.indexCast v887
  let c0_547 : Index := 0#32
  ![v888.toNat, 0]
@[reducible] def k0_t10_loop (i : grid0.Coords) : Scf.Loop 32 :=
  let c0_i32_528 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v845 : BitVec 32 := Scalar.subi v20 c0_i32_528
  let c1_i32_529 : BitVec 32 := 1#32
  let v847 : BitVec 32 := Scalar.divsi v845 c1_i32_529
  let v848 : BitVec 32 := Scalar.muli v847 c1_i32_529
  let v849 : BitVec 32 := Scalar.addi c0_i32_528 v848
  let v846 : BitVec 32 := Scalar.addi c0_i32_528 v845
  let c1_i32_531 : BitVec 32 := 1#32
  ⟨v849, v846, c1_i32_531⟩
def k0_mult21 (i : grid0.Coords) (k0_t10 : Fin (k0_t10_loop i).trips) : BitVec 32 :=
  let c0_i32_528 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v845 : BitVec 32 := Scalar.subi v20 c0_i32_528
  let c1_i32_529 : BitVec 32 := 1#32
  let v847 : BitVec 32 := Scalar.divsi v845 c1_i32_529
  let v848 : BitVec 32 := Scalar.muli v847 c1_i32_529
  let v849 : BitVec 32 := Scalar.addi c0_i32_528 v848
  let c1_i32_531 : BitVec 32 := 1#32
  let arg25 : BitVec 32 := Scf.iv v849 c1_i32_531 k0_t10
  let c256_i32_546 : BitVec 32 := 256#32
  let v886 : BitVec 32 := Scalar.muli arg25 c256_i32_546
  v886
def k0_off11 (i : grid0.Coords) (k0_t10 : Fin (k0_t10_loop i).trips) : Fin 2 → Nat :=
  let c0_i32_528 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v845 : BitVec 32 := Scalar.subi v20 c0_i32_528
  let c1_i32_529 : BitVec 32 := 1#32
  let v847 : BitVec 32 := Scalar.divsi v845 c1_i32_529
  let v848 : BitVec 32 := Scalar.muli v847 c1_i32_529
  let v849 : BitVec 32 := Scalar.addi c0_i32_528 v848
  let c1_i32_531 : BitVec 32 := 1#32
  let arg25 : BitVec 32 := Scf.iv v849 c1_i32_531 k0_t10
  let c256_i32_546 : BitVec 32 := 256#32
  let v886 : BitVec 32 := Scalar.muli arg25 c256_i32_546
  let v887 : BitVec 32 := v886
  let v888 : Index := Scalar.indexCast v887
  let c0_547 : Index := 0#32
  ![v888.toNat, 0]
def k0_mult22 : BitVec 32 :=
  let c0_i32_187 : BitVec 32 := 0#32
  c0_i32_187
def k0_mult23 : BitVec 32 :=
  let c0_i32_198 : BitVec 32 := 0#32
  c0_i32_198
def k0_mult24 (i : grid0.Coords) : BitVec 32 :=
  let c1_i32_204 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_203 : BitVec 32 := 1#32
  let v339 : BitVec 32 := Scalar.subi v20 c1_i32_203
  let v340 : BitVec 32 := Scalar.minsi c1_i32_204 v339
  let c256_i32_205 : BitVec 32 := 256#32
  let v341 : BitVec 32 := Scalar.muli v340 c256_i32_205
  v341
def k0_off12 (i : grid0.Coords) : Fin 2 → Nat :=
  let c1_i32_204 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_203 : BitVec 32 := 1#32
  let v339 : BitVec 32 := Scalar.subi v20 c1_i32_203
  let v340 : BitVec 32 := Scalar.minsi c1_i32_204 v339
  let c256_i32_205 : BitVec 32 := 256#32
  let v341 : BitVec 32 := Scalar.muli v340 c256_i32_205
  let v342 : BitVec 32 := v341
  let v345 : Index := Scalar.indexCast v342
  let c0_208 : Index := 0#32
  ![v345.toNat, 0]
def k0_mult25 : BitVec 32 :=
  let c0_i32_237 : BitVec 32 := 0#32
  c0_i32_237
def k0_mult26 : BitVec 32 :=
  let c0_i32_249 : BitVec 32 := 0#32
  c0_i32_249
def k0_mult27 : BitVec 32 :=
  let c0_i32_261 : BitVec 32 := 0#32
  c0_i32_261
def k0_mult28 : BitVec 32 :=
  let c0_i32_273 : BitVec 32 := 0#32
  c0_i32_273
def k0_mult29 : BitVec 32 :=
  let c0_i32_285 : BitVec 32 := 0#32
  c0_i32_285
def k0_mult30 : BitVec 32 :=
  let c0_i32_297 : BitVec 32 := 0#32
  c0_i32_297
def k0_mult31 : BitVec 32 :=
  let c0_i32_309 : BitVec 32 := 0#32
  c0_i32_309
def k0_mult32 : BitVec 32 :=
  let c0_i32_321 : BitVec 32 := 0#32
  c0_i32_321
@[reducible] def k0_t11_loop (i : grid0.Coords) : Scf.Loop 32 :=
  let c1_i32_333 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v517 : BitVec 32 := Scalar.subi v20 c1_i32_333
  let c1_i32_334 : BitVec 32 := 1#32
  let v519 : BitVec 32 := Scalar.divsi v517 c1_i32_334
  let v520 : BitVec 32 := Scalar.muli v519 c1_i32_334
  let v521 : BitVec 32 := Scalar.addi c1_i32_333 v520
  let c1_i32_335 : BitVec 32 := 1#32
  ⟨c1_i32_333, v521, c1_i32_335⟩
def k0_mult33 (i : grid0.Coords) (k0_t11 : Fin (k0_t11_loop i).trips) : BitVec 32 :=
  let c1_i32_333 : BitVec 32 := 1#32
  let c1_i32_335 : BitVec 32 := 1#32
  let arg18 : BitVec 32 := Scf.iv c1_i32_333 c1_i32_335 k0_t11
  let c256_i32_524 : BitVec 32 := 256#32
  let v834 : BitVec 32 := Scalar.muli arg18 c256_i32_524
  v834
def k0_off13 (i : grid0.Coords) (k0_t11 : Fin (k0_t11_loop i).trips) : Fin 2 → Nat :=
  let c1_i32_333 : BitVec 32 := 1#32
  let c1_i32_335 : BitVec 32 := 1#32
  let arg18 : BitVec 32 := Scf.iv c1_i32_333 c1_i32_335 k0_t11
  let c256_i32_524 : BitVec 32 := 256#32
  let v834 : BitVec 32 := Scalar.muli arg18 c256_i32_524
  let v835 : BitVec 32 := v834
  let v836 : Index := Scalar.indexCast v835
  let c0_525 : Index := 0#32
  ![v836.toNat, 0]
def k0_mult34 (i : grid0.Coords) (k0_t11 : Fin (k0_t11_loop i).trips) : BitVec 32 :=
  let c1_i32_333 : BitVec 32 := 1#32
  let c1_i32_335 : BitVec 32 := 1#32
  let arg18 : BitVec 32 := Scf.iv c1_i32_333 c1_i32_335 k0_t11
  let c1_i32_529 : BitVec 32 := 1#32
  let v842 : BitVec 32 := Scalar.addi arg18 c1_i32_529
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_530 : BitVec 32 := 1#32
  let v843 : BitVec 32 := Scalar.subi v20 c1_i32_530
  let v844 : BitVec 32 := Scalar.minsi v842 v843
  let c256_i32_531 : BitVec 32 := 256#32
  let v845 : BitVec 32 := Scalar.muli v844 c256_i32_531
  v845
def k0_off14 (i : grid0.Coords) (k0_t11 : Fin (k0_t11_loop i).trips) : Fin 2 → Nat :=
  let c1_i32_333 : BitVec 32 := 1#32
  let c1_i32_335 : BitVec 32 := 1#32
  let arg18 : BitVec 32 := Scf.iv c1_i32_333 c1_i32_335 k0_t11
  let c1_i32_529 : BitVec 32 := 1#32
  let v842 : BitVec 32 := Scalar.addi arg18 c1_i32_529
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_530 : BitVec 32 := 1#32
  let v843 : BitVec 32 := Scalar.subi v20 c1_i32_530
  let v844 : BitVec 32 := Scalar.minsi v842 v843
  let c256_i32_531 : BitVec 32 := 256#32
  let v845 : BitVec 32 := Scalar.muli v844 c256_i32_531
  let v846 : BitVec 32 := v845
  let v849 : Index := Scalar.indexCast v846
  let c0_534 : Index := 0#32
  ![v849.toNat, 0]
def k0_off15 (i : grid0.Coords) (k0_t11 : Fin (k0_t11_loop i).trips) : Fin 4 → Nat :=
  let c0_552 : Index := 0#32
  let c1_i32_333 : BitVec 32 := 1#32
  let c1_i32_335 : BitVec 32 := 1#32
  let arg18 : BitVec 32 := Scf.iv c1_i32_333 c1_i32_335 k0_t11
  let c1_i32_547 : BitVec 32 := 1#32
  let v885 : BitVec 32 := Scalar.subi arg18 c1_i32_547
  let v897 : Index := Scalar.indexCast v885
  let c0_553 : Index := 0#32
  let c0_554 : Index := 0#32
  ![0, v897.toNat, 0, 0]
def k0_mult35 (i : grid0.Coords) (k0_t11 : Fin (k0_t11_loop i).trips) : BitVec 32 :=
  let c1_i32_333 : BitVec 32 := 1#32
  let c1_i32_335 : BitVec 32 := 1#32
  let arg18 : BitVec 32 := Scf.iv c1_i32_333 c1_i32_335 k0_t11
  let c256_i32_562 : BitVec 32 := 256#32
  let v913 : BitVec 32 := Scalar.muli arg18 c256_i32_562
  v913
def k0_off16 (i : grid0.Coords) (k0_t11 : Fin (k0_t11_loop i).trips) : Fin 3 → Nat :=
  let c0_563 : Index := 0#32
  let c1_i32_333 : BitVec 32 := 1#32
  let c1_i32_335 : BitVec 32 := 1#32
  let arg18 : BitVec 32 := Scf.iv c1_i32_333 c1_i32_335 k0_t11
  let c256_i32_562 : BitVec 32 := 256#32
  let v913 : BitVec 32 := Scalar.muli arg18 c256_i32_562
  let v914 : BitVec 32 := v913
  let v915 : Index := Scalar.indexCast v914
  let c0_564 : Index := 0#32
  ![0, v915.toNat, 0]
def k0_mult36 (i : grid0.Coords) (k0_t11 : Fin (k0_t11_loop i).trips) : BitVec 32 :=
  let c1_i32_333 : BitVec 32 := 1#32
  let c1_i32_335 : BitVec 32 := 1#32
  let arg18 : BitVec 32 := Scf.iv c1_i32_333 c1_i32_335 k0_t11
  let c256_i32_589 : BitVec 32 := 256#32
  let v957 : BitVec 32 := Scalar.muli arg18 c256_i32_589
  v957
def k0_mult37 (i : grid0.Coords) (k0_t11 : Fin (k0_t11_loop i).trips) : BitVec 32 :=
  let c1_i32_333 : BitVec 32 := 1#32
  let c1_i32_335 : BitVec 32 := 1#32
  let arg18 : BitVec 32 := Scf.iv c1_i32_333 c1_i32_335 k0_t11
  let c256_i32_616 : BitVec 32 := 256#32
  let v1001 : BitVec 32 := Scalar.muli arg18 c256_i32_616
  v1001
def k0_mult38 (i : grid0.Coords) (k0_t11 : Fin (k0_t11_loop i).trips) : BitVec 32 :=
  let c1_i32_333 : BitVec 32 := 1#32
  let c1_i32_335 : BitVec 32 := 1#32
  let arg18 : BitVec 32 := Scf.iv c1_i32_333 c1_i32_335 k0_t11
  let c256_i32_643 : BitVec 32 := 256#32
  let v1045 : BitVec 32 := Scalar.muli arg18 c256_i32_643
  v1045
def k0_mult39 (i : grid0.Coords) (k0_t11 : Fin (k0_t11_loop i).trips) : BitVec 32 :=
  let c1_i32_333 : BitVec 32 := 1#32
  let c1_i32_335 : BitVec 32 := 1#32
  let arg18 : BitVec 32 := Scf.iv c1_i32_333 c1_i32_335 k0_t11
  let c256_i32_670 : BitVec 32 := 256#32
  let v1089 : BitVec 32 := Scalar.muli arg18 c256_i32_670
  v1089
def k0_mult40 (i : grid0.Coords) (k0_t11 : Fin (k0_t11_loop i).trips) : BitVec 32 :=
  let c1_i32_333 : BitVec 32 := 1#32
  let c1_i32_335 : BitVec 32 := 1#32
  let arg18 : BitVec 32 := Scf.iv c1_i32_333 c1_i32_335 k0_t11
  let c256_i32_697 : BitVec 32 := 256#32
  let v1133 : BitVec 32 := Scalar.muli arg18 c256_i32_697
  v1133
def k0_mult41 (i : grid0.Coords) (k0_t11 : Fin (k0_t11_loop i).trips) : BitVec 32 :=
  let c1_i32_333 : BitVec 32 := 1#32
  let c1_i32_335 : BitVec 32 := 1#32
  let arg18 : BitVec 32 := Scf.iv c1_i32_333 c1_i32_335 k0_t11
  let c256_i32_724 : BitVec 32 := 256#32
  let v1177 : BitVec 32 := Scalar.muli arg18 c256_i32_724
  v1177
def k0_mult42 (i : grid0.Coords) (k0_t11 : Fin (k0_t11_loop i).trips) : BitVec 32 :=
  let c1_i32_333 : BitVec 32 := 1#32
  let c1_i32_335 : BitVec 32 := 1#32
  let arg18 : BitVec 32 := Scf.iv c1_i32_333 c1_i32_335 k0_t11
  let c256_i32_751 : BitVec 32 := 256#32
  let v1221 : BitVec 32 := Scalar.muli arg18 c256_i32_751
  v1221
@[reducible] def k0_t12_loop (i : grid0.Coords) : Scf.Loop 32 :=
  let c1_i32_333 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v517 : BitVec 32 := Scalar.subi v20 c1_i32_333
  let c1_i32_334 : BitVec 32 := 1#32
  let v519 : BitVec 32 := Scalar.divsi v517 c1_i32_334
  let v520 : BitVec 32 := Scalar.muli v519 c1_i32_334
  let v521 : BitVec 32 := Scalar.addi c1_i32_333 v520
  let v518 : BitVec 32 := Scalar.addi c1_i32_333 v517
  let c1_i32_336 : BitVec 32 := 1#32
  ⟨v521, v518, c1_i32_336⟩
def k0_mult43 (i : grid0.Coords) (k0_t12 : Fin (k0_t12_loop i).trips) : BitVec 32 :=
  let c1_i32_333 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v517 : BitVec 32 := Scalar.subi v20 c1_i32_333
  let c1_i32_334 : BitVec 32 := 1#32
  let v519 : BitVec 32 := Scalar.divsi v517 c1_i32_334
  let v520 : BitVec 32 := Scalar.muli v519 c1_i32_334
  let v521 : BitVec 32 := Scalar.addi c1_i32_333 v520
  let c1_i32_336 : BitVec 32 := 1#32
  let arg18 : BitVec 32 := Scf.iv v521 c1_i32_336 k0_t12
  let c256_i32_524 : BitVec 32 := 256#32
  let v834 : BitVec 32 := Scalar.muli arg18 c256_i32_524
  v834
def k0_off17 (i : grid0.Coords) (k0_t12 : Fin (k0_t12_loop i).trips) : Fin 2 → Nat :=
  let c1_i32_333 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v517 : BitVec 32 := Scalar.subi v20 c1_i32_333
  let c1_i32_334 : BitVec 32 := 1#32
  let v519 : BitVec 32 := Scalar.divsi v517 c1_i32_334
  let v520 : BitVec 32 := Scalar.muli v519 c1_i32_334
  let v521 : BitVec 32 := Scalar.addi c1_i32_333 v520
  let c1_i32_336 : BitVec 32 := 1#32
  let arg18 : BitVec 32 := Scf.iv v521 c1_i32_336 k0_t12
  let c256_i32_524 : BitVec 32 := 256#32
  let v834 : BitVec 32 := Scalar.muli arg18 c256_i32_524
  let v835 : BitVec 32 := v834
  let v836 : Index := Scalar.indexCast v835
  let c0_525 : Index := 0#32
  ![v836.toNat, 0]
def k0_mult44 (i : grid0.Coords) (k0_t12 : Fin (k0_t12_loop i).trips) : BitVec 32 :=
  let c1_i32_333 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v517 : BitVec 32 := Scalar.subi v20 c1_i32_333
  let c1_i32_334 : BitVec 32 := 1#32
  let v519 : BitVec 32 := Scalar.divsi v517 c1_i32_334
  let v520 : BitVec 32 := Scalar.muli v519 c1_i32_334
  let v521 : BitVec 32 := Scalar.addi c1_i32_333 v520
  let c1_i32_336 : BitVec 32 := 1#32
  let arg18 : BitVec 32 := Scf.iv v521 c1_i32_336 k0_t12
  let c1_i32_529 : BitVec 32 := 1#32
  let v842 : BitVec 32 := Scalar.addi arg18 c1_i32_529
  let c1_i32_530 : BitVec 32 := 1#32
  let v843 : BitVec 32 := Scalar.subi v20 c1_i32_530
  let v844 : BitVec 32 := Scalar.minsi v842 v843
  let c256_i32_531 : BitVec 32 := 256#32
  let v845 : BitVec 32 := Scalar.muli v844 c256_i32_531
  v845
def k0_off18 (i : grid0.Coords) (k0_t12 : Fin (k0_t12_loop i).trips) : Fin 2 → Nat :=
  let c1_i32_333 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v517 : BitVec 32 := Scalar.subi v20 c1_i32_333
  let c1_i32_334 : BitVec 32 := 1#32
  let v519 : BitVec 32 := Scalar.divsi v517 c1_i32_334
  let v520 : BitVec 32 := Scalar.muli v519 c1_i32_334
  let v521 : BitVec 32 := Scalar.addi c1_i32_333 v520
  let c1_i32_336 : BitVec 32 := 1#32
  let arg18 : BitVec 32 := Scf.iv v521 c1_i32_336 k0_t12
  let c1_i32_529 : BitVec 32 := 1#32
  let v842 : BitVec 32 := Scalar.addi arg18 c1_i32_529
  let c1_i32_530 : BitVec 32 := 1#32
  let v843 : BitVec 32 := Scalar.subi v20 c1_i32_530
  let v844 : BitVec 32 := Scalar.minsi v842 v843
  let c256_i32_531 : BitVec 32 := 256#32
  let v845 : BitVec 32 := Scalar.muli v844 c256_i32_531
  let v846 : BitVec 32 := v845
  let v849 : Index := Scalar.indexCast v846
  let c0_534 : Index := 0#32
  ![v849.toNat, 0]
def k0_off19 (i : grid0.Coords) (k0_t12 : Fin (k0_t12_loop i).trips) : Fin 4 → Nat :=
  let c0_552 : Index := 0#32
  let c1_i32_333 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v517 : BitVec 32 := Scalar.subi v20 c1_i32_333
  let c1_i32_334 : BitVec 32 := 1#32
  let v519 : BitVec 32 := Scalar.divsi v517 c1_i32_334
  let v520 : BitVec 32 := Scalar.muli v519 c1_i32_334
  let v521 : BitVec 32 := Scalar.addi c1_i32_333 v520
  let c1_i32_336 : BitVec 32 := 1#32
  let arg18 : BitVec 32 := Scf.iv v521 c1_i32_336 k0_t12
  let c1_i32_547 : BitVec 32 := 1#32
  let v885 : BitVec 32 := Scalar.subi arg18 c1_i32_547
  let v897 : Index := Scalar.indexCast v885
  let c0_553 : Index := 0#32
  let c0_554 : Index := 0#32
  ![0, v897.toNat, 0, 0]
def k0_mult45 (i : grid0.Coords) (k0_t12 : Fin (k0_t12_loop i).trips) : BitVec 32 :=
  let c1_i32_333 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v517 : BitVec 32 := Scalar.subi v20 c1_i32_333
  let c1_i32_334 : BitVec 32 := 1#32
  let v519 : BitVec 32 := Scalar.divsi v517 c1_i32_334
  let v520 : BitVec 32 := Scalar.muli v519 c1_i32_334
  let v521 : BitVec 32 := Scalar.addi c1_i32_333 v520
  let c1_i32_336 : BitVec 32 := 1#32
  let arg18 : BitVec 32 := Scf.iv v521 c1_i32_336 k0_t12
  let c256_i32_562 : BitVec 32 := 256#32
  let v913 : BitVec 32 := Scalar.muli arg18 c256_i32_562
  v913
def k0_off20 (i : grid0.Coords) (k0_t12 : Fin (k0_t12_loop i).trips) : Fin 3 → Nat :=
  let c0_563 : Index := 0#32
  let c1_i32_333 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v517 : BitVec 32 := Scalar.subi v20 c1_i32_333
  let c1_i32_334 : BitVec 32 := 1#32
  let v519 : BitVec 32 := Scalar.divsi v517 c1_i32_334
  let v520 : BitVec 32 := Scalar.muli v519 c1_i32_334
  let v521 : BitVec 32 := Scalar.addi c1_i32_333 v520
  let c1_i32_336 : BitVec 32 := 1#32
  let arg18 : BitVec 32 := Scf.iv v521 c1_i32_336 k0_t12
  let c256_i32_562 : BitVec 32 := 256#32
  let v913 : BitVec 32 := Scalar.muli arg18 c256_i32_562
  let v914 : BitVec 32 := v913
  let v915 : Index := Scalar.indexCast v914
  let c0_564 : Index := 0#32
  ![0, v915.toNat, 0]
def k0_mult46 (i : grid0.Coords) (k0_t12 : Fin (k0_t12_loop i).trips) : BitVec 32 :=
  let c1_i32_333 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v517 : BitVec 32 := Scalar.subi v20 c1_i32_333
  let c1_i32_334 : BitVec 32 := 1#32
  let v519 : BitVec 32 := Scalar.divsi v517 c1_i32_334
  let v520 : BitVec 32 := Scalar.muli v519 c1_i32_334
  let v521 : BitVec 32 := Scalar.addi c1_i32_333 v520
  let c1_i32_336 : BitVec 32 := 1#32
  let arg18 : BitVec 32 := Scf.iv v521 c1_i32_336 k0_t12
  let c256_i32_589 : BitVec 32 := 256#32
  let v957 : BitVec 32 := Scalar.muli arg18 c256_i32_589
  v957
def k0_mult47 (i : grid0.Coords) (k0_t12 : Fin (k0_t12_loop i).trips) : BitVec 32 :=
  let c1_i32_333 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v517 : BitVec 32 := Scalar.subi v20 c1_i32_333
  let c1_i32_334 : BitVec 32 := 1#32
  let v519 : BitVec 32 := Scalar.divsi v517 c1_i32_334
  let v520 : BitVec 32 := Scalar.muli v519 c1_i32_334
  let v521 : BitVec 32 := Scalar.addi c1_i32_333 v520
  let c1_i32_336 : BitVec 32 := 1#32
  let arg18 : BitVec 32 := Scf.iv v521 c1_i32_336 k0_t12
  let c256_i32_616 : BitVec 32 := 256#32
  let v1001 : BitVec 32 := Scalar.muli arg18 c256_i32_616
  v1001
def k0_mult48 (i : grid0.Coords) (k0_t12 : Fin (k0_t12_loop i).trips) : BitVec 32 :=
  let c1_i32_333 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v517 : BitVec 32 := Scalar.subi v20 c1_i32_333
  let c1_i32_334 : BitVec 32 := 1#32
  let v519 : BitVec 32 := Scalar.divsi v517 c1_i32_334
  let v520 : BitVec 32 := Scalar.muli v519 c1_i32_334
  let v521 : BitVec 32 := Scalar.addi c1_i32_333 v520
  let c1_i32_336 : BitVec 32 := 1#32
  let arg18 : BitVec 32 := Scf.iv v521 c1_i32_336 k0_t12
  let c256_i32_643 : BitVec 32 := 256#32
  let v1045 : BitVec 32 := Scalar.muli arg18 c256_i32_643
  v1045
def k0_mult49 (i : grid0.Coords) (k0_t12 : Fin (k0_t12_loop i).trips) : BitVec 32 :=
  let c1_i32_333 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v517 : BitVec 32 := Scalar.subi v20 c1_i32_333
  let c1_i32_334 : BitVec 32 := 1#32
  let v519 : BitVec 32 := Scalar.divsi v517 c1_i32_334
  let v520 : BitVec 32 := Scalar.muli v519 c1_i32_334
  let v521 : BitVec 32 := Scalar.addi c1_i32_333 v520
  let c1_i32_336 : BitVec 32 := 1#32
  let arg18 : BitVec 32 := Scf.iv v521 c1_i32_336 k0_t12
  let c256_i32_670 : BitVec 32 := 256#32
  let v1089 : BitVec 32 := Scalar.muli arg18 c256_i32_670
  v1089
def k0_mult50 (i : grid0.Coords) (k0_t12 : Fin (k0_t12_loop i).trips) : BitVec 32 :=
  let c1_i32_333 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v517 : BitVec 32 := Scalar.subi v20 c1_i32_333
  let c1_i32_334 : BitVec 32 := 1#32
  let v519 : BitVec 32 := Scalar.divsi v517 c1_i32_334
  let v520 : BitVec 32 := Scalar.muli v519 c1_i32_334
  let v521 : BitVec 32 := Scalar.addi c1_i32_333 v520
  let c1_i32_336 : BitVec 32 := 1#32
  let arg18 : BitVec 32 := Scf.iv v521 c1_i32_336 k0_t12
  let c256_i32_697 : BitVec 32 := 256#32
  let v1133 : BitVec 32 := Scalar.muli arg18 c256_i32_697
  v1133
def k0_mult51 (i : grid0.Coords) (k0_t12 : Fin (k0_t12_loop i).trips) : BitVec 32 :=
  let c1_i32_333 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v517 : BitVec 32 := Scalar.subi v20 c1_i32_333
  let c1_i32_334 : BitVec 32 := 1#32
  let v519 : BitVec 32 := Scalar.divsi v517 c1_i32_334
  let v520 : BitVec 32 := Scalar.muli v519 c1_i32_334
  let v521 : BitVec 32 := Scalar.addi c1_i32_333 v520
  let c1_i32_336 : BitVec 32 := 1#32
  let arg18 : BitVec 32 := Scf.iv v521 c1_i32_336 k0_t12
  let c256_i32_724 : BitVec 32 := 256#32
  let v1177 : BitVec 32 := Scalar.muli arg18 c256_i32_724
  v1177
def k0_mult52 (i : grid0.Coords) (k0_t12 : Fin (k0_t12_loop i).trips) : BitVec 32 :=
  let c1_i32_333 : BitVec 32 := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v517 : BitVec 32 := Scalar.subi v20 c1_i32_333
  let c1_i32_334 : BitVec 32 := 1#32
  let v519 : BitVec 32 := Scalar.divsi v517 c1_i32_334
  let v520 : BitVec 32 := Scalar.muli v519 c1_i32_334
  let v521 : BitVec 32 := Scalar.addi c1_i32_333 v520
  let c1_i32_336 : BitVec 32 := 1#32
  let arg18 : BitVec 32 := Scf.iv v521 c1_i32_336 k0_t12
  let c256_i32_751 : BitVec 32 := 256#32
  let v1221 : BitVec 32 := Scalar.muli arg18 c256_i32_751
  v1221
def k0_off21 (i : grid0.Coords) : Fin 4 → Nat :=
  let c0_342 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_337 : BitVec 32 := 1#32
  let v524 : BitVec 32 := Scalar.subi v20 c1_i32_337
  let v536 : Index := Scalar.indexCast v524
  let c0_343 : Index := 0#32
  let c0_344 : Index := 0#32
  ![0, v536.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x272x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x256x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x64x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixPre.lean ====
abbrev S16x2048x1024 : Shape := ⟨3, ![16, 2048, 1024]⟩
abbrev S16x256x1024 : Shape := ⟨3, ![16, 256, 1024]⟩
abbrev S1x1024 : Shape := ⟨2, ![1, 1024]⟩
abbrev S1x1024x5188 : Shape := ⟨3, ![1, 1024, 5188]⟩
abbrev S1x256 : Shape := ⟨2, ![1, 256]⟩
abbrev S1x64 : Shape := ⟨2, ![1, 64]⟩
abbrev S1x31x512 : Shape := ⟨3, ![1, 31, 512]⟩
abbrev S1x512 : Shape := ⟨2, ![1, 512]⟩
abbrev S1x512x1024 : Shape := ⟨3, ![1, 512, 1024]⟩
abbrev S1x1024x1024 : Shape := ⟨3, ![1, 1024, 1024]⟩
abbrev S_ : Shape := ⟨0, ![]⟩
abbrev S1 : Shape := ⟨1, ![1]⟩
abbrev S1024 : Shape := ⟨1, ![1024]⟩
abbrev S1024x5188 : Shape := ⟨2, ![1024, 5188]⟩
abbrev S256 : Shape := ⟨1, ![256]⟩
abbrev S1x1 : Shape := ⟨2, ![1, 1]⟩
abbrev S1x1x1 : Shape := ⟨3, ![1, 1, 1]⟩
abbrev S64 : Shape := ⟨1, ![64]⟩
abbrev S31x512 : Shape := ⟨2, ![31, 512]⟩
abbrev S512 : Shape := ⟨1, ![512]⟩
abbrev S512x1024 : Shape := ⟨2, ![512, 1024]⟩
abbrev S1024x1024 : Shape := ⟨2, ![1024, 1024]⟩
abbrev S5188x1024 : Shape := ⟨2, ![5188, 1024]⟩
abbrev S68x1024 : Shape := ⟨2, ![68, 1024]⟩
abbrev S128x1024 : Shape := ⟨2, ![128, 1024]⟩
abbrev S256x1024 : Shape := ⟨2, ![256, 1024]⟩
abbrev S3072x1024 : Shape := ⟨2, ![3072, 1024]⟩
abbrev S16x2048x256 : Shape := ⟨3, ![16, 2048, 256]⟩
abbrev S16x8x272x256 : Shape := ⟨4, ![16, 8, 272, 256]⟩
abbrev S16x2048x64 : Shape := ⟨3, ![16, 2048, 64]⟩
abbrev S16x8x2048 : Shape := ⟨3, ![16, 8, 2048]⟩
abbrev S1x256x1024 : Shape := ⟨3, ![1, 256, 1024]⟩
abbrev S1x512x256 : Shape := ⟨3, ![1, 512, 256]⟩
abbrev S1x2x272x256 : Shape := ⟨4, ![1, 2, 272, 256]⟩
abbrev S1x512x64 : Shape := ⟨3, ![1, 512, 64]⟩
abbrev S1x8x512 : Shape := ⟨3, ![1, 8, 512]⟩
abbrev S544x512 : Shape := ⟨2, ![544, 512]⟩
abbrev S7x536x512 : Shape := ⟨3, ![7, 536, 512]⟩
abbrev S256x512 : Shape := ⟨2, ![256, 512]⟩
abbrev S512x2048 : Shape := ⟨2, ![512, 2048]⟩
abbrev S512x512 : Shape := ⟨2, ![512, 512]⟩
abbrev S31x8x512 : Shape := ⟨3, ![31, 8, 512]⟩
abbrev S32x512 : Shape := ⟨2, ![32, 512]⟩
abbrev S8x512 : Shape := ⟨2, ![8, 512]⟩
abbrev S256x1 : Shape := ⟨2, ![256, 1]⟩
abbrev S512x1 : Shape := ⟨2, ![512, 1]⟩
abbrev S536x512 : Shape := ⟨2, ![536, 512]⟩
abbrev S1x536x512 : Shape := ⟨3, ![1, 536, 512]⟩
abbrev S512x256 : Shape := ⟨2, ![512, 256]⟩
abbrev S8x128 : Shape := ⟨2, ![8, 128]⟩
abbrev S1x16x512 : Shape := ⟨3, ![1, 16, 512]⟩
abbrev S16x512 : Shape := ⟨2, ![16, 512]⟩
abbrev S2x8x512 : Shape := ⟨3, ![2, 8, 512]⟩
abbrev S16x128 : Shape := ⟨2, ![16, 128]⟩
abbrev S256x256 : Shape := ⟨2, ![256, 256]⟩
abbrev S1x1x256x256 : Shape := ⟨4, ![1, 1, 256, 256]⟩
abbrev S16x256 : Shape := ⟨2, ![16, 256]⟩
abbrev S1x1x16x256 : Shape := ⟨4, ![1, 1, 16, 256]⟩
abbrev S512x128 : Shape := ⟨2, ![512, 128]⟩
abbrev S512x64 : Shape := ⟨2, ![512, 64]⟩
abbrev S128x512 : Shape := ⟨2, ![128, 512]⟩
abbrev S256x128 : Shape := ⟨2, ![256, 128]⟩

abbrev nBuf : Space → Nat
  | .hbm => 83
  | .vmem => 44
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S1x1024, .f32⟩
  | .hbm, ⟨3, _⟩ => ⟨S1x1024x5188, .f32⟩
  | .hbm, ⟨4, _⟩ => ⟨S1x256, .f32⟩
  | .hbm, ⟨5, _⟩ => ⟨S1x256, .f32⟩
  | .hbm, ⟨6, _⟩ => ⟨S1x64, .f32⟩
  | .hbm, ⟨7, _⟩ => ⟨S1x64, .f32⟩
  | .hbm, ⟨8, _⟩ => ⟨S1x31x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512x1024, .f32⟩
  | .hbm, ⟨13, _⟩ => ⟨S1x1024, .f32⟩
  | .hbm, ⟨14, _⟩ => ⟨S1x1024x1024, .f32⟩
  | .hbm, ⟨15, _⟩ => ⟨S1x512x1024, .f32⟩
  | .hbm, ⟨16, _⟩ => ⟨S_, .f32⟩
  | .hbm, ⟨17, _⟩ => ⟨S1, .f32⟩
  | .hbm, ⟨18, _⟩ => ⟨S1024, .f32⟩
  | .hbm, ⟨19, _⟩ => ⟨S1024, .f32⟩
  | .hbm, ⟨20, _⟩ => ⟨S1024x5188, .f32⟩
  | .hbm, ⟨21, _⟩ => ⟨S256, .f32⟩
  | .hbm, ⟨22, _⟩ => ⟨S256, .f32⟩
  | .hbm, ⟨23, _⟩ => ⟨S1x1, .f32⟩
  | .hbm, ⟨24, _⟩ => ⟨S1x1x1, .f32⟩
  | .hbm, ⟨25, _⟩ => ⟨S1x1x1, .f32⟩
  | .hbm, ⟨26, _⟩ => ⟨S1x1, .f32⟩
  | .hbm, ⟨27, _⟩ => ⟨S64, .f32⟩
  | .hbm, ⟨28, _⟩ => ⟨S64, .f32⟩
  | .hbm, ⟨29, _⟩ => ⟨S31x512, .f32⟩
  | .hbm, ⟨30, _⟩ => ⟨S512, .f32⟩
  | .hbm, ⟨31, _⟩ => ⟨S512, .f32⟩
  | .hbm, ⟨32, _⟩ => ⟨S512, .f32⟩
  | .hbm, ⟨33, _⟩ => ⟨S512x1024, .f32⟩
  | .hbm, ⟨34, _⟩ => ⟨S1024, .f32⟩
  | .hbm, ⟨35, _⟩ => ⟨S1024x1024, .f32⟩
  | .hbm, ⟨36, _⟩ => ⟨S512x1024, .f32⟩
  | .hbm, ⟨37, _⟩ => ⟨S5188x1024, .f32⟩
  | .hbm, ⟨38, _⟩ => ⟨S68x1024, .f32⟩
  | .hbm, ⟨39, _⟩ => ⟨S_, .i32⟩
  | .hbm, ⟨40, _⟩ => ⟨S_, .f32⟩
  | .hbm, ⟨41, _⟩ => ⟨S128x1024, .f32⟩
  | .hbm, ⟨42, _⟩ => ⟨S1x1024, .f32⟩
  | .hbm, ⟨43, _⟩ => ⟨S1x1024, .f32⟩
  | .hbm, ⟨44, _⟩ => ⟨S256x1024, .f32⟩
  | .hbm, ⟨45, _⟩ => ⟨S256x1024, .bf16⟩
  | .hbm, ⟨46, _⟩ => ⟨S256x1024, .f32⟩
  | .hbm, ⟨47, _⟩ => ⟨S256x1024, .bf16⟩
  | .hbm, ⟨48, _⟩ => ⟨S128x1024, .bf16⟩
  | .hbm, ⟨49, _⟩ => ⟨S1024x1024, .f32⟩
  | .hbm, ⟨50, _⟩ => ⟨S1024x1024, .bf16⟩
  | .hbm, ⟨51, _⟩ => ⟨S512x1024, .f32⟩
  | .hbm, ⟨52, _⟩ => ⟨S512x1024, .bf16⟩
  | .hbm, ⟨53, _⟩ => ⟨S3072x1024, .f32⟩
  | .hbm, ⟨54, _⟩ => ⟨S3072x1024, .bf16⟩
  | .hbm, ⟨55, _⟩ => ⟨S1x256, .f32⟩
  | .hbm, ⟨56, _⟩ => ⟨S1x256, .f32⟩
  | .hbm, ⟨57, _⟩ => ⟨S1x64, .f32⟩
  | .hbm, ⟨58, _⟩ => ⟨S1x64, .f32⟩
  | .hbm, ⟨59, _⟩ => ⟨S1x512, .f32⟩
  | .hbm, ⟨60, _⟩ => ⟨S1x512, .f32⟩
  | .hbm, ⟨61, _⟩ => ⟨S1x512, .f32⟩
  | .hbm, ⟨62, _⟩ => ⟨S512x1024, .bf16⟩
  | .hbm, ⟨63, _⟩ => ⟨S1x1024, .f32⟩
  | .hbm, ⟨64, _⟩ => ⟨S1024x1024, .bf16⟩
  | .hbm, ⟨65, _⟩ => ⟨S512x1024, .bf16⟩
  | .hbm, ⟨66, _⟩ => ⟨S1x1, .f32⟩
  | .hbm, ⟨67, _⟩ => ⟨S1x1, .bf16⟩
  | .hbm, ⟨68, _⟩ => ⟨S1x1, .f32⟩
  | .hbm, ⟨69, _⟩ => ⟨S1x1, .bf16⟩
  | .hbm, ⟨70, _⟩ => ⟨S1x1x1, .f32⟩
  | .hbm, ⟨71, _⟩ => ⟨S1x1x1, .bf16⟩
  | .hbm, ⟨72, _⟩ => ⟨S1x1x1, .f32⟩
  | .hbm, ⟨73, _⟩ => ⟨S1x1x1, .bf16⟩
  | .hbm, ⟨74, _⟩ => ⟨S1, .bf16⟩
  | .hbm, ⟨75, _⟩ => ⟨S1, .bf16⟩
  | .hbm, ⟨76, _⟩ => ⟨S16x2048x256, .bf16⟩
  | .hbm, ⟨77, _⟩ => ⟨S16x2048x256, .bf16⟩
  | .hbm, ⟨78, _⟩ => ⟨S16x8x272x256, .bf16⟩
  | .hbm, ⟨79, _⟩ => ⟨S16x2048x64, .bf16⟩
  | .hbm, ⟨80, _⟩ => ⟨S16x8x2048, .f32⟩
  | .hbm, ⟨81, _⟩ => ⟨S16x2048x1024, .bf16⟩
  | .hbm, ⟨82, _⟩ => ⟨S16x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S128x1024, .bf16⟩
  | .local _ .vmem, ⟨8, _⟩ => ⟨S1024x1024, .bf16⟩
  | .local _ .vmem, ⟨9, _⟩ => ⟨S512x1024, .bf16⟩
  | .local _ .vmem, ⟨10, _⟩ => ⟨S3072x1024, .bf16⟩
  | .local _ .vmem, ⟨11, _⟩ => ⟨S1x256, .f32⟩
  | .local _ .vmem, ⟨12, _⟩ => ⟨S1x256, .f32⟩
  | .local _ .vmem, ⟨13, _⟩ => ⟨S1x64, .f32⟩
  | .local _ .vmem, ⟨14, _⟩ => ⟨S1x64, .f32⟩
  | .local _ .vmem, ⟨15, _⟩ => ⟨S31x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S512x1024, .bf16⟩
  | .local _ .vmem, ⟨20, _⟩ => ⟨S1x1024, .f32⟩
  | .local _ .vmem, ⟨21, _⟩ => ⟨S1024x1024, .bf16⟩
  | .local _ .vmem, ⟨22, _⟩ => ⟨S512x1024, .bf16⟩
  | .local _ .vmem, ⟨23, _⟩ => ⟨S1x512x256, .bf16⟩
  | .local _ .vmem, ⟨24, _⟩ => ⟨S1x512x256, .bf16⟩
  | .local _ .vmem, ⟨25, _⟩ => ⟨S1x512x256, .bf16⟩
  | .local _ .vmem, ⟨26, _⟩ => ⟨S1x512x256, .bf16⟩
  | .local _ .vmem, ⟨27, _⟩ => ⟨S1x2x272x256, .bf16⟩
  | .local _ .vmem, ⟨28, _⟩ => ⟨S1x2x272x256, .bf16⟩
  | .local _ .vmem, ⟨29, _⟩ => ⟨S1x512x64, .bf16⟩
  | .local _ .vmem, ⟨30, _⟩ => ⟨S1x512x64, .bf16⟩
  | .local _ .vmem, ⟨31, _⟩ => ⟨S1x8x512, .f32⟩
  | .local _ .vmem, ⟨32, _⟩ => ⟨S1x8x512, .f32⟩
  | .local _ .vmem, ⟨33, _⟩ => ⟨S1x512x1024, .bf16⟩
  | .local _ .vmem, ⟨34, _⟩ => ⟨S1x512x1024, .bf16⟩
  | .local _ .vmem, ⟨35, _⟩ => ⟨S1x512x1024, .bf16⟩
  | .local _ .vmem, ⟨36, _⟩ => ⟨S1x512x1024, .bf16⟩
  | .local _ .vmem, ⟨37, _⟩ => ⟨S544x512, .f32⟩
  | .local _ .vmem, ⟨38, _⟩ => ⟨S7x536x512, .f32⟩
  | .local _ .vmem, ⟨39, _⟩ => ⟨S256x512, .bf16⟩
  | .local _ .vmem, ⟨40, _⟩ => ⟨S256x512, .bf16⟩
  | .local _ .vmem, ⟨41, _⟩ => ⟨S512x2048, .f32⟩
  | .local _ .vmem, ⟨42, _⟩ => ⟨S512x512, .f32⟩
  | .local _ .vmem, ⟨43, _⟩ => ⟨S31x8x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_call0_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57_0 : Ref sig .tc := ⟨.hbm, 76, rfl⟩
abbrev main_v57_1 : Ref sig .tc := ⟨.hbm, 77, rfl⟩
abbrev main_v57_2 : Ref sig .tc := ⟨.hbm, 78, rfl⟩
abbrev main_v57_3 : Ref sig .tc := ⟨.hbm, 79, rfl⟩
abbrev main_v57_4 : Ref sig .tc := ⟨.hbm, 80, rfl⟩
abbrev main_v57_5 : Ref sig .tc := ⟨.hbm, 81, rfl⟩
abbrev main_v57_6 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg21_1 : Ref sig .tc := ⟨.vmem, 24, rfl⟩
abbrev cc0_stg22_0 : Ref sig .tc := ⟨.vmem, 25, rfl⟩
abbrev cc0_stg22_1 : Ref sig .tc := ⟨.vmem, 26, rfl⟩
abbrev cc0_stg23_0 : Ref sig .tc := ⟨.vmem, 27, rfl⟩
abbrev cc0_stg23_1 : Ref sig .tc := ⟨.vmem, 28, rfl⟩
abbrev cc0_stg24_0 : Ref sig .tc := ⟨.vmem, 29, rfl⟩
abbrev cc0_stg24_1 : Ref sig .tc := ⟨.vmem, 30, rfl⟩
abbrev cc0_stg25_0 : Ref sig .tc := ⟨.vmem, 31, rfl⟩
abbrev cc0_stg25_1 : Ref sig .tc := ⟨.vmem, 32, rfl⟩
abbrev cc0_stg26_0 : Ref sig .tc := ⟨.vmem, 33, rfl⟩
abbrev cc0_stg26_1 : Ref sig .tc := ⟨.vmem, 34, rfl⟩
abbrev cc0_stg27_0 : Ref sig .tc := ⟨.vmem, 35, rfl⟩
abbrev cc0_stg27_1 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_scratch3 : Ref sig .tc := ⟨.vmem, 40, rfl⟩
abbrev cc0_scratch4 : Ref sig .tc := ⟨.vmem, 41, rfl⟩
abbrev cc0_scratch5 : Ref sig .tc := ⟨.vmem, 42, rfl⟩
abbrev cc0_scratch6 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem21_1 : DmaSem sig := 24
abbrev cc0_sem22_0 : DmaSem sig := 25
abbrev cc0_sem22_1 : DmaSem sig := 26
abbrev cc0_sem23_0 : DmaSem sig := 27
abbrev cc0_sem23_1 : DmaSem sig := 28
abbrev cc0_sem24_0 : DmaSem sig := 29
abbrev cc0_sem24_1 : DmaSem sig := 30
abbrev cc0_sem25_0 : DmaSem sig := 31
abbrev cc0_sem25_1 : DmaSem sig := 32
abbrev cc0_sem26_0 : DmaSem sig := 33
abbrev cc0_sem26_1 : DmaSem sig := 34
abbrev cc0_sem27_0 : DmaSem sig := 35
abbrev cc0_sem27_1 : DmaSem sig := 36

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3072x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S31x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S512x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x2x272x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x64 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x8x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x512x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]
-- ==== MixPreRefIdeal.lean ====
abbrev S16x2048x1024 : Shape := ⟨3, ![16, 2048, 1024]⟩
abbrev S16x256x1024 : Shape := ⟨3, ![16, 256, 1024]⟩
abbrev S1x1024 : Shape := ⟨2, ![1, 1024]⟩
abbrev S1x1024x5188 : Shape := ⟨3, ![1, 1024, 5188]⟩
abbrev S1x256 : Shape := ⟨2, ![1, 256]⟩
abbrev S1x64 : Shape := ⟨2, ![1, 64]⟩
abbrev S1x31x512 : Shape := ⟨3, ![1, 31, 512]⟩
abbrev S1x512 : Shape := ⟨2, ![1, 512]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x5188 : Shape := ⟨2, ![1024, 5188]⟩
abbrev S16x2048x5188 : Shape := ⟨3, ![16, 2048, 5188]⟩
abbrev S16x2048x256 : Shape := ⟨3, ![16, 2048, 256]⟩
abbrev S16x2048x64 : Shape := ⟨3, ![16, 2048, 64]⟩
abbrev S16x2048x4 : Shape := ⟨3, ![16, 2048, 4]⟩
abbrev S16x2048x512 : Shape := ⟨3, ![16, 2048, 512]⟩
abbrev S16x2048x3072 : Shape := ⟨3, ![16, 2048, 3072]⟩
abbrev S256 : Shape := ⟨1, ![256]⟩
abbrev S1x1x256 : Shape := ⟨3, ![1, 1, 256]⟩
abbrev S64 : Shape := ⟨1, ![64]⟩
abbrev S1x1x64 : Shape := ⟨3, ![1, 1, 64]⟩
abbrev S16x8x256x256 : Shape := ⟨4, ![16, 8, 256, 256]⟩
abbrev S16x8x272x256 : Shape := ⟨4, ![16, 8, 272, 256]⟩
abbrev S16x4x2048 : Shape := ⟨3, ![16, 4, 2048]⟩
abbrev S16x8x2048 : Shape := ⟨3, ![16, 8, 2048]⟩

abbrev nBuf : Space → Nat
  | .hbm => 131
  | .vmem => 0
  | .smem => 0
  | _ => 0

abbrev hbmTy0_0 (i : Nat) : BufTy := match i % 128 with
  | 0 => ⟨S16x2048x1024, .f32⟩
  | 1 => ⟨S16x256x1024, .f32⟩
  | 2 => ⟨S1x1024, .f32⟩
  | 3 => ⟨S1x1024x5188, .f32⟩
  | 4 => ⟨S1x256, .f32⟩
  | 5 => ⟨S1x256, .f32⟩
  | 6 => ⟨S1x64, .f32⟩
  | 7 => ⟨S1x64, .f32⟩
  | 8 => ⟨S1x31x512, .f32⟩
  | 9 => ⟨S1x512, .f32⟩
  | 10 => ⟨S1x512, .f32⟩
  | 11 => ⟨S1x512, .f32⟩
  | 12 => ⟨S1x512x1024, .f32⟩
  | 13 => ⟨S1x1024, .f32⟩
  | 14 => ⟨S1x1024x1024, .f32⟩
  | 15 => ⟨S1x512x1024, .f32⟩
  | 16 => ⟨S1024, .f32⟩
  | 17 => ⟨S16x2048x1024, .f32⟩
  | 18 => ⟨S_, .f32⟩
  | 19 => ⟨S16x2048, .f32⟩
  | 20 => ⟨S16x2048x1, .f32⟩
  | 21 => ⟨S_, .f32⟩
  | 22 => ⟨S16x2048x1, .f32⟩
  | 23 => ⟨S16x2048x1, .f32⟩
  | 24 => ⟨S_, .f32⟩
  | 25 => ⟨S16x2048x1, .f32⟩
  | 26 => ⟨S16x2048x1, .f32⟩
  | 27 => ⟨S16x2048x1, .f32⟩
  | 28 => ⟨S16x2048x1024, .f32⟩
  | 29 => ⟨S16x2048x1024, .f32⟩
  | 30 => ⟨S1x1x1024, .f32⟩
  | 31 => ⟨S16x2048x1024, .f32⟩
  | 32 => ⟨S16x2048x1024, .f32⟩
  | 33 => ⟨S1024x5188, .f32⟩
  | 34 => ⟨S16x2048x5188, .f32⟩
  | 35 => ⟨S16x2048x256, .f32⟩
  | 36 => ⟨S16x2048x256, .f32⟩
  | 37 => ⟨S16x2048x64, .f32⟩
  | 38 => ⟨S16x2048x4, .f32⟩
  | 39 => ⟨S16x2048x1024, .f32⟩
  | 40 => ⟨S16x2048x512, .f32⟩
  | 41 => ⟨S16x2048x3072, .f32⟩
  | 42 => ⟨S256, .f32⟩
  | 43 => ⟨S16x2048x256, .f32⟩
  | 44 => ⟨S_, .f32⟩
  | 45 => ⟨S16x2048, .f32⟩
  | 46 => ⟨S16x2048x1, .f32⟩
  | 47 => ⟨S_, .f32⟩
  | 48 => ⟨S16x2048x1, .f32⟩
  | 49 => ⟨S16x2048x1, .f32⟩
  | 50 => ⟨S_, .f32⟩
  | 51 => ⟨S16x2048x1, .f32⟩
  | 52 => ⟨S16x2048x1, .f32⟩
  | 53 => ⟨S16x2048x1, .f32⟩
  | 54 => ⟨S16x2048x256, .f32⟩
  | 55 => ⟨S16x2048x256, .f32⟩
  | 56 => ⟨S1x1x256, .f32⟩
  | 57 => ⟨S16x2048x256, .f32⟩
  | 58 => ⟨S16x2048x256, .f32⟩
  | 59 => ⟨S16x2048x256, .bf16⟩
  | 60 => ⟨S256, .f32⟩
  | 61 => ⟨S16x2048x256, .f32⟩
  | 62 => ⟨S_, .f32⟩
  | 63 => ⟨S16x2048, .f32⟩
  | 64 => ⟨S16x2048x1, .f32⟩
  | 65 => ⟨S_, .f32⟩
  | 66 => ⟨S16x2048x1, .f32⟩
  | 67 => ⟨S16x2048x1, .f32⟩
  | 68 => ⟨S_, .f32⟩
  | 69 => ⟨S16x2048x1, .f32⟩
  | 70 => ⟨S16x2048x1, .f32⟩
  | 71 => ⟨S16x2048x1, .f32⟩
  | 72 => ⟨S16x2048x256, .f32⟩
  | 73 => ⟨S16x2048x256, .f32⟩
  | 74 => ⟨S1x1x256, .f32⟩
  | 75 => ⟨S16x2048x256, .f32⟩
  | 76 => ⟨S16x2048x256, .f32⟩
  | 77 => ⟨S16x2048x256, .bf16⟩
  | 78 => ⟨S64, .f32⟩
  | 79 => ⟨S64, .f32⟩
  | 80 => ⟨S_, .f32⟩
  | 81 => ⟨S16x2048, .f32⟩
  | 82 => ⟨S16x2048x1, .f32⟩
  | 83 => ⟨S_, .f32⟩
  | 84 => ⟨S16x2048x1, .f32⟩
  | 85 => ⟨S16x2048x1, .f32⟩
  | 86 => ⟨S16x2048x64, .f32⟩
  | 87 => ⟨S16x2048x64, .f32⟩
  | 88 => ⟨S16x2048x64, .f32⟩
  | 89 => ⟨S_, .f32⟩
  | 90 => ⟨S16x2048, .f32⟩
  | 91 => ⟨S16x2048x1, .f32⟩
  | 92 => ⟨S_, .f32⟩
  | 93 => ⟨S16x2048x1, .f32⟩
  | 94 => ⟨S16x2048x1, .f32⟩
  | 95 => ⟨S_, .f32⟩
  | 96 => ⟨S16x2048x1, .f32⟩
  | 97 => ⟨S16x2048x1, .f32⟩
  | 98 => ⟨S16x2048x1, .f32⟩
  | 99 => ⟨S16x2048x64, .f32⟩
  | 100 => ⟨S16x2048x64, .f32⟩
  | 101 => ⟨S1x1x64, .f32⟩
  | 102 => ⟨S16x2048x64, .f32⟩
  | 103 => ⟨S16x2048x64, .f32⟩
  | 104 => ⟨S1x1x64, .f32⟩
  | 105 => ⟨S16x2048x64, .f32⟩
  | 106 => ⟨S16x2048x64, .f32⟩
  | 107 => ⟨S16x2048x64, .bf16⟩
  | 108 => ⟨S16x2048x1024, .f32⟩
  | 109 => ⟨S16x2048x1024, .f32⟩
  | 110 => ⟨S16x2048x1024, .f32⟩
  | 111 => ⟨S_, .f32⟩
  | 112 => ⟨S16x2048x1024, .f32⟩
  | 113 => ⟨S16x2048x1024, .f32⟩
  | 114 => ⟨S_, .f32⟩
  | 115 => ⟨S16x2048x1024, .f32⟩
  | 116 => ⟨S16x2048x1024, .f32⟩
  | 117 => ⟨S16x2048x1024, .bf16⟩
  | 118 => ⟨S16x8x256x256, .f32⟩
  | 119 => ⟨S16x8x256x256, .f32⟩
  | 120 => ⟨S_, .f32⟩
  | 121 => ⟨S_, .f32⟩
  | 122 => ⟨S16x8x272x256, .f32⟩
  | 123 => ⟨S16x8x272x256, .bf16⟩
  | 124 => ⟨S_, .f32⟩
  | 125 => ⟨S16x2048x4, .f32⟩
  | 126 => ⟨S16x2048x4, .f32⟩
  | 127 => ⟨S16x4x2048, .f32⟩
  | _ => ⟨S16x2048x1024, .f32⟩

abbrev hbmTy0_1 (i : Nat) : BufTy := match i % 128 with
  | 0 => ⟨S_, .i32⟩
  | 1 => ⟨S_, .f32⟩
  | 2 => ⟨S16x8x2048, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_8 : Ref sig .tc := ⟨.hbm, 80, rfl⟩
abbrev main_v55 : Ref sig .tc := ⟨.hbm, 81, rfl⟩
abbrev main_v56 : Ref sig .tc := ⟨.hbm, 82, rfl⟩
abbrev main_cst_9 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_10 : Ref sig .tc := ⟨.hbm, 89, rfl⟩
abbrev main_v62 : Ref sig .tc := ⟨.hbm, 90, rfl⟩
abbrev main_v63 : Ref sig .tc := ⟨.hbm, 91, rfl⟩
abbrev main_cst_11 : Ref sig .tc := ⟨.hbm, 92, rfl⟩
abbrev main_v64 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_13 : Ref sig .tc := ⟨.hbm, 111, rfl⟩
abbrev main_v81 : Ref sig .tc := ⟨.hbm, 112, rfl⟩
abbrev main_v82 : Ref sig .tc := ⟨.hbm, 113, rfl⟩
abbrev main_cst_14 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_15 : Ref sig .tc := ⟨.hbm, 120, rfl⟩
abbrev main_call0_v0 : Ref sig .tc := ⟨.hbm, 121, rfl⟩
abbrev main_v88 : Ref sig .tc := ⟨.hbm, 122, rfl⟩
abbrev main_v89 : Ref sig .tc := ⟨.hbm, 123, rfl⟩
abbrev main_cst_16 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c : Ref sig .tc := ⟨.hbm, 128, rfl⟩
abbrev main_call1_v0 : Ref sig .tc := ⟨.hbm, 129, rfl⟩
abbrev main_v93 : Ref sig .tc := ⟨.hbm, 130, rfl⟩

abbrev nD : Nat := 1
abbrev τ : Topo := Topo.v7x

variable {F : FTy → Type} [FloatOps F]
-- ==== Proof.Rows.lean ====
module

public import Idealize.ShloMosaic.Lib.MatmulPlain
public import Idealize.ShloMosaic.Lib.ValueIdx
public import Idealize.ShloMosaic.Lib.ValueLayout
public import Idealize.ShloMosaic.Lib.Pipeline.Value

/-!
# One token's row

Every step of the feed-forward half and of the merge before it acts on one token's row at a time. This module
defines those steps on rows of extended reals, and shows that the kernel's vector operations on a block of rows, read
at row `r` and column `c`, are those steps on row `r`, read at `c`.
-/

@[expose] public section

namespace Layer

open Idealize.ShloMosaic Idealize.ShloMosaic.ValueIdx
open scoped BigOperators

/-- One token's values along one axis. -/
abbrev Row (n : ℕ) := Fin n → EReal

/-- Row `r` of a matrix. -/
abbrev rowOf {m n : ℕ} {φ : FTy} (x : FVec Ideal ⟨2, ![m, n]⟩ φ) (r : Fin m) : Row n := fun k => x (ix2 r k)

/-- A matrix by its two coordinates. -/
abbrev matOf {m n : ℕ} {φ : FTy} (x : FVec Ideal ⟨2, ![m, n]⟩ φ) : Fin m → Fin n → EReal := fun i j => x (ix2 i j)

/-- The normalisation of a row: divide by the root of the mean square, whose divisor and small addend are the two
    given words, and multiply by the gain. -/
noncomputable def rms {n : ℕ} (d e : BitVec 32) (x g : Row n) : Row n := fun j =>
  x j * Ideal.rsqrt (Ideal.div (∑ k, x k * x k) (Ideal.ofBits .f32 d) + Ideal.ofBits .f32 e) * g j

/-- A row times a matrix. -/
noncomputable def mul {k n : ℕ} (x : Row k) (w : Fin k → Fin n → EReal) : Row n := fun j => ∑ i, x i * w i j

/-- The normalisation over the model's width, 1024. -/
noncomputable abbrev rmsD (x g : Row 1024) : Row 1024 := rms 0x44800000#32 0x358637BD#32 x g

/-- The gated hidden row: `silu` of the gate half times the other half. -/
noncomputable def hidden (h : Row 1024) (w : Fin 1024 → Fin 5632 → EReal) : Row 2816 := fun j =>
  mul h w ⟨j.val, by have := j.isLt; omega⟩ * Ideal.logistic (mul h w ⟨j.val, by have := j.isLt; omega⟩)
    * mul h w ⟨2816 + j.val, by have := j.isLt; omega⟩

/-- The feed-forward half step on one row. -/
noncomputable def ffnRow (x g1 g2 : Row 1024) (wgu : Fin 1024 → Fin 5632 → EReal) (wd : Fin 2816 → Fin 1024 → EReal) : Row 1024 :=
  fun j => x j + Ideal.ofBits .f32 0x3F000000#32 * rmsD (mul (hidden (rmsD x g1) wgu) wd) g2 j

/-- The merge of the attention's row with the other two branches, its output projection and residual. -/
noncomputable def mergeRow (x : Row 1024) (oa : Row 512) (ga mbm : Row 1024) (wo : Fin 512 → Fin 1024 → EReal)
    (wout : Fin 1024 → Fin 1024 → EReal) (g : Row 1024) : Row 1024 :=
  fun j => x j + rmsD (mul (fun i => ga i * mul oa wo i + mbm i) wout) g j

/-- The hidden sum taken in two runs, the first 1536 columns and the last 1280. -/
theorem mul_split {n : ℕ} (x : Row 2816) (w : Fin 2816 → Fin n → EReal) (j : Fin n) :
    mul x w j = (∑ k : Fin 1536, x ⟨k.val, by have := k.isLt; omega⟩ * w ⟨k.val, by have := k.isLt; omega⟩ j)
      + ∑ k : Fin 1280, x ⟨1536 + k.val, by have := k.isLt; omega⟩ * w ⟨1536 + k.val, by have := k.isLt; omega⟩ j := by
  unfold mul
  exact Fin.sum_univ_add (a := 1536) (b := 1280) fun i : Fin (1536 + 1280) => x i * w i j

/-! ## The kernel's operations at one entry -/

/-- A `[m, 1]` column broadcast to `[m, n]` reads the column at its row. -/
theorem column_apply {α : Type} {m n : ℕ} (v : (⟨2, ![m, 1]⟩ : Shape).Idx → α) (h : (⟨2, ![m, 1]⟩ : Shape).Broadcasts ⟨2, ![m, n]⟩)
    (r : Fin m) (c : Fin n) : broadcastTo ⟨2, ![m, n]⟩ v h (ix2 r c) = v (ix2 r (0 : Fin 1)) := by
  refine broadcastTo_apply v h (ix2 r c) (ix2 r (0 : Fin 1)) fun ax => ?_
  match ax with
  | ⟨0, _⟩ =>
    show r.val = if m = 1 then 0 else r.val
    split
    · have := r.isLt; omega
    · rfl
  | ⟨1, _⟩ => rfl

/-- A vector of `m` sums laid as a column reads the vector. -/
theorem asColumn_apply {α : Type} {m : ℕ} (v : (⟨1, ![m]⟩ : Shape).Idx → α) (h : (⟨1, ![m]⟩ : Shape).ShapeCasts ⟨2, ![m, 1]⟩)
    (r : Fin m) : shapeCast ⟨2, ![m, 1]⟩ v h (ix2 r (0 : Fin 1)) = v (ix1 r) :=
  shapeCast_apply v h (ix2 r (0 : Fin 1)) (ix1 r) (by
    rw [Shape.rowMajor_val_two, Shape.rowMajor_val_one]; show r.val = r.val * 1 + 0; omega)

/-- A sum along a matrix's rows, at row `r`. -/
theorem rowSum_apply {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ) (r : Fin m) :
    multiReduction .add [1] ⟨1, ![m]⟩ x acc h hφ hacc (ix1 r) = ∑ k : Fin n, x (ix2 r k) := by
  rw [Ideal.multiReduction_add_single]
  refine Finset.sum_congr rfl fun k _ => congrArg x ?_
  funext a
  apply Fin.ext
  match a with
  | ⟨0, _⟩ => rfl
  | ⟨1, _⟩ => rfl

/-- A matrix product into a zero block, at row `r`, is row `r` times the matrix. -/
theorem matmul_apply {M K N : ℕ} {φ₁ φ₂ : FTy} (d : DotDims ⟨2, ![M, K]⟩ ⟨2, ![K, N]⟩ ⟨2, ![M, N]⟩) (hd : d = DotDims.plain M K N)
    (lhs : FVec Ideal ⟨2, ![M, K]⟩ φ₁) (rhs : FVec Ideal ⟨2, ![K, N]⟩ φ₂) (r : Fin M) (c : Fin N) :
    matmul d none lhs rhs (constant ⟨2, ![M, N]⟩ .f32 0x00000000#32) (ix2 r c) = mul (rowOf lhs r) (matOf rhs) c := by
  subst hd
  refine (Ideal.matmul_plain_apply none lhs rhs _ r c).trans ?_
  rw [constant_apply, show Ideal.ofBits .f32 0x00000000#32 = 0 from Ideal.ofBits_zero_f32, zero_add]
  rfl

/-- The kernel's normalisation of a block of rows, at row `r` and column `c`, given the block's row sums. -/
theorem rms_apply {m n : ℕ} (d e : BitVec 32) (x : FVec Ideal ⟨2, ![m, n]⟩ .f32) (g : FVec Ideal ⟨2, ![1, n]⟩ .f32)
    (s : FVec Ideal ⟨1, ![m]⟩ .f32) (hs : ∀ r, s (ix1 r) = ∑ k : Fin n, x (ix2 r k) * x (ix2 r k))
    (hc : (⟨1, ![m]⟩ : Shape).ShapeCasts ⟨2, ![m, 1]⟩) (hb : (⟨2, ![m, 1]⟩ : Shape).Broadcasts ⟨2, ![m, n]⟩)
    (hg : (⟨2, ![1, n]⟩ : Shape).Broadcasts ⟨2, ![m, n]⟩) (r : Fin m) (c : Fin n) :
    mulf (mulf x (broadcastTo ⟨2, ![m, n]⟩ (rsqrt (addf (divf (shapeCast ⟨2, ![m, 1]⟩ s hc)
        (broadcast ⟨2, ![m, 1]⟩ (Scalar.ofBits .f32 d : Ideal .f32)))
        (broadcast ⟨2, ![m, 1]⟩ (Scalar.ofBits .f32 e : Ideal .f32)))) hb)) (broadcastTo ⟨2, ![m, n]⟩ g hg) (ix2 r c)
      = rms d e (rowOf x r) (rowOf g 0) c := by
  rw [mulf_apply, mulf_apply, column_apply, broadcastTo_1b_ab_apply]
  show x (ix2 r c) * Ideal.rsqrt (Ideal.div (shapeCast ⟨2, ![m, 1]⟩ s hc (ix2 r 0)) (Ideal.ofBits .f32 d) + Ideal.ofBits .f32 e) * _ = _
  rw [asColumn_apply, hs]
  rfl

/-- The same, as a row, where the kernel narrows the block for its products. -/
theorem rms_row {m n : ℕ} (d e : BitVec 32) (x : FVec Ideal ⟨2, ![m, n]⟩ .f32) (g : FVec Ideal ⟨2, ![1, n]⟩ .f32)
    (s : FVec Ideal ⟨1, ![m]⟩ .f32) (hs : ∀ r, s (ix1 r) = ∑ k : Fin n, x (ix2 r k) * x (ix2 r k))
    (hc : (⟨1, ![m]⟩ : Shape).ShapeCasts ⟨2, ![m, 1]⟩) (hb : (⟨2, ![m, 1]⟩ : Shape).Broadcasts ⟨2, ![m, n]⟩)
    (hg : (⟨2, ![1, n]⟩ : Shape).Broadcasts ⟨2, ![m, n]⟩) (ht : FTy.bf16.bits < FTy.f32.bits) (r : Fin m) :
    rowOf (φ := .bf16) (truncf .bf16 (mulf (mulf x (broadcastTo ⟨2, ![m, n]⟩ (rsqrt (addf (divf (shapeCast ⟨2, ![m, 1]⟩ s hc)
        (broadcast ⟨2, ![m, 1]⟩ (Scalar.ofBits .f32 d : Ideal .f32)))
        (broadcast ⟨2, ![m, 1]⟩ (Scalar.ofBits .f32 e : Ideal .f32)))) hb)) (broadcastTo ⟨2, ![m, n]⟩ g hg)) ht) r
      = rms d e (rowOf x r) (rowOf g 0) :=
  funext fun c => rms_apply d e x g s hs hc hb hg r c

/-- A load of a rectangle of a matrix, at an entry: the matrix at the entry shifted by the rectangle's corner. -/
theorem ld_apply {m n p q : ℕ} {e : EltTy} (x : Vec Ideal ⟨2, ![m, n]⟩ e) (a b : ℕ)
    (inb : ∀ d, (![a, b] : Fin 2 → ℕ) d + (⟨2, ![p, q]⟩ : Shape).size d ≤ (⟨2, ![m, n]⟩ : Shape).size d)
    (i : Fin p) (j : Fin q) (i' : Fin m) (j' : Fin n) (hi : i'.val = a + i.val) (hj : j'.val = b + j.val) :
    View.ld x (Rect.unit (s := ⟨2, ![m, n]⟩) ![a, b] (⟨2, ![p, q]⟩ : Shape).size inb) (ix2 i j) = x (ix2 i' j') := by
  show x _ = x _
  refine congrArg x (funext fun d => Fin.ext ?_)
  match d with
  | ⟨0, _⟩ => show a + 1 * i.val = i'.val; omega
  | ⟨1, _⟩ => show b + 1 * j.val = j'.val; omega

/-- One run of hidden columns: the gate columns `wg`, the other half's columns `wu`, and the rows `wd` of the second
    matrix they meet. At row `r` the kernel's products are the gated sum over the run. -/
theorem run_apply {M K n N : ℕ} (d₁ : DotDims ⟨2, ![M, K]⟩ ⟨2, ![K, n]⟩ ⟨2, ![M, n]⟩) (h₁ : d₁ = DotDims.plain M K n)
    (d₂ : DotDims ⟨2, ![M, n]⟩ ⟨2, ![n, N]⟩ ⟨2, ![M, N]⟩) (h₂ : d₂ = DotDims.plain M n N)
    (h : FVec Ideal ⟨2, ![M, K]⟩ .bf16) (wg wu : FVec Ideal ⟨2, ![K, n]⟩ .bf16) (wd : FVec Ideal ⟨2, ![n, N]⟩ .bf16)
    (hb : FTy.bf16.bits < FTy.f32.bits) (r : Fin M) (c : Fin N) :
    matmul d₂ none (truncf .bf16 (mulf (mulf (matmul d₁ none h wg (constant ⟨2, ![M, n]⟩ .f32 0x00000000#32))
        (logistic (matmul d₁ none h wg (constant ⟨2, ![M, n]⟩ .f32 0x00000000#32))))
        (matmul d₁ none h wu (constant ⟨2, ![M, n]⟩ .f32 0x00000000#32))) hb) wd (constant ⟨2, ![M, N]⟩ .f32 0x00000000#32) (ix2 r c)
      = ∑ k : Fin n, mul (rowOf h r) (matOf wg) k * Ideal.logistic (mul (rowOf h r) (matOf wg) k) * mul (rowOf h r) (matOf wu) k
          * wd (ix2 k c) := by
  rw [matmul_apply d₂ h₂]
  unfold mul
  refine Finset.sum_congr rfl fun k _ => congrArg (· * wd (ix2 k c)) ?_
  show mulf (mulf (matmul d₁ none h wg (constant ⟨2, ![M, n]⟩ .f32 0x00000000#32)) _) _ (ix2 r k) = _
  rw [mulf_apply, mulf_apply]
  have e := matmul_apply d₁ h₁ h wg r k
  have e' := matmul_apply d₁ h₁ h wu r k
  show matmul d₁ none h wg _ (ix2 r k) * Ideal.logistic (matmul d₁ none h wg _ (ix2 r k)) * _ = _
  rw [e, e']
  rfl

/-- The two runs of hidden columns together: with the two halves' columns read from one matrix `wgu` and the second
    matrix's rows from `wd`, the two runs' sums add to the hidden row times `wd`. -/
theorem runs_eq (h : Row 1024) (wgu : Fin 1024 → Fin 5632 → EReal) (wd : Fin 2816 → Fin 1024 → EReal)
    (g₁ u₁ : Fin 1024 → Fin 1536 → EReal) (d₁ : Fin 1536 → Fin 1024 → EReal)
    (g₂ u₂ : Fin 1024 → Fin 1280 → EReal) (d₂ : Fin 1280 → Fin 1024 → EReal)
    (hg₁ : ∀ i (k : Fin 1536), g₁ i k = wgu i ⟨k.val, by have := k.isLt; omega⟩)
    (hu₁ : ∀ i (k : Fin 1536), u₁ i k = wgu i ⟨2816 + k.val, by have := k.isLt; omega⟩)
    (hd₁ : ∀ (k : Fin 1536) j, d₁ k j = wd ⟨k.val, by have := k.isLt; omega⟩ j)
    (hg₂ : ∀ i (k : Fin 1280), g₂ i k = wgu i ⟨1536 + k.val, by have := k.isLt; omega⟩)
    (hu₂ : ∀ i (k : Fin 1280), u₂ i k = wgu i ⟨4352 + k.val, by have := k.isLt; omega⟩)
    (hd₂ : ∀ (k : Fin 1280) j, d₂ k j = wd ⟨1536 + k.val, by have := k.isLt; omega⟩ j) (c : Fin 1024) :
    (∑ k : Fin 1536, mul h g₁ k * Ideal.logistic (mul h g₁ k) * mul h u₁ k * d₁ k c)
      + (∑ k : Fin 1280, mul h g₂ k * Ideal.logistic (mul h g₂ k) * mul h u₂ k * d₂ k c)
      = mul (hidden h wgu) wd c := by
  rw [mul_split]
  congr 1
  · refine Finset.sum_congr rfl fun k _ => ?_
    unfold hidden mul
    simp only [hg₁, hu₁, hd₁]
  · refine Finset.sum_congr rfl fun k _ => ?_
    have e : (⟨2816 + (1536 + k.val), by have := k.isLt; omega⟩ : Fin 5632) = ⟨4352 + k.val, by have := k.isLt; omega⟩ :=
      Fin.ext (by show 2816 + (1536 + k.val) = 4352 + k.val; omega)
    unfold hidden mul
    simp only [hg₂, hu₂, hd₂, e]

end Layer
-- ==== Proof.FfnBlock.lean ====
module

public import proofs.«01_k».proof.Proof.Rows
public import proofs.«01_k».proof.Proof.Gen.FfnIdeal.Frame

/-!
# What one block of the feed-forward call computes

The body's stored block, at row `r` and column `c`, is the feed-forward half step of row `r` of its input block.
-/

@[expose] public section

namespace Cert.FfnIdeal.Rows

open Cert.FfnIdeal Cert.FfnIdeal.Gen Idealize.ShloMosaic Idealize.ShloMosaic.ValueIdx Layer
open scoped BigOperators

theorem hz : (![0, 0] : Fin 2 → Nat) = fun _ => 0 := funext fun a => by fin_cases a <;> rfl

/-- The normalised input block. -/
theorem pay3_apply (x : Vec Ideal S512x1024 .f32) (g : Vec Ideal S1x1024 .f32) (r : Fin 512) (c : Fin 1024) :
    k0_pay3 (F := Ideal) x g (ix2 r c) = rmsD (rowOf (φ := .f32) x r) (rowOf (φ := .f32) g 0) c := by
  unfold k0_pay3 k0_pay2
  simp only [shapeCast_self]
  exact rms_apply 0x44800000#32 0x358637BD#32 x g _ (fun r => rowSum_apply _ _ _ _ _ r) _ _ _ r c

/-- The stored block. -/
theorem out_apply (x0 : Vec Ideal S512x1024 .f32) (x1 x2 : Vec Ideal S1x1024 .f32) (x3 : Vec Ideal S1024x5632 .bf16)
    (x4 : Vec Ideal S2816x1024 .bf16) (r : Fin 512) (c : Fin 1024) :
    out0_5 (F := Ideal) x0 x1 x2 x3 x4 (ix2 r c)
      = ffnRow (rowOf (φ := .f32) x0 r) (rowOf (φ := .f32) x1 0) (rowOf (φ := .f32) x2 0) (matOf (φ := .bf16) x3) (matOf (φ := .bf16) x4) c := by
  unfold out0_5
  rw [View.canon_unit_zero (S := S512x1024) hz, View.ld_unit_zero (S := S512x1024) hz, View.ld_unit_zero (S := S1x1024) hz,
    View.ld_unit_zero (S := S1x1024) hz]
  have hsum : ∀ (r : Fin 512) (c : Fin 1024),
      addf (k0_pay4 (F := Ideal) x0 x1 (View.ld x3 r0_2) (View.ld x3 r0_3) (View.ld x4 r0_4))
        (matmul (φ₂ := .bf16) dot_S512x1280_S1280x1024_S512x1024_1_0_0_1_n_n none
          (truncf .bf16 (mulf (mulf (k0_pay5 x0 x1 (View.ld x3 r0_5)) (k0_pay7 x0 x1 (View.ld x3 r0_5))) (k0_pay6 x0 x1 (View.ld x3 r0_6))) bitsLt_bf16_f32)
          (View.ld x4 r0_7) (constant S512x1024 .f32 0x00000000#32)) (ix2 r c)
        = mul (hidden (rmsD (rowOf (φ := .f32) x0 r) (rowOf (φ := .f32) x1 0)) (matOf (φ := .bf16) x3)) (matOf (φ := .bf16) x4) c := by
    intro r c
    have hr : rowOf (φ := .bf16) (k0_pay3 (F := Ideal) x0 x1) r = rmsD (rowOf (φ := .f32) x0 r) (rowOf (φ := .f32) x1 0) :=
      funext fun k => pay3_apply x0 x1 r k
    rw [addf_apply]
    unfold k0_pay7 k0_pay6 k0_pay5 k0_pay4
    simp only [shapeCast_self]
    rw [run_apply dot_S512x1024_S1024x1536_S512x1536_1_0_0_1_n_n rfl dot_S512x1536_S1536x1024_S512x1024_1_0_0_1_n_n rfl,
      run_apply dot_S512x1024_S1024x1280_S512x1280_1_0_0_1_n_n rfl dot_S512x1280_S1280x1024_S512x1024_1_0_0_1_n_n rfl, hr]
    refine runs_eq _ _ _ _ _ (matOf (φ := .bf16) (View.ld x4 r0_4)) _ _ (matOf (φ := .bf16) (View.ld x4 r0_7)) ?_ ?_ ?_ ?_ ?_ ?_ c
    all_goals intro i k
    all_goals exact ld_apply _ _ _ _ _ _ _ _ (by simp) (by simp)
  unfold k0_pay1 k0_pay2
  simp only [shapeCast_self]
  rw [addf_apply, mulf_apply, rms_apply 0x44800000#32 0x358637BD#32 _ _ _ (fun r => rowSum_apply _ _ _ _ _ r)]
  rw [show rowOf (φ := .f32) (addf _ _) r = _ from funext fun k => hsum r k]
  rfl

end Cert.FfnIdeal.Rows
-- ==== Proof.FfnArray.lean ====
module

public import proofs.«01_k».proof.Proof.FfnBlock
public import proofs.«01_k».proof.Proof.Gen.FfnIdeal.Value
public import Idealize.ShloMosaic.Lib.StableHlo.Run

/-!
# The feed-forward call's result array

The sixty-four blocks of 512 rows tile the result, so row `r` of the array after the run is the feed-forward half
step of row `r` of the reshaped input.
-/

@[expose] public section

namespace Cert.FfnIdeal.Rows

open Cert.FfnIdeal Cert.FfnIdeal.Gen Idealize.ShloMosaic Idealize.ShloMosaic.ValueIdx Idealize.ShloMosaic.TcCoe Layer
open Idealize.SL.Sem
open Idealize.ShloMosaic.Pipeline (Dat)
open scoped BigOperators

variable (m : (ℓ : Loc nD τ sig) → Buf (Elt Ideal) ℓ) (ρ : Dev nD → PrngReg)

/-- The input's rows, one per token. -/
noncomputable abbrev tokens (x : Vec Ideal S16x2048x1024 .f32) : FVec Ideal S32768x1024 .f32 :=
  shapeCast S32768x1024 x shapeCasts_S16x2048x1024_S32768x1024
/-- The first weight without its layer axis. -/
noncomputable abbrev weightGU (x : Vec Ideal S1x1024x5632 .f32) : FVec Ideal S1024x5632 .f32 :=
  shapeCast S1024x5632 x shapeCasts_S1x1024x5632_S1024x5632
/-- The second weight without its layer axis. -/
noncomputable abbrev weightDown (x : Vec Ideal S1x2816x1024 .f32) : FVec Ideal S2816x1024 .f32 :=
  shapeCast S2816x1024 x shapeCasts_S1x2816x1024_S2816x1024

/-- The whole call on the arguments' contents. -/
noncomputable def whole (x : Vec Ideal S16x2048x1024 .f32) (g1 g2 : Vec Ideal S1x1024 .f32) (wgu : Vec Ideal S1x1024x5632 .f32)
    (wd : Vec Ideal S1x2816x1024 .f32) : FVec Ideal S32768x1024 .f32 := fun i =>
  ffnRow (rowOf (tokens x) (i 0)) (rowOf (φ := .f32) g1 0) (rowOf (φ := .f32) g2 0) (matOf (weightGU wgu)) (matOf (weightDown wd)) (i 1)

theorem V_v0 (c : Dev nD) : V m c main_v0 = tokens (m ((c : Thread nD τ).loc main_arg0)) := by
  show StableHlo.after hostOps0 _ _ = _
  after_results
  all_goals rfl
theorem V_v5 (c : Dev nD) : V m c main_v5 = shapeCast S1x1024 (shapeCast S1024 (m ((c : Thread nD τ).loc main_arg1)) shapeCasts_S1x1024_S1024) shapeCasts_S1024_S1x1024 := by
  show StableHlo.after hostOps0 _ _ = _
  after_results
  all_goals rfl
theorem V_v6 (c : Dev nD) : V m c main_v6 = shapeCast S1x1024 (shapeCast S1024 (m ((c : Thread nD τ).loc main_arg2)) shapeCasts_S1x1024_S1024) shapeCasts_S1024_S1x1024 := by
  show StableHlo.after hostOps0 _ _ = _
  after_results
  all_goals rfl
theorem V_v7 (c : Dev nD) : V m c main_v7 = weightGU (m ((c : Thread nD τ).loc main_arg3)) := by
  show StableHlo.after hostOps0 _ _ = _
  after_results
  all_goals rfl
theorem V_v8 (c : Dev nD) : V m c main_v8 = weightDown (m ((c : Thread nD τ).loc main_arg4)) := by
  show StableHlo.after hostOps0 _ _ = _
  after_results
  all_goals rfl

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])

theorem lt64 (t : Fin cfg0.N) : t.val < 64 := lt_of_lt_of_eq t.isLt N_0

/-- Block `t` of the input, at row `r`: row `512 t + r` of the tokens. -/
theorem block0 (c : Dev nD) (t : Fin cfg0.N) (r : Fin 512) (k : Fin 1024) (R : Fin 32768) (hR : R.val = t.val * 512 + r.val) :
    (iblk m c 0 t : Vec Ideal S512x1024 .f32) (ix2 r k) = tokens (m ((c : Thread nD τ).loc main_arg0)) (ix2 R k) := by
  rw [← V_v0]
  show V m c main_v0 _ = V m c main_v0 _
  refine congrArg _ (funext fun a => Fin.ext ?_)
  match a with
  | ⟨0, _⟩ => show win0_0.index t 0 * 512 + 1 * r.val = R.val; rw [idx0]; show t.val * 512 + 1 * r.val = R.val; omega
  | ⟨1, _⟩ => show win0_0.index t 1 * 1024 + 1 * k.val = k.val; rw [idx0]; show 0 * 1024 + 1 * k.val = k.val; omega

theorem block1 (c : Dev nD) (t : Fin cfg0.N) (k : Fin 1024) :
    (iblk m c 1 t : Vec Ideal S1x1024 .f32) (ix2 0 k) = (m ((c : Thread nD τ).loc main_arg1) : Vec Ideal S1x1024 .f32) (ix2 0 k) := by
  have e : (iblk m c 1 t : Vec Ideal S1x1024 .f32) (ix2 0 k) = V m c main_v5 (ix2 (0 : Fin 1) k) := by
    show V m c main_v5 _ = V m c main_v5 _
    refine congrArg _ (funext fun a => Fin.ext ?_)
    match a with
    | ⟨0, _⟩ => show win0_1.index t 0 * 1 + 1 * 0 = 0; rw [idx1]; rfl
    | ⟨1, _⟩ => show win0_1.index t 1 * 1024 + 1 * k.val = k.val; rw [idx1]; show 0 * 1024 + 1 * k.val = k.val; omega
  rw [e, V_v5]
  exact (shapeCast_a_1a_apply _ _ _ _).trans (shapeCast_1a_a_apply _ _ _)

theorem block2 (c : Dev nD) (t : Fin cfg0.N) (k : Fin 1024) :
    (iblk m c 2 t : Vec Ideal S1x1024 .f32) (ix2 0 k) = (m ((c : Thread nD τ).loc main_arg2) : Vec Ideal S1x1024 .f32) (ix2 0 k) := by
  have e : (iblk m c 2 t : Vec Ideal S1x1024 .f32) (ix2 0 k) = V m c main_v6 (ix2 (0 : Fin 1) k) := by
    show V m c main_v6 _ = V m c main_v6 _
    refine congrArg _ (funext fun a => Fin.ext ?_)
    match a with
    | ⟨0, _⟩ => show win0_2.index t 0 * 1 + 1 * 0 = 0; rw [idx2]; rfl
    | ⟨1, _⟩ => show win0_2.index t 1 * 1024 + 1 * k.val = k.val; rw [idx2]; show 0 * 1024 + 1 * k.val = k.val; omega
  rw [e, V_v6]
  exact (shapeCast_a_1a_apply _ _ _ _).trans (shapeCast_1a_a_apply _ _ _)

theorem block3 (c : Dev nD) (t : Fin cfg0.N) : (iblk m c 3 t : Vec Ideal S1024x5632 .bf16) = weightGU (m ((c : Thread nD τ).loc main_arg3)) := by
  rw [← V_v7]
  funext i
  show V m c main_v7 _ = V m c main_v7 _
  refine congrArg _ (funext fun a => Fin.ext ?_)
  match a with
  | ⟨0, _⟩ => show win0_3.index t 0 * 1024 + 1 * (i 0).val = (i 0).val; rw [idx3]; show 0 * 1024 + 1 * (i 0).val = (i 0).val; omega
  | ⟨1, _⟩ => show win0_3.index t 1 * 5632 + 1 * (i 1).val = (i 1).val; rw [idx3]; show 0 * 5632 + 1 * (i 1).val = (i 1).val; omega

theorem block4 (c : Dev nD) (t : Fin cfg0.N) : (iblk m c 4 t : Vec Ideal S2816x1024 .bf16) = weightDown (m ((c : Thread nD τ).loc main_arg4)) := by
  rw [← V_v8]
  funext i
  show V m c main_v8 _ = V m c main_v8 _
  refine congrArg _ (funext fun a => Fin.ext ?_)
  match a with
  | ⟨0, _⟩ => show win0_4.index t 0 * 2816 + 1 * (i 0).val = (i 0).val; rw [idx4]; show 0 * 2816 + 1 * (i 0).val = (i 0).val; omega
  | ⟨1, _⟩ => show win0_4.index t 1 * 1024 + 1 * (i 1).val = (i 1).val; rw [idx4]; show 0 * 1024 + 1 * (i 1).val = (i 1).val; omega

/-- The result as a function of the launch memory. -/
noncomputable abbrev result (c : Dev nD) : Buf (Elt Ideal) ((c : Thread nD τ).loc main_v9) :=
  whole (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is the result read through its block. -/
theorem flushed_eq (c : Dev nD) (t : Fin cfg0.N) (hf : (cfg0.win 5).flush t = true) :
    (dats m 0 c).flushed 5 t = ((cfg0.win 5).blk t).view.read (Elt Ideal) (result m c) := by
  rw [Value.flushed5]
  funext j
  obtain ⟨r, k, rfl⟩ : ∃ (r : Fin 512) (k : Fin 1024), j = ix2 r k := ⟨j 0, j 1, eq_ix2 j⟩
  have ht := lt64 t
  have hr := r.isLt
  let R : Fin 32768 := ⟨t.val * 512 + r.val, by omega⟩
  have e : ((cfg0.win 5).blk t).view.read (Elt Ideal) (result m c) (ix2 r k) = result m c (ix2 R k) := by
    show result m c _ = result m c _
    refine congrArg _ (funext fun a => Fin.ext ?_)
    match a with
    | ⟨0, _⟩ => show win0_5.index t 0 * 512 + 1 * r.val = t.val * 512 + r.val; rw [idx5]; show t.val * 512 + 1 * r.val = _; omega
    | ⟨1, _⟩ => show win0_5.index t 1 * 1024 + 1 * k.val = k.val; rw [idx5]; show 0 * 1024 + 1 * k.val = k.val; omega
  rw [e]
  have h0 : rowOf (φ := .f32) (iblk m c 0 t : Vec Ideal S512x1024 .f32) r = rowOf (tokens (m ((c : Thread nD τ).loc main_arg0))) R :=
    funext fun k => block0 m c t r k R rfl
  have h1 : rowOf (φ := .f32) (iblk m c 1 t : Vec Ideal S1x1024 .f32) 0 = rowOf (φ := .f32) (m ((c : Thread nD τ).loc main_arg1) : Vec Ideal S1x1024 .f32) 0 :=
    funext fun k => block1 m c t k
  have h2 : rowOf (φ := .f32) (iblk m c 2 t : Vec Ideal S1x1024 .f32) 0 = rowOf (φ := .f32) (m ((c : Thread nD τ).loc main_arg2) : Vec Ideal S1x1024 .f32) 0 :=
    funext fun k => block2 m c t k
  refine (out_apply (iblk m c 0 t) (iblk m c 1 t) (iblk m c 2 t) (iblk m c 3 t) (iblk m c 4 t) r k).trans ?_
  rw [h0, h1, h2, block3, block4]
  rfl

/-- The array after the run. -/
theorem final (c : Dev nD) : (dats m 0 c).arrAt 5 cfg0.N = result m c :=
  (dats m 0 c).arrAt_eq_of_cover 5 (result m c) (flushed_eq m c) fun i => by
    have h0 : (i 0 : Nat) < 32768 := (i 0).isLt
    have h1 : (i 1 : Nat) < 1024 := (i 1).isLt
    have hN : cfg0.N = 64 := N_0
    let t : Fin cfg0.N := ⟨(i 0 : Nat) / 512, by omega⟩
    refine ⟨t, flush0_5 t, ?_⟩
    · show i ∈ ((View.whole main_v9).slice (win0_5.rect t)).set
      rw [View.set_slice_whole, Rect.mem_set_unit]
      intro a
      match a with
      | ⟨0, _⟩ =>
        show win0_5.index t 0 * 512 ≤ (i 0 : Nat) ∧ (i 0 : Nat) < win0_5.index t 0 * 512 + 512
        rw [idx5]; show (i 0 : Nat) / 512 * 512 ≤ (i 0 : Nat) ∧ (i 0 : Nat) < (i 0 : Nat) / 512 * 512 + 512; omega
      | ⟨1, _⟩ =>
        show win0_5.index t 1 * 1024 ≤ (i 1 : Nat) ∧ (i 1 : Nat) < win0_5.index t 1 * 1024 + 1024
        rw [idx5]; show 0 * 1024 ≤ (i 1 : Nat) ∧ (i 1 : Nat) < 0 * 1024 + 1024; omega

end Cert.FfnIdeal.Rows
-- ==== Proof.FfnRefRows.lean ====
module

public import proofs.«01_k».proof.Proof.Rows
public import proofs.«01_k».proof.Proof.Gen.FfnRefIdeal.Read
public import Idealize.ShloMosaic.Lib.IdealHost

/-!
# What the feed-forward reference computes

The reference's operations, read at row `r`, are the row functions of `Rows`.
-/

@[expose] public section

namespace Cert.FfnRefIdeal.Rows

open Cert.FfnRefIdeal Cert.FfnRefIdeal.Gen Cert.FfnRefIdeal.Read Idealize.ShloMosaic Idealize.ShloMosaic.ValueIdx Layer
open scoped BigOperators

variable (x0 : Vec Ideal S16x2048x1024 .f32) (x1 x2 : Vec Ideal S1x1024 .f32) (x3 : Vec Ideal S1x1024x5632 .f32) (x4 : Vec Ideal S1x2816x1024 .f32)

/-- The normalised input. -/
theorem norm_apply  (r : Fin 32768) (c : Fin 1024) :
    val_main_v17 (F := Ideal) x0 x1 (ix2 r c)
      = rmsD (rowOf (φ := .f32) (val_main_v0 (F := Ideal) x0) r) (fun k => val_main_v1 (F := Ideal) x1 (ix1 k)) c := by
  have hi : ∀ k : Fin 1024, idx_main_v6 (idx_main_v7 (idx_main_v13 (ix2 r c))) k = ix2 r k := fun k =>
    funext fun a => match a with | ⟨0, _⟩ => rfl | ⟨1, _⟩ => rfl
  have hg : idx_main_v15 (idx_main_v16 (ix2 r c)) = ix1 c := funext fun a => match a with | ⟨0, _⟩ => rfl
  simp only [val_main_v17_apply, val_main_v14_apply, val_main_v13_apply, val_main_v12_apply, val_main_v11_apply, val_main_v10_apply, val_main_cst_1_apply, val_main_v9_apply, val_main_v8_apply, val_main_cst_0_apply, val_main_v7_apply, val_main_v6_apply, val_main_cst_apply, val_main_v5_apply, val_main_v16_apply, val_main_v15_apply, hi, hg]
  show _ * Ideal.rsqrt (Ideal.div (Ideal.ofBits .f32 0x00000000#32 + _) _ + _) * _ = _
  rw [Ideal.ofBits_zero_f32, zero_add]
  rfl

/-- The first product. -/
theorem first_apply  (r : Fin 32768) (j : Fin 5632) :
    val_main_v18 (F := Ideal) x0 x1 x3 (ix2 r j)
      = mul (rmsD (rowOf (φ := .f32) (val_main_v0 (F := Ideal) x0) r) (fun k => val_main_v1 (F := Ideal) x1 (ix1 k)))
          (matOf (φ := .f32) (val_main_v3 (F := Ideal) x3)) j := by
  rw [val_main_v18_apply]
  refine Finset.sum_congr rfl fun k _ => ?_
  have el : lidx_main_v18 (ix2 r j) k = ix2 r k := funext fun a => match a with | ⟨0, _⟩ => rfl | ⟨1, _⟩ => rfl
  have er : ridx_main_v18 (ix2 r j) k = ix2 k j := funext fun a => match a with | ⟨0, _⟩ => rfl | ⟨1, _⟩ => rfl
  rw [el, er, norm_apply]

/-- The gated hidden row. -/
theorem hidden_apply  (r : Fin 32768) (j : Fin 2816) :
    val_main_v22 (F := Ideal) x0 x1 x3 (ix2 r j)
      = hidden (rmsD (rowOf (φ := .f32) (val_main_v0 (F := Ideal) x0) r) (fun k => val_main_v1 (F := Ideal) x1 (ix1 k)))
          (matOf (φ := .f32) (val_main_v3 (F := Ideal) x3)) j := by
  have h0 : idx_main_v19 (ix2 r j) = ix2 r (⟨j.val, by have := j.isLt; omega⟩ : Fin 5632) :=
    funext fun a => match a with | ⟨0, _⟩ => rfl | ⟨1, _⟩ => rfl
  have h1 : idx_main_v20 (ix2 r j) = ix2 r (⟨2816 + j.val, by have := j.isLt; omega⟩ : Fin 5632) :=
    funext fun a => match a with | ⟨0, _⟩ => rfl | ⟨1, _⟩ => rfl
  simp only [val_main_v22_apply, val_main_v21_apply, val_main_call0_v5_apply, val_main_call0_v4_apply, val_main_call0_cst_0_apply,
    val_main_call0_v3_apply, val_main_call0_v2_apply, val_main_call0_cst_apply, val_main_call0_v1_apply, val_main_call0_v0_apply,
    val_main_v19_apply, val_main_v20_apply, h0, h1, first_apply]
  show _ * Ideal.div (Ideal.ofBits .f32 0x3F800000#32) (Ideal.ofBits .f32 0x3F800000#32 + _) * _ = _
  rw [Ideal.ofBits_one_f32]
  rfl

/-- The second product. -/
theorem second_apply  (r : Fin 32768) (j : Fin 1024) :
    val_main_v23 (F := Ideal) x0 x1 x3 x4 (ix2 r j)
      = mul (hidden (rmsD (rowOf (φ := .f32) (val_main_v0 (F := Ideal) x0) r) (fun k => val_main_v1 (F := Ideal) x1 (ix1 k)))
          (matOf (φ := .f32) (val_main_v3 (F := Ideal) x3))) (matOf (φ := .f32) (val_main_v4 (F := Ideal) x4)) j := by
  rw [val_main_v23_apply]
  refine Finset.sum_congr rfl fun k _ => ?_
  have el : lidx_main_v23 (ix2 r j) k = ix2 r k := funext fun a => match a with | ⟨0, _⟩ => rfl | ⟨1, _⟩ => rfl
  have er : ridx_main_v23 (ix2 r j) k = ix2 k j := funext fun a => match a with | ⟨0, _⟩ => rfl | ⟨1, _⟩ => rfl
  rw [el, er, hidden_apply]

/-- The second normalisation. -/
theorem post_apply  (r : Fin 32768) (c : Fin 1024) :
    val_main_v36 (F := Ideal) x0 x1 x2 x3 x4 (ix2 r c)
      = rmsD (rowOf (φ := .f32) (val_main_v23 (F := Ideal) x0 x1 x3 x4) r) (fun k => val_main_v2 (F := Ideal) x2 (ix1 k)) c := by
  have hi : ∀ k : Fin 1024, idx_main_v25 (idx_main_v26 (idx_main_v32 (ix2 r c))) k = ix2 r k := fun k =>
    funext fun a => match a with | ⟨0, _⟩ => rfl | ⟨1, _⟩ => rfl
  have hg : idx_main_v34 (idx_main_v35 (ix2 r c)) = ix1 c := funext fun a => match a with | ⟨0, _⟩ => rfl
  simp only [val_main_v36_apply, val_main_v33_apply, val_main_v32_apply, val_main_v31_apply, val_main_v30_apply, val_main_v29_apply, val_main_cst_4_apply, val_main_v28_apply, val_main_v27_apply, val_main_cst_3_apply, val_main_v26_apply, val_main_v25_apply, val_main_cst_2_apply, val_main_v24_apply, val_main_v35_apply, val_main_v34_apply, hi, hg]
  show _ * Ideal.rsqrt (Ideal.div (Ideal.ofBits .f32 0x00000000#32 + _) _ + _) * _ = _
  rw [Ideal.ofBits_zero_f32, zero_add]
  rfl

/-- The feed-forward half step on one row. -/
theorem half_apply  (r : Fin 32768) (j : Fin 1024) :
    val_main_v39 (F := Ideal) x0 x1 x2 x3 x4 (ix2 r j)
      = ffnRow (rowOf (φ := .f32) (val_main_v0 (F := Ideal) x0) r) (fun k => val_main_v1 (F := Ideal) x1 (ix1 k))
          (fun k => val_main_v2 (F := Ideal) x2 (ix1 k)) (matOf (φ := .f32) (val_main_v3 (F := Ideal) x3))
          (matOf (φ := .f32) (val_main_v4 (F := Ideal) x4)) j := by
  simp only [val_main_v39_apply, val_main_v38_apply, val_main_v37_apply, val_main_cst_5_apply, post_apply]
  rw [show rowOf (φ := .f32) (val_main_v23 (F := Ideal) x0 x1 x3 x4) r = _ from funext fun k => second_apply x0 x1 x3 x4 r k]
  rfl

end Cert.FfnRefIdeal.Rows
-- ==== Proof.FfnEquation.lean ====
module

public import proofs.«01_k».proof.Defs
public import proofs.«01_k».proof.Proof.FfnArray
public import proofs.«01_k».proof.Proof.FfnRefRows
public import proofs.«01_k».proof.Proof.Gen.FfnRefIdeal.Run
public import proofs.«01_k».proof.Proof.Gen.FfnRefIdeal.Read

/-!
# The first feed-forward call computes the layer's feed-forward half
-/

@[expose] public section

namespace Cert.Proof.Ffn

open Idealize.ShloMosaic Idealize.ShloMosaic.ValueIdx Idealize.SL.Sem Layer

/-- On equal arguments the reference's result is the kernel's, element by element. -/
theorem equation (x : Vec Ideal Cert.FfnIdeal.S16x2048x1024 .f32) (g1 g2 : Vec Ideal Cert.FfnIdeal.S1x1024 .f32)
    (wgu : Vec Ideal Cert.FfnIdeal.S1x1024x5632 .f32) (wd : Vec Ideal Cert.FfnIdeal.S1x2816x1024 .f32) :
    Cert.FfnRefIdeal.Read.val_main_v39 (F := Ideal) x g1 g2 wgu wd = Cert.FfnIdeal.Rows.whole x g1 g2 wgu wd := by
  funext i
  obtain ⟨r, j, rfl⟩ : ∃ (r : Fin 32768) (j : Fin 1024), i = ix2 r j := ⟨i 0, i 1, eq_ix2 i⟩
  have h1 : (fun k : Fin 1024 => Cert.FfnRefIdeal.Read.val_main_v1 (F := Ideal) g1 (ix1 k)) = rowOf (φ := .f32) g1 0 :=
    funext fun k => shapeCast_1a_a_apply _ _ _
  have h2 : (fun k : Fin 1024 => Cert.FfnRefIdeal.Read.val_main_v2 (F := Ideal) g2 (ix1 k)) = rowOf (φ := .f32) g2 0 :=
    funext fun k => shapeCast_1a_a_apply _ _ _
  refine (Cert.FfnRefIdeal.Rows.half_apply x g1 g2 wgu wd r j).trans ?_
  rw [h1, h2]
  rfl

/-- The kernel's run and the reference's end with equal results. -/
theorem algebraic [hK : Cert.FfnIdeal.Facts] [hR : Cert.FfnRefIdeal.Facts] : Cert.algebraic_FfnIdeal_FfnRefIdeal := by
  intro m ρ m' ρ' _ hagree
  refine ⟨fun c => Cert.FfnIdeal.Rows.result m c, ?_, ?_⟩
  · exact (θ_run Cert.FfnIdeal.defs _ _).mono
      (fun _ h c => ⟨(h c).1.trans (Cert.FfnIdeal.Rows.final m c), (h c).2⟩)
      (Cert.FfnIdeal.Value.run_blocks (F := Ideal) m ρ)
  · refine (θ_run Cert.FfnRefIdeal.defs _ _).mono
      (fun _ h c => ⟨(h c).1.trans ?_, (h c).2⟩)
      (Cert.FfnRefIdeal.Value.run (F := Ideal) m' ρ')
    obtain ⟨a0, a1, a2, a3, a4⟩ := hagree c
    rw [Cert.FfnRefIdeal.Read.val_main_v39_eq m' c, a0, a1, a2, a3, a4]
    exact equation _ _ _ _ _

end Cert.Proof.Ffn
-- ==== Proof.PostBlock.lean ====
module

public import proofs.«01_k».proof.Proof.Rows
public import proofs.«01_k».proof.Proof.Gen.PostIdeal.Frame

/-!
# What one block of the merge and second feed-forward call computes

The body's stored block, at row `r` and column `c`, is the feed-forward half step of the merged row `r`.
-/

@[expose] public section

namespace Cert.PostIdeal.Rows

open Cert.PostIdeal Cert.PostIdeal.Gen Idealize.ShloMosaic Idealize.ShloMosaic.ValueIdx Layer
open scoped BigOperators

theorem hz : (![0, 0] : Fin 2 → Nat) = fun _ => 0 := funext fun a => by fin_cases a <;> rfl

/-- The merged block. -/
theorem merge_apply (oa : Vec Ideal S512x512 .bf16) (wo ga mbm : Vec Ideal S512x1024 .bf16) (x : Vec Ideal S512x1024 .f32)
    (wout : Vec Ideal S1024x1024 .bf16) (g : Vec Ideal S1x1024 .f32) (r : Fin 512) (c : Fin 1024) :
    k0_pay2 (F := Ideal) oa wo ga mbm x wout g (ix2 r c)
      = mergeRow (rowOf (φ := .f32) x r) (rowOf (φ := .bf16) oa r) (rowOf (φ := .bf16) ga r) (rowOf (φ := .bf16) mbm r)
          (matOf (φ := .bf16) wo) (matOf (φ := .bf16) wout) (rowOf (φ := .f32) g 0) c := by
  unfold k0_pay2
  simp only [shapeCast_self]
  rw [addf_apply, rms_apply 0x44800000#32 0x358637BD#32 _ _ _ (fun r => rowSum_apply _ _ _ _ _ r)]
  unfold mergeRow
  refine congrArg (fun y => x (ix2 r c) + rmsD y (rowOf (φ := .f32) g 0) c) (funext fun k => ?_)
  refine (matmul_apply dot_S512x1024_S1024x1024_S512x1024_1_0_0_1_n_n rfl _ _ r k).trans ?_
  refine congrArg (fun y => mul y (matOf (φ := .bf16) wout) k) (funext fun i => ?_)
  exact congrArg (fun y : EReal => (show EReal from ga (ix2 r i)) * y + (show EReal from mbm (ix2 r i)))
    (matmul_apply (φ₁ := .bf16) (φ₂ := .bf16) dot_S512x512_S512x1024_S512x1024_1_0_0_1_n_n rfl oa wo r i)

/-- The normalised block, given the merged block and its row sums of squares. -/
theorem sums_apply (oa : Vec Ideal S512x512 .bf16) (wo ga mbm : Vec Ideal S512x1024 .bf16) (x : Vec Ideal S512x1024 .f32)
    (wout : Vec Ideal S1024x1024 .bf16) (g : Vec Ideal S1x1024 .f32) (r : Fin 512) :
    k0_pay4 (F := Ideal) oa wo ga mbm x wout g (ix1 r)
      = ∑ k : Fin 1024, k0_pay2 (F := Ideal) oa wo ga mbm x wout g (ix2 r k) * k0_pay2 (F := Ideal) oa wo ga mbm x wout g (ix2 r k) := by
  unfold k0_pay4
  exact rowSum_apply _ _ _ _ _ r

/-- The two runs of the hidden sum, from a block `y` and its row sums `s` of squares. -/
theorem runs_apply (y : FVec Ideal S512x1024 .f32) (g : FVec Ideal S1x1024 .f32) (s : FVec Ideal S512 .f32)
    (hs : ∀ r : Fin 512, s (ix1 r) = ∑ k : Fin 1024, y (ix2 r k) * y (ix2 r k)) (x9 : Vec Ideal S1024x5632 .bf16)
    (x10 : Vec Ideal S2816x1024 .bf16) (r : Fin 512) (c : Fin 1024) :
    k0_pay5 (F := Ideal) y g s (View.ld x9 r0_4) (View.ld x9 r0_5) (View.ld x10 r0_6) (View.ld x9 r0_7) (View.ld x9 r0_8) (View.ld x10 r0_9) (ix2 r c)
      = mul (hidden (rmsD (rowOf y r) (rowOf g 0)) (matOf (φ := .bf16) x9)) (matOf (φ := .bf16) x10) c := by
  unfold k0_pay5
  simp only [shapeCast_self]
  rw [addf_apply, run_apply dot_S512x1024_S1024x1536_S512x1536_1_0_0_1_n_n rfl dot_S512x1536_S1536x1024_S512x1024_1_0_0_1_n_n rfl,
    run_apply dot_S512x1024_S1024x1280_S512x1280_1_0_0_1_n_n rfl dot_S512x1280_S1280x1024_S512x1024_1_0_0_1_n_n rfl]
  rw [rms_row 0x44800000#32 0x358637BD#32 y g s hs]
  refine runs_eq _ _ _ _ _ (matOf (φ := .bf16) (View.ld x10 r0_6)) _ _ (matOf (φ := .bf16) (View.ld x10 r0_9)) ?_ ?_ ?_ ?_ ?_ ?_ c
  all_goals intro i k
  all_goals exact ld_apply _ _ _ _ _ _ _ _ (by simp) (by simp)

/-- The stored block. -/
theorem out_apply (x0 : Vec Ideal S512x1024 .f32) (x1 : Vec Ideal S512x512 .bf16) (x2 x3 x4 : Vec Ideal S512x1024 .bf16)
    (x5 : Vec Ideal S1024x1024 .bf16) (x6 x7 x8 : Vec Ideal S1x1024 .f32) (x9 : Vec Ideal S1024x5632 .bf16)
    (x10 : Vec Ideal S2816x1024 .bf16) (r : Fin 512) (c : Fin 1024) :
    out0_11 (F := Ideal) x0 x1 x2 x3 x4 x5 x6 x7 x8 x9 x10 (ix2 r c)
      = ffnRow (mergeRow (rowOf (φ := .f32) x0 r) (rowOf (φ := .bf16) x1 r) (rowOf (φ := .bf16) x2 r) (rowOf (φ := .bf16) x3 r)
            (matOf (φ := .bf16) x4) (matOf (φ := .bf16) x5) (rowOf (φ := .f32) x6 0))
          (rowOf (φ := .f32) x7 0) (rowOf (φ := .f32) x8 0) (matOf (φ := .bf16) x9) (matOf (φ := .bf16) x10) c := by
  unfold out0_11 Gen.k0_pay6
  rw [View.canon_unit_zero (S := S512x1024) hz, View.ld_unit_zero (S := S512x512) hz, View.ld_unit_zero (S := S512x1024) hz,
    View.ld_unit_zero (S := S512x1024) hz, View.ld_unit_zero (S := S512x1024) hz, View.ld_unit_zero (S := S512x1024) hz,
    View.ld_unit_zero (S := S1024x1024) hz, View.ld_unit_zero (S := S1x1024) hz, View.ld_unit_zero (S := S1x1024) hz,
    View.ld_unit_zero (S := S1x1024) hz]
  have hm : rowOf (φ := .f32) (k0_pay2 (F := Ideal) x1 x4 x2 x3 x0 x5 x6) r = _ := funext fun k => merge_apply x1 x4 x2 x3 x0 x5 x6 r k
  rw [← hm]
  unfold k0_pay1 k0_pay3
  simp only [shapeCast_self]
  rw [addf_apply, mulf_apply, rms_apply 0x44800000#32 0x358637BD#32 _ _ _ (fun r => rowSum_apply _ _ _ _ _ r)]
  rw [show rowOf (φ := .f32) (k0_pay5 (F := Ideal) _ _ _ _ _ _ _ _ _) r = _ from
    funext fun k => runs_apply _ x7 _ (sums_apply x1 x4 x2 x3 x0 x5 x6) x9 x10 r k]
  rfl

end Cert.PostIdeal.Rows
-- ==== Proof.PostArray.lean ====
module

public import proofs.«01_k».proof.Proof.PostBlock
public import proofs.«01_k».proof.Proof.Gen.PostIdeal.Value
public import Idealize.ShloMosaic.Lib.StableHlo.Run

/-!
# The result array of the merge and second feed-forward call

The sixty-four blocks of 512 rows tile the result, so row `r` of the array after the run is the feed-forward half
step of the merged row `r`.
-/

@[expose] public section

namespace Cert.PostIdeal.Rows

open Cert.PostIdeal Cert.PostIdeal.Gen Idealize.ShloMosaic Idealize.ShloMosaic.ValueIdx Idealize.ShloMosaic.TcCoe Layer
open Idealize.SL.Sem
open Idealize.ShloMosaic.Pipeline (Dat)
open scoped BigOperators

variable (m : (ℓ : Loc nD τ sig) → Buf (Elt Ideal) ℓ) (ρ : Dev nD → PrngReg)

/-- The attention's rows, one per token. -/
noncomputable abbrev attn (x : Vec Ideal S16x2048x512 .bf16) : FVec Ideal S32768x512 .bf16 :=
  shapeCast S32768x512 x shapeCasts_S16x2048x512_S32768x512
/-- A branch's rows, one per token. -/
noncomputable abbrev tokens (x : Vec Ideal S16x2048x1024 .bf16) : FVec Ideal S32768x1024 .bf16 :=
  shapeCast S32768x1024 x shapeCasts_S16x2048x1024_S32768x1024
/-- The attention's output weight without its layer axis. -/
noncomputable abbrev weightO (x : Vec Ideal S1x512x1024 .f32) : FVec Ideal S512x1024 .f32 :=
  shapeCast S512x1024 x shapeCasts_S1x512x1024_S512x1024
/-- The output weight without its layer axis. -/
noncomputable abbrev weightOut (x : Vec Ideal S1x1024x1024 .f32) : FVec Ideal S1024x1024 .f32 :=
  shapeCast S1024x1024 x shapeCasts_S1x1024x1024_S1024x1024
/-- The first feed-forward weight without its layer axis. -/
noncomputable abbrev weightGU (x : Vec Ideal S1x1024x5632 .f32) : FVec Ideal S1024x5632 .f32 :=
  shapeCast S1024x5632 x shapeCasts_S1x1024x5632_S1024x5632
/-- The second feed-forward weight without its layer axis. -/
noncomputable abbrev weightDown (x : Vec Ideal S1x2816x1024 .f32) : FVec Ideal S2816x1024 .f32 :=
  shapeCast S2816x1024 x shapeCasts_S1x2816x1024_S2816x1024

/-- The whole call on the arguments' contents. -/
noncomputable def whole (x : Vec Ideal S32768x1024 .f32) (oa : Vec Ideal S16x2048x512 .bf16) (ga mbm : Vec Ideal S16x2048x1024 .bf16)
    (wo : Vec Ideal S1x512x1024 .f32) (wout : Vec Ideal S1x1024x1024 .f32) (g g1 g2 : Vec Ideal S1x1024 .f32)
    (wgu : Vec Ideal S1x1024x5632 .f32) (wd : Vec Ideal S1x2816x1024 .f32) : FVec Ideal S32768x1024 .f32 := fun i =>
  ffnRow (mergeRow (rowOf (φ := .f32) x (i 0)) (rowOf (attn oa) (i 0)) (rowOf (tokens ga) (i 0)) (rowOf (tokens mbm) (i 0))
      (matOf (weightO wo)) (matOf (weightOut wout)) (rowOf (φ := .f32) g 0))
    (rowOf (φ := .f32) g1 0) (rowOf (φ := .f32) g2 0) (matOf (weightGU wgu)) (matOf (weightDown wd)) (i 1)

theorem V_v6 (c : Dev nD) : V m c main_v6 = attn (m ((c : Thread nD τ).loc main_arg1)) := by
  show StableHlo.after hostOps0 _ _ = _
  after_results
  all_goals rfl
theorem V_v7 (c : Dev nD) : V m c main_v7 = tokens (m ((c : Thread nD τ).loc main_arg2)) := by
  show StableHlo.after hostOps0 _ _ = _
  after_results
  all_goals rfl
theorem V_v8 (c : Dev nD) : V m c main_v8 = tokens (m ((c : Thread nD τ).loc main_arg3)) := by
  show StableHlo.after hostOps0 _ _ = _
  after_results
  all_goals rfl
theorem V_v1 (c : Dev nD) : V m c main_v1 = weightO (m ((c : Thread nD τ).loc main_arg4)) := by
  show StableHlo.after hostOps0 _ _ = _
  after_results
  all_goals rfl
theorem V_v3 (c : Dev nD) : V m c main_v3 = weightOut (m ((c : Thread nD τ).loc main_arg5)) := by
  show StableHlo.after hostOps0 _ _ = _
  after_results
  all_goals rfl
theorem V_v5 (c : Dev nD) : V m c main_v5 = shapeCast S1x1024 (shapeCast S1024 (m ((c : Thread nD τ).loc main_arg6)) shapeCasts_S1x1024_S1024) shapeCasts_S1024_S1x1024 := by
  show StableHlo.after hostOps0 _ _ = _
  after_results
  all_goals rfl
theorem V_v13 (c : Dev nD) : V m c main_v13 = shapeCast S1x1024 (shapeCast S1024 (m ((c : Thread nD τ).loc main_arg7)) shapeCasts_S1x1024_S1024) shapeCasts_S1024_S1x1024 := by
  show StableHlo.after hostOps0 _ _ = _
  after_results
  all_goals rfl
theorem V_v14 (c : Dev nD) : V m c main_v14 = shapeCast S1x1024 (shapeCast S1024 (m ((c : Thread nD τ).loc main_arg8)) shapeCasts_S1x1024_S1024) shapeCasts_S1024_S1x1024 := by
  show StableHlo.after hostOps0 _ _ = _
  after_results
  all_goals rfl
theorem V_v15 (c : Dev nD) : V m c main_v15 = weightGU (m ((c : Thread nD τ).loc main_arg9)) := by
  show StableHlo.after hostOps0 _ _ = _
  after_results
  all_goals rfl
theorem V_v16 (c : Dev nD) : V m c main_v16 = weightDown (m ((c : Thread nD τ).loc main_arg10)) := by
  show StableHlo.after hostOps0 _ _ = _
  after_results
  all_goals rfl

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![t.val, 0] := (by decide +kernel : ∀ t : Fin grid0.N, win0_11.index t = ![t.val, 0])

theorem lt64 (t : Fin cfg0.N) : t.val < 64 := lt_of_lt_of_eq t.isLt N_0

/-! ## The blocks a point reads -/

theorem block0 (c : Dev nD) (t : Fin cfg0.N) (r : Fin 512) (k : Fin 1024) (R : Fin 32768) (hR : R.val = t.val * 512 + r.val) :
    (iblk m c 0 t : Vec Ideal S512x1024 .f32) (ix2 r k) = ((m ((c : Thread nD τ).loc main_arg0)) : Vec Ideal S32768x1024 .f32) (ix2 R k) := by
  rw [← V_main_arg0 m c]
  show V m c main_arg0 _ = V m c main_arg0 _
  refine congrArg _ (funext fun a => Fin.ext ?_)
  match a with
  | ⟨0, _⟩ => show win0_0.index t 0 * 512 + 1 * r.val = R.val; rw [idx0]; show t.val * 512 + 1 * r.val = R.val; omega
  | ⟨1, _⟩ => show win0_0.index t 1 * 1024 + 1 * k.val = k.val; rw [idx0]; show 0 * 1024 + 1 * k.val = k.val; omega

theorem block1 (c : Dev nD) (t : Fin cfg0.N) (r : Fin 512) (k : Fin 512) (R : Fin 32768) (hR : R.val = t.val * 512 + r.val) :
    (iblk m c 1 t : Vec Ideal S512x512 .bf16) (ix2 r k) = (attn (m ((c : Thread nD τ).loc main_arg1)) : Vec Ideal S32768x512 .bf16) (ix2 R k) := by
  rw [← V_v6]
  show V m c main_v6 _ = V m c main_v6 _
  refine congrArg _ (funext fun a => Fin.ext ?_)
  match a with
  | ⟨0, _⟩ => show win0_1.index t 0 * 512 + 1 * r.val = R.val; rw [idx1]; show t.val * 512 + 1 * r.val = R.val; omega
  | ⟨1, _⟩ => show win0_1.index t 1 * 512 + 1 * k.val = k.val; rw [idx1]; show 0 * 512 + 1 * k.val = k.val; omega

theorem block2 (c : Dev nD) (t : Fin cfg0.N) (r : Fin 512) (k : Fin 1024) (R : Fin 32768) (hR : R.val = t.val * 512 + r.val) :
    (iblk m c 2 t : Vec Ideal S512x1024 .bf16) (ix2 r k) = (tokens (m ((c : Thread nD τ).loc main_arg2)) : Vec Ideal S32768x1024 .bf16) (ix2 R k) := by
  rw [← V_v7]
  show V m c main_v7 _ = V m c main_v7 _
  refine congrArg _ (funext fun a => Fin.ext ?_)
  match a with
  | ⟨0, _⟩ => show win0_2.index t 0 * 512 + 1 * r.val = R.val; rw [idx2]; show t.val * 512 + 1 * r.val = R.val; omega
  | ⟨1, _⟩ => show win0_2.index t 1 * 1024 + 1 * k.val = k.val; rw [idx2]; show 0 * 1024 + 1 * k.val = k.val; omega

theorem block3 (c : Dev nD) (t : Fin cfg0.N) (r : Fin 512) (k : Fin 1024) (R : Fin 32768) (hR : R.val = t.val * 512 + r.val) :
    (iblk m c 3 t : Vec Ideal S512x1024 .bf16) (ix2 r k) = (tokens (m ((c : Thread nD τ).loc main_arg3)) : Vec Ideal S32768x1024 .bf16) (ix2 R k) := by
  rw [← V_v8]
  show V m c main_v8 _ = V m c main_v8 _
  refine congrArg _ (funext fun a => Fin.ext ?_)
  match a with
  | ⟨0, _⟩ => show win0_3.index t 0 * 512 + 1 * r.val = R.val; rw [idx3]; show t.val * 512 + 1 * r.val = R.val; omega
  | ⟨1, _⟩ => show win0_3.index t 1 * 1024 + 1 * k.val = k.val; rw [idx3]; show 0 * 1024 + 1 * k.val = k.val; omega

theorem block6 (c : Dev nD) (t : Fin cfg0.N) (k : Fin 1024) :
    (iblk m c 6 t : Vec Ideal S1x1024 .f32) (ix2 0 k) = ((m ((c : Thread nD τ).loc main_arg6)) : Vec Ideal S1x1024 .f32) (ix2 0 k) := by
  have e : (iblk m c 6 t : Vec Ideal S1x1024 .f32) (ix2 0 k) = V m c main_v5 (ix2 (0 : Fin 1) k) := by
    show V m c main_v5 _ = V m c main_v5 _
    refine congrArg _ (funext fun a => Fin.ext ?_)
    match a with
    | ⟨0, _⟩ => show win0_6.index t 0 * 1 + 1 * 0 = 0; rw [idx6]; rfl
    | ⟨1, _⟩ => show win0_6.index t 1 * 1024 + 1 * k.val = k.val; rw [idx6]; show 0 * 1024 + 1 * k.val = k.val; omega
  rw [e, V_v5]
  exact (shapeCast_a_1a_apply _ _ _ _).trans (shapeCast_1a_a_apply _ _ _)

theorem block7 (c : Dev nD) (t : Fin cfg0.N) (k : Fin 1024) :
    (iblk m c 7 t : Vec Ideal S1x1024 .f32) (ix2 0 k) = ((m ((c : Thread nD τ).loc main_arg7)) : Vec Ideal S1x1024 .f32) (ix2 0 k) := by
  have e : (iblk m c 7 t : Vec Ideal S1x1024 .f32) (ix2 0 k) = V m c main_v13 (ix2 (0 : Fin 1) k) := by
    show V m c main_v13 _ = V m c main_v13 _
    refine congrArg _ (funext fun a => Fin.ext ?_)
    match a with
    | ⟨0, _⟩ => show win0_7.index t 0 * 1 + 1 * 0 = 0; rw [idx7]; rfl
    | ⟨1, _⟩ => show win0_7.index t 1 * 1024 + 1 * k.val = k.val; rw [idx7]; show 0 * 1024 + 1 * k.val = k.val; omega
  rw [e, V_v13]
  exact (shapeCast_a_1a_apply _ _ _ _).trans (shapeCast_1a_a_apply _ _ _)

theorem block8 (c : Dev nD) (t : Fin cfg0.N) (k : Fin 1024) :
    (iblk m c 8 t : Vec Ideal S1x1024 .f32) (ix2 0 k) = ((m ((c : Thread nD τ).loc main_arg8)) : Vec Ideal S1x1024 .f32) (ix2 0 k) := by
  have e : (iblk m c 8 t : Vec Ideal S1x1024 .f32) (ix2 0 k) = V m c main_v14 (ix2 (0 : Fin 1) k) := by
    show V m c main_v14 _ = V m c main_v14 _
    refine congrArg _ (funext fun a => Fin.ext ?_)
    match a with
    | ⟨0, _⟩ => show win0_8.index t 0 * 1 + 1 * 0 = 0; rw [idx8]; rfl
    | ⟨1, _⟩ => show win0_8.index t 1 * 1024 + 1 * k.val = k.val; rw [idx8]; show 0 * 1024 + 1 * k.val = k.val; omega
  rw [e, V_v14]
  exact (shapeCast_a_1a_apply _ _ _ _).trans (shapeCast_1a_a_apply _ _ _)

theorem block4 (c : Dev nD) (t : Fin cfg0.N) : (iblk m c 4 t : Vec Ideal S512x1024 .bf16) = weightO (m ((c : Thread nD τ).loc main_arg4)) := by
  rw [← V_v1]
  funext i
  show V m c main_v1 _ = V m c main_v1 _
  refine congrArg _ (funext fun a => Fin.ext ?_)
  match a with
  | ⟨0, _⟩ => show win0_4.index t 0 * 512 + 1 * (i 0).val = (i 0).val; rw [idx4]; show 0 * 512 + 1 * (i 0).val = (i 0).val; omega
  | ⟨1, _⟩ => show win0_4.index t 1 * 1024 + 1 * (i 1).val = (i 1).val; rw [idx4]; show 0 * 1024 + 1 * (i 1).val = (i 1).val; omega

theorem block5 (c : Dev nD) (t : Fin cfg0.N) : (iblk m c 5 t : Vec Ideal S1024x1024 .bf16) = weightOut (m ((c : Thread nD τ).loc main_arg5)) := by
  rw [← V_v3]
  funext i
  show V m c main_v3 _ = V m c main_v3 _
  refine congrArg _ (funext fun a => Fin.ext ?_)
  match a with
  | ⟨0, _⟩ => show win0_5.index t 0 * 1024 + 1 * (i 0).val = (i 0).val; rw [idx5]; show 0 * 1024 + 1 * (i 0).val = (i 0).val; omega
  | ⟨1, _⟩ => show win0_5.index t 1 * 1024 + 1 * (i 1).val = (i 1).val; rw [idx5]; show 0 * 1024 + 1 * (i 1).val = (i 1).val; omega

theorem block9 (c : Dev nD) (t : Fin cfg0.N) : (iblk m c 9 t : Vec Ideal S1024x5632 .bf16) = weightGU (m ((c : Thread nD τ).loc main_arg9)) := by
  rw [← V_v15]
  funext i
  show V m c main_v15 _ = V m c main_v15 _
  refine congrArg _ (funext fun a => Fin.ext ?_)
  match a with
  | ⟨0, _⟩ => show win0_9.index t 0 * 1024 + 1 * (i 0).val = (i 0).val; rw [idx9]; show 0 * 1024 + 1 * (i 0).val = (i 0).val; omega
  | ⟨1, _⟩ => show win0_9.index t 1 * 5632 + 1 * (i 1).val = (i 1).val; rw [idx9]; show 0 * 5632 + 1 * (i 1).val = (i 1).val; omega

theorem block10 (c : Dev nD) (t : Fin cfg0.N) : (iblk m c 10 t : Vec Ideal S2816x1024 .bf16) = weightDown (m ((c : Thread nD τ).loc main_arg10)) := by
  rw [← V_v16]
  funext i
  show V m c main_v16 _ = V m c main_v16 _
  refine congrArg _ (funext fun a => Fin.ext ?_)
  match a with
  | ⟨0, _⟩ => show win0_10.index t 0 * 2816 + 1 * (i 0).val = (i 0).val; rw [idx10]; show 0 * 2816 + 1 * (i 0).val = (i 0).val; omega
  | ⟨1, _⟩ => show win0_10.index t 1 * 1024 + 1 * (i 1).val = (i 1).val; rw [idx10]; show 0 * 1024 + 1 * (i 1).val = (i 1).val; omega

/-- The result as a function of the launch memory. -/
noncomputable abbrev result (c : Dev nD) : Buf (Elt Ideal) ((c : Thread nD τ).loc main_v17) :=
  whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- What point `t` writes back is the result read through its block. -/
theorem flushed_eq (c : Dev nD) (t : Fin cfg0.N) (hf : (cfg0.win 11).flush t = true) :
    (dats m 0 c).flushed 11 t = ((cfg0.win 11).blk t).view.read (Elt Ideal) (result m c) := by
  rw [Value.flushed11]
  funext j
  obtain ⟨r, k, rfl⟩ : ∃ (r : Fin 512) (k : Fin 1024), j = ix2 r k := ⟨j 0, j 1, eq_ix2 j⟩
  have ht := lt64 t
  have hr := r.isLt
  let R : Fin 32768 := ⟨t.val * 512 + r.val, by omega⟩
  have e : ((cfg0.win 11).blk t).view.read (Elt Ideal) (result m c) (ix2 r k) = result m c (ix2 R k) := by
    show result m c _ = result m c _
    refine congrArg _ (funext fun a => Fin.ext ?_)
    match a with
    | ⟨0, _⟩ => show win0_11.index t 0 * 512 + 1 * r.val = t.val * 512 + r.val; rw [idx11]; show t.val * 512 + 1 * r.val = _; omega
    | ⟨1, _⟩ => show win0_11.index t 1 * 1024 + 1 * k.val = k.val; rw [idx11]; show 0 * 1024 + 1 * k.val = k.val; omega
  rw [e]
  have h0 : rowOf (φ := .f32) (iblk m c 0 t : Vec Ideal S512x1024 .f32) r = rowOf (φ := .f32) ((m ((c : Thread nD τ).loc main_arg0)) : Vec Ideal S32768x1024 .f32) R :=
    funext fun k => block0 m c t r k R rfl
  have h1 : rowOf (φ := .bf16) (iblk m c 1 t : Vec Ideal S512x512 .bf16) r = rowOf (φ := .bf16) (attn (m ((c : Thread nD τ).loc main_arg1)) : Vec Ideal S32768x512 .bf16) R :=
    funext fun k => block1 m c t r k R rfl
  have h2 : rowOf (φ := .bf16) (iblk m c 2 t : Vec Ideal S512x1024 .bf16) r = rowOf (φ := .bf16) (tokens (m ((c : Thread nD τ).loc main_arg2)) : Vec Ideal S32768x1024 .bf16) R :=
    funext fun k => block2 m c t r k R rfl
  have h3 : rowOf (φ := .bf16) (iblk m c 3 t : Vec Ideal S512x1024 .bf16) r = rowOf (φ := .bf16) (tokens (m ((c : Thread nD τ).loc main_arg3)) : Vec Ideal S32768x1024 .bf16) R :=
    funext fun k => block3 m c t r k R rfl
  have h6 : rowOf (φ := .f32) (iblk m c 6 t : Vec Ideal S1x1024 .f32) 0 = rowOf (φ := .f32) ((m ((c : Thread nD τ).loc main_arg6)) : Vec Ideal S1x1024 .f32) 0 :=
    funext fun k => block6 m c t k
  have h7 : rowOf (φ := .f32) (iblk m c 7 t : Vec Ideal S1x1024 .f32) 0 = rowOf (φ := .f32) ((m ((c : Thread nD τ).loc main_arg7)) : Vec Ideal S1x1024 .f32) 0 :=
    funext fun k => block7 m c t k
  have h8 : rowOf (φ := .f32) (iblk m c 8 t : Vec Ideal S1x1024 .f32) 0 = rowOf (φ := .f32) ((m ((c : Thread nD τ).loc main_arg8)) : Vec Ideal S1x1024 .f32) 0 :=
    funext fun k => block8 m c t k
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) r k).trans ?_
  rw [h0, h1, h2, h3, h6, h7, h8, block4, block5, block9, block10]
  rfl

/-- The array after the run. -/
theorem final (c : Dev nD) : (dats m 0 c).arrAt 11 cfg0.N = result m c :=
  (dats m 0 c).arrAt_eq_of_cover 11 (result m c) (flushed_eq m c) fun i => by
    have h0 : (i 0 : Nat) < 32768 := (i 0).isLt
    have h1 : (i 1 : Nat) < 1024 := (i 1).isLt
    have hN : cfg0.N = 64 := N_0
    let t : Fin cfg0.N := ⟨(i 0 : Nat) / 512, by omega⟩
    refine ⟨t, flush0_11 t, ?_⟩
    · show i ∈ ((View.whole main_v17).slice (win0_11.rect t)).set
      rw [View.set_slice_whole, Rect.mem_set_unit]
      intro a
      match a with
      | ⟨0, _⟩ =>
        show win0_11.index t 0 * 512 ≤ (i 0 : Nat) ∧ (i 0 : Nat) < win0_11.index t 0 * 512 + 512
        rw [idx11]; show (i 0 : Nat) / 512 * 512 ≤ (i 0 : Nat) ∧ (i 0 : Nat) < (i 0 : Nat) / 512 * 512 + 512; omega
      | ⟨1, _⟩ =>
        show win0_11.index t 1 * 1024 ≤ (i 1 : Nat) ∧ (i 1 : Nat) < win0_11.index t 1 * 1024 + 1024
        rw [idx11]; show 0 * 1024 ≤ (i 1 : Nat) ∧ (i 1 : Nat) < 0 * 1024 + 1024; omega

end Cert.PostIdeal.Rows
-- ==== Proof.PostRefRows.lean ====
module

public import proofs.«01_k».proof.Proof.Rows
public import proofs.«01_k».proof.Proof.Gen.PostRefIdeal.Read
public import Idealize.ShloMosaic.Lib.IdealHost

/-!
# What the reference of the merge and second feed-forward call computes

The reference's operations, read at row `r`, are the row functions of `Rows`.
-/

@[expose] public section

namespace Cert.PostRefIdeal.Rows

open Cert.PostRefIdeal Cert.PostRefIdeal.Gen Cert.PostRefIdeal.Read Idealize.ShloMosaic Idealize.ShloMosaic.ValueIdx Layer
open scoped BigOperators

variable (x0 : Vec Ideal S32768x1024 .f32) (x1 : Vec Ideal S16x2048x512 .bf16) (x2 x3 : Vec Ideal S16x2048x1024 .bf16) (x4 : Vec Ideal S1x512x1024 .f32) (x5 : Vec Ideal S1x1024x1024 .f32) (x6 x7 x8 : Vec Ideal S1x1024 .f32) (x9 : Vec Ideal S1x1024x5632 .f32) (x10 : Vec Ideal S1x2816x1024 .f32)

/-- The attention's projection. -/
theorem attn_apply (r : Fin 32768) (j : Fin 1024) :
    val_main_v3 (F := Ideal) x1 x4 (ix2 r j)
      = mul (rowOf (φ := .f32) (val_main_v1 (F := Ideal) x1) r) (matOf (φ := .f32) (val_main_v2 (F := Ideal) x4)) j := by
  rw [val_main_v3_apply]
  refine Finset.sum_congr rfl fun k _ => ?_
  have el : lidx_main_v3 (ix2 r j) k = ix2 r k := funext fun a => match a with | ⟨0, _⟩ => rfl | ⟨1, _⟩ => rfl
  have er : ridx_main_v3 (ix2 r j) k = ix2 k j := funext fun a => match a with | ⟨0, _⟩ => rfl | ⟨1, _⟩ => rfl
  rw [el, er]

/-- The merged row times the output weight. -/
theorem out_apply (r : Fin 32768) (j : Fin 1024) :
    val_main_v11 (F := Ideal) x1 x2 x3 x4 x5 (ix2 r j)
      = mul (fun i => val_main_v5 (F := Ideal) x2 (ix2 r i)
            * mul (rowOf (φ := .f32) (val_main_v1 (F := Ideal) x1) r) (matOf (φ := .f32) (val_main_v2 (F := Ideal) x4)) i
            + val_main_v8 (F := Ideal) x3 (ix2 r i)) (matOf (φ := .f32) (val_main_v10 (F := Ideal) x5)) j := by
  rw [val_main_v11_apply]
  refine Finset.sum_congr rfl fun k _ => ?_
  have el : lidx_main_v11 (ix2 r j) k = ix2 r k := funext fun a => match a with | ⟨0, _⟩ => rfl | ⟨1, _⟩ => rfl
  have er : ridx_main_v11 (ix2 r j) k = ix2 k j := funext fun a => match a with | ⟨0, _⟩ => rfl | ⟨1, _⟩ => rfl
  rw [el, er, val_main_v9_apply, val_main_v6_apply, attn_apply]
  rfl

/-- The normalised output of the merge. -/
theorem mix_apply  (r : Fin 32768) (c : Fin 1024) :
    val_main_v25 (F := Ideal) x1 x2 x3 x4 x5 x6 (ix2 r c)
      = rmsD (rowOf (φ := .f32) (val_main_v11 (F := Ideal) x1 x2 x3 x4 x5) r) (fun k => val_main_v12 (F := Ideal) x6 (ix1 k)) c := by
  have hi : ∀ k : Fin 1024, idx_main_v14 (idx_main_v15 (idx_main_v21 (ix2 r c))) k = ix2 r k := fun k =>
    funext fun a => match a with | ⟨0, _⟩ => rfl | ⟨1, _⟩ => rfl
  have hg : idx_main_v23 (idx_main_v24 (ix2 r c)) = ix1 c := funext fun a => match a with | ⟨0, _⟩ => rfl
  simp only [val_main_v25_apply, val_main_v22_apply, val_main_v21_apply, val_main_v20_apply, val_main_v19_apply, val_main_v18_apply, val_main_cst_1_apply, val_main_v17_apply, val_main_v16_apply, val_main_cst_0_apply, val_main_v15_apply, val_main_v14_apply, val_main_cst_apply, val_main_v13_apply, val_main_v24_apply, val_main_v23_apply, hi, hg]
  show _ * Ideal.rsqrt (Ideal.div (Ideal.ofBits .f32 0x00000000#32 + _) _ + _) * _ = _
  rw [Ideal.ofBits_zero_f32, zero_add]
  rfl

/-- The row after the merge. -/
theorem merge_apply (r : Fin 32768) (j : Fin 1024) :
    val_main_v26 (F := Ideal) x0 x1 x2 x3 x4 x5 x6 (ix2 r j)
      = mergeRow (rowOf (φ := .f32) x0 r) (rowOf (φ := .f32) (val_main_v1 (F := Ideal) x1) r) (rowOf (φ := .f32) (val_main_v5 (F := Ideal) x2) r)
          (rowOf (φ := .f32) (val_main_v8 (F := Ideal) x3) r) (matOf (φ := .f32) (val_main_v2 (F := Ideal) x4))
          (matOf (φ := .f32) (val_main_v10 (F := Ideal) x5)) (fun k => val_main_v12 (F := Ideal) x6 (ix1 k)) j := by
  rw [val_main_v26_apply, mix_apply]
  rw [show rowOf (φ := .f32) (val_main_v11 (F := Ideal) x1 x2 x3 x4 x5) r = _ from funext fun k => out_apply x1 x2 x3 x4 x5 r k]
  rfl

/-- The normalised input. -/
theorem norm_apply  (r : Fin 32768) (c : Fin 1024) :
    val_main_v43 (F := Ideal) x0 x1 x2 x3 x4 x5 x6 x7 (ix2 r c)
      = rmsD (rowOf (φ := .f32) (val_main_v26 (F := Ideal) x0 x1 x2 x3 x4 x5 x6) r) (fun k => val_main_v27 (F := Ideal) x7 (ix1 k)) c := by
  have hi : ∀ k : Fin 1024, idx_main_v32 (idx_main_v33 (idx_main_v39 (ix2 r c))) k = ix2 r k := fun k =>
    funext fun a => match a with | ⟨0, _⟩ => rfl | ⟨1, _⟩ => rfl
  have hg : idx_main_v41 (idx_main_v42 (ix2 r c)) = ix1 c := funext fun a => match a with | ⟨0, _⟩ => rfl
  simp only [val_main_v43_apply, val_main_v40_apply, val_main_v39_apply, val_main_v38_apply, val_main_v37_apply, val_main_v36_apply, val_main_cst_4_apply, val_main_v35_apply, val_main_v34_apply, val_main_cst_3_apply, val_main_v33_apply, val_main_v32_apply, val_main_cst_2_apply, val_main_v31_apply, val_main_v42_apply, val_main_v41_apply, hi, hg]
  show _ * Ideal.rsqrt (Ideal.div (Ideal.ofBits .f32 0x00000000#32 + _) _ + _) * _ = _
  rw [Ideal.ofBits_zero_f32, zero_add]
  rfl

/-- The first product. -/
theorem first_apply  (r : Fin 32768) (j : Fin 5632) :
    val_main_v44 (F := Ideal) x0 x1 x2 x3 x4 x5 x6 x7 x9 (ix2 r j)
      = mul (rmsD (rowOf (φ := .f32) (val_main_v26 (F := Ideal) x0 x1 x2 x3 x4 x5 x6) r) (fun k => val_main_v27 (F := Ideal) x7 (ix1 k)))
          (matOf (φ := .f32) (val_main_v29 (F := Ideal) x9)) j := by
  rw [val_main_v44_apply]
  refine Finset.sum_congr rfl fun k _ => ?_
  have el : lidx_main_v44 (ix2 r j) k = ix2 r k := funext fun a => match a with | ⟨0, _⟩ => rfl | ⟨1, _⟩ => rfl
  have er : ridx_main_v44 (ix2 r j) k = ix2 k j := funext fun a => match a with | ⟨0, _⟩ => rfl | ⟨1, _⟩ => rfl
  rw [el, er, norm_apply]

/-- The gated hidden row. -/
theorem hidden_apply  (r : Fin 32768) (j : Fin 2816) :
    val_main_v48 (F := Ideal) x0 x1 x2 x3 x4 x5 x6 x7 x9 (ix2 r j)
      = hidden (rmsD (rowOf (φ := .f32) (val_main_v26 (F := Ideal) x0 x1 x2 x3 x4 x5 x6) r) (fun k => val_main_v27 (F := Ideal) x7 (ix1 k)))
          (matOf (φ := .f32) (val_main_v29 (F := Ideal) x9)) j := by
  have h0 : idx_main_v45 (ix2 r j) = ix2 r (⟨j.val, by have := j.isLt; omega⟩ : Fin 5632) :=
    funext fun a => match a with | ⟨0, _⟩ => rfl | ⟨1, _⟩ => rfl
  have h1 : idx_main_v46 (ix2 r j) = ix2 r (⟨2816 + j.val, by have := j.isLt; omega⟩ : Fin 5632) :=
    funext fun a => match a with | ⟨0, _⟩ => rfl | ⟨1, _⟩ => rfl
  simp only [val_main_v48_apply, val_main_v47_apply, val_main_call0_v5_apply, val_main_call0_v4_apply, val_main_call0_cst_0_apply,
    val_main_call0_v3_apply, val_main_call0_v2_apply, val_main_call0_cst_apply, val_main_call0_v1_apply, val_main_call0_v0_apply,
    val_main_v45_apply, val_main_v46_apply, h0, h1, first_apply]
  show _ * Ideal.div (Ideal.ofBits .f32 0x3F800000#32) (Ideal.ofBits .f32 0x3F800000#32 + _) * _ = _
  rw [Ideal.ofBits_one_f32]
  rfl

/-- The second product. -/
theorem second_apply  (r : Fin 32768) (j : Fin 1024) :
    val_main_v49 (F := Ideal) x0 x1 x2 x3 x4 x5 x6 x7 x9 x10 (ix2 r j)
      = mul (hidden (rmsD (rowOf (φ := .f32) (val_main_v26 (F := Ideal) x0 x1 x2 x3 x4 x5 x6) r) (fun k => val_main_v27 (F := Ideal) x7 (ix1 k)))
          (matOf (φ := .f32) (val_main_v29 (F := Ideal) x9))) (matOf (φ := .f32) (val_main_v30 (F := Ideal) x10)) j := by
  rw [val_main_v49_apply]
  refine Finset.sum_congr rfl fun k _ => ?_
  have el : lidx_main_v49 (ix2 r j) k = ix2 r k := funext fun a => match a with | ⟨0, _⟩ => rfl | ⟨1, _⟩ => rfl
  have er : ridx_main_v49 (ix2 r j) k = ix2 k j := funext fun a => match a with | ⟨0, _⟩ => rfl | ⟨1, _⟩ => rfl
  rw [el, er, hidden_apply]

/-- The second normalisation. -/
theorem post_apply  (r : Fin 32768) (c : Fin 1024) :
    val_main_v62 (F := Ideal) x0 x1 x2 x3 x4 x5 x6 x7 x8 x9 x10 (ix2 r c)
      = rmsD (rowOf (φ := .f32) (val_main_v49 (F := Ideal) x0 x1 x2 x3 x4 x5 x6 x7 x9 x10) r) (fun k => val_main_v28 (F := Ideal) x8 (ix1 k)) c := by
  have hi : ∀ k : Fin 1024, idx_main_v51 (idx_main_v52 (idx_main_v58 (ix2 r c))) k = ix2 r k := fun k =>
    funext fun a => match a with | ⟨0, _⟩ => rfl | ⟨1, _⟩ => rfl
  have hg : idx_main_v60 (idx_main_v61 (ix2 r c)) = ix1 c := funext fun a => match a with | ⟨0, _⟩ => rfl
  simp only [val_main_v62_apply, val_main_v59_apply, val_main_v58_apply, val_main_v57_apply, val_main_v56_apply, val_main_v55_apply, val_main_cst_7_apply, val_main_v54_apply, val_main_v53_apply, val_main_cst_6_apply, val_main_v52_apply, val_main_v51_apply, val_main_cst_5_apply, val_main_v50_apply, val_main_v61_apply, val_main_v60_apply, hi, hg]
  show _ * Ideal.rsqrt (Ideal.div (Ideal.ofBits .f32 0x00000000#32 + _) _ + _) * _ = _
  rw [Ideal.ofBits_zero_f32, zero_add]
  rfl

/-- The feed-forward half step on one row. -/
theorem half_apply  (r : Fin 32768) (j : Fin 1024) :
    val_main_v65 (F := Ideal) x0 x1 x2 x3 x4 x5 x6 x7 x8 x9 x10 (ix2 r j)
      = ffnRow (rowOf (φ := .f32) (val_main_v26 (F := Ideal) x0 x1 x2 x3 x4 x5 x6) r) (fun k => val_main_v27 (F := Ideal) x7 (ix1 k))
          (fun k => val_main_v28 (F := Ideal) x8 (ix1 k)) (matOf (φ := .f32) (val_main_v29 (F := Ideal) x9))
          (matOf (φ := .f32) (val_main_v30 (F := Ideal) x10)) j := by
  simp only [val_main_v65_apply, val_main_v64_apply, val_main_v63_apply, val_main_cst_8_apply, post_apply]
  rw [show rowOf (φ := .f32) (val_main_v49 (F := Ideal) x0 x1 x2 x3 x4 x5 x6 x7 x9 x10) r = _ from funext fun k => second_apply x0 x1 x2 x3 x4 x5 x6 x7 x9 x10 r k]
  rfl

end Cert.PostRefIdeal.Rows
-- ==== Proof.PostEquation.lean ====
module

public import proofs.«01_k».proof.Defs
public import proofs.«01_k».proof.Proof.PostArray
public import proofs.«01_k».proof.Proof.PostRefRows
public import proofs.«01_k».proof.Proof.Gen.PostRefIdeal.Run
public import proofs.«01_k».proof.Proof.Gen.PostRefIdeal.Read

/-!
# The last call computes the merge of the branches and the second feed-forward half
-/

@[expose] public section

namespace Cert.Proof.Post

open Idealize.ShloMosaic Idealize.ShloMosaic.ValueIdx Idealize.SL.Sem Layer

/-- On equal arguments the reference's result is the kernel's, element by element. -/
theorem equation (x : Vec Ideal Cert.PostIdeal.S32768x1024 .f32) (oa : Vec Ideal Cert.PostIdeal.S16x2048x512 .bf16)
    (ga mbm : Vec Ideal Cert.PostIdeal.S16x2048x1024 .bf16) (wo : Vec Ideal Cert.PostIdeal.S1x512x1024 .f32)
    (wout : Vec Ideal Cert.PostIdeal.S1x1024x1024 .f32) (g g1 g2 : Vec Ideal Cert.PostIdeal.S1x1024 .f32)
    (wgu : Vec Ideal Cert.PostIdeal.S1x1024x5632 .f32) (wd : Vec Ideal Cert.PostIdeal.S1x2816x1024 .f32) :
    Cert.PostRefIdeal.Read.val_main_v65 (F := Ideal) x oa ga mbm wo wout g g1 g2 wgu wd
      = Cert.PostIdeal.Rows.whole x oa ga mbm wo wout g g1 g2 wgu wd := by
  funext i
  obtain ⟨r, j, rfl⟩ : ∃ (r : Fin 32768) (j : Fin 1024), i = ix2 r j := ⟨i 0, i 1, eq_ix2 i⟩
  have h0 : (fun k : Fin 1024 => Cert.PostRefIdeal.Read.val_main_v12 (F := Ideal) g (ix1 k)) = rowOf (φ := .f32) g 0 :=
    funext fun k => shapeCast_1a_a_apply _ _ _
  have h1 : (fun k : Fin 1024 => Cert.PostRefIdeal.Read.val_main_v27 (F := Ideal) g1 (ix1 k)) = rowOf (φ := .f32) g1 0 :=
    funext fun k => shapeCast_1a_a_apply _ _ _
  have h2 : (fun k : Fin 1024 => Cert.PostRefIdeal.Read.val_main_v28 (F := Ideal) g2 (ix1 k)) = rowOf (φ := .f32) g2 0 :=
    funext fun k => shapeCast_1a_a_apply _ _ _
  have hm : rowOf (φ := .f32) (Cert.PostRefIdeal.Read.val_main_v26 (F := Ideal) x oa ga mbm wo wout g) r
      = mergeRow (rowOf (φ := .f32) x r) (rowOf (Cert.PostIdeal.Rows.attn oa) r) (rowOf (Cert.PostIdeal.Rows.tokens ga) r)
        (rowOf (Cert.PostIdeal.Rows.tokens mbm) r) (matOf (Cert.PostIdeal.Rows.weightO wo))
        (matOf (Cert.PostIdeal.Rows.weightOut wout)) (rowOf (φ := .f32) g 0) := by
    funext k
    refine (Cert.PostRefIdeal.Rows.merge_apply x oa ga mbm wo wout g r k).trans ?_
    rw [h0]
    rfl
  refine (Cert.PostRefIdeal.Rows.half_apply x oa ga mbm wo wout g g1 g2 wgu wd r j).trans ?_
  rw [h1, h2, hm]
  rfl

/-- The kernel's run and the reference's end with equal results. -/
theorem algebraic [hK : Cert.PostIdeal.Facts] [hR : Cert.PostRefIdeal.Facts] : Cert.algebraic_PostIdeal_PostRefIdeal := by
  intro m ρ m' ρ' _ hagree
  refine ⟨fun c => Cert.PostIdeal.Rows.result m c, ?_, ?_⟩
  · exact (θ_run Cert.PostIdeal.defs _ _).mono
      (fun _ h c => ⟨(h c).1.trans (Cert.PostIdeal.Rows.final m c), (h c).2⟩)
      (Cert.PostIdeal.Value.run_blocks (F := Ideal) m ρ)
  · refine (θ_run Cert.PostRefIdeal.defs _ _).mono
      (fun _ h c => ⟨(h c).1.trans ?_, (h c).2⟩)
      (Cert.PostRefIdeal.Value.run (F := Ideal) m' ρ')
    obtain ⟨a0, a1, a2, a3, a4, a5, a6, a7, a8, a9, a10⟩ := hagree c
    rw [Cert.PostRefIdeal.Read.val_main_v65_eq m' c, a0, a1, a2, a3, a4, a5, a6, a7, a8, a9, a10]
    exact equation _ _ _ _ _ _ _ _ _ _ _

end Cert.Proof.Post
-- ==== Proof.DsaIdealSearch.lean ====
module

public import proofs.«01_k».proof.Proof.Gen.MixDsaIdeal.Loops
public import proofs.«01_k».proof.Proof.Gen.MixDsaIdeal.Launch
public import proofs.«01_k».proof.Proof.Gen.MixDsaIdeal.Points
public import Idealize.ShloMosaic.Lib.Pipeline.FrameBody
public import Idealize.ShloMosaic.Lib.Tactic

/-
  The search for the threshold in `MixDsaIdeal`: its two counted rounds and its `while`, of which only this is said: they read
  the score buffer, leave it as it was, and come to an end. The `while` ends since its counter starts at zero, grows by
  one and is tested against 288.
-/

@[expose] public section

set_option maxRecDepth 16384

noncomputable section

namespace Cert.Proof.MixDsaIdealRun

open Cert.MixDsaIdeal Cert.MixDsaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The score buffer, held whole at `X`. -/
abbrev scores (c : Dev nD) (arg13 : Memref sig .tc .vmem S2048x256 .f32) (X : BufTy.Contents (Elt F) arg13.view.ty) : sProp 𝕄 :=
  iprop((arg13.view.loc (c : Thread nD τ) ↦[arg13.view.set]{fullShare} X))

/-- The round `k0_t3` of the search reads the scores and leaves them. -/
@[sl_loop, instance_reducible] def round_k0_t3 (𝒱 : Variants) (c : Dev nD) (bd : Option 𝒱.V) (E : Set ℕ) (i : grid0.Coords) (arg2 : Memref sig .tc .vmem S1x256x256 .bf16) (harg2 : arg2.IsWhole) (arg3 : Memref sig .tc .vmem S1x8x256 .f32) (harg3 : arg3.IsWhole) (arg4 : Memref sig .tc .vmem S1x2048x256 .bf16) (harg4 : arg4.IsWhole) (arg5 : Memref sig .tc .vmem S1x8x272x256 .bf16) (harg5 : arg5.IsWhole) (arg6 : Memref sig .tc .vmem S1x2048x64 .bf16) (harg6 : arg6.IsWhole) (arg7 : Memref sig .tc .vmem S256x256 .bf16) (harg7 : arg7.IsWhole) (arg8 : Memref sig .tc .vmem S512x256 .bf16) (harg8 : arg8.IsWhole) (arg9 : Memref sig .tc .vmem S8x256x64 .bf16) (harg9 : arg9.IsWhole) (arg10 : Memref sig .tc .vmem S8x64x256 .bf16) (harg10 : arg10.IsWhole) (arg11 : Memref sig .tc .vmem S256x256 .bf16) (harg11 : arg11.IsWhole) (arg12 : Memref sig .tc .vmem S1x256x512 .bf16) (harg12 : arg12.IsWhole) (arg13 : Memref sig .tc .vmem S2048x256 .f32) (harg13 : arg13.IsWhole) (arg14 : Memref sig .tc .vmem S8x256x256 .f32) (harg14 : arg14.IsWhole) (arg15 : Memref sig .tc .vmem S8x256x256 .bf16) (harg15 : arg15.IsWhole) (arg16 : Memref sig .tc .vmem S8x256x256 .f32) (harg16 : arg16.IsWhole) (arg17 : Memref sig .tc .vmem S4x256x256 .f32) (harg17 : arg17.IsWhole) (arg1 : BitVec 32) (v20 : BitVec 32) (v124 : IVec S32x256 32) (v249 : IVec S1x256 1) (v260 : IVec S1x256 1) (v262 : IVec S1x256 1) (v268 : FVec F S1x256 .f32) (v276 : FVec F S1x256 .f32) (v280 : IVec S1x256 32) (v281 : IVec S1x256 32) (v282 : IVec S1x256 32) (X_arg13 : BufTy.Contents (Elt F) arg13.view.ty) (init : FVec F S1x256 .f32 × FVec F S1x256 .f32 × IVec S1x256 32 × IVec S1x256 32 × IVec S1x256 32) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v20 v124 v249 v260 v262 v268 v276 v280 v281 v282 init where
  inv := fun _ _ => scores c arg13 X_arg13
  step := fun k acc => by
    obtain ⟨a0, a1, a2, a3, a4⟩ := acc
    unfold k0_t3_body
    iintro HR
    sl_exec
    sl_step
    sl_close

/-- The round `k0_t6` of the search reads the scores and leaves them. -/
@[sl_loop, instance_reducible] def round_k0_t6 (𝒱 : Variants) (c : Dev nD) (bd : Option 𝒱.V) (E : Set ℕ) (i : grid0.Coords) (arg2 : Memref sig .tc .vmem S1x256x256 .bf16) (harg2 : arg2.IsWhole) (arg3 : Memref sig .tc .vmem S1x8x256 .f32) (harg3 : arg3.IsWhole) (arg4 : Memref sig .tc .vmem S1x2048x256 .bf16) (harg4 : arg4.IsWhole) (arg5 : Memref sig .tc .vmem S1x8x272x256 .bf16) (harg5 : arg5.IsWhole) (arg6 : Memref sig .tc .vmem S1x2048x64 .bf16) (harg6 : arg6.IsWhole) (arg7 : Memref sig .tc .vmem S256x256 .bf16) (harg7 : arg7.IsWhole) (arg8 : Memref sig .tc .vmem S512x256 .bf16) (harg8 : arg8.IsWhole) (arg9 : Memref sig .tc .vmem S8x256x64 .bf16) (harg9 : arg9.IsWhole) (arg10 : Memref sig .tc .vmem S8x64x256 .bf16) (harg10 : arg10.IsWhole) (arg11 : Memref sig .tc .vmem S256x256 .bf16) (harg11 : arg11.IsWhole) (arg12 : Memref sig .tc .vmem S1x256x512 .bf16) (harg12 : arg12.IsWhole) (arg13 : Memref sig .tc .vmem S2048x256 .f32) (harg13 : arg13.IsWhole) (arg14 : Memref sig .tc .vmem S8x256x256 .f32) (harg14 : arg14.IsWhole) (arg15 : Memref sig .tc .vmem S8x256x256 .bf16) (harg15 : arg15.IsWhole) (arg16 : Memref sig .tc .vmem S8x256x256 .f32) (harg16 : arg16.IsWhole) (arg17 : Memref sig .tc .vmem S4x256x256 .f32) (harg17 : arg17.IsWhole) (arg1 : BitVec 32) (v20 : BitVec 32) (v124 : IVec S32x256 32) (v249 : IVec S1x256 1) (v260 : IVec S1x256 1) (v262 : IVec S1x256 1) (v268 : FVec F S1x256 .f32) (v276 : FVec F S1x256 .f32) (v280 : IVec S1x256 32) (v281 : IVec S1x256 32) (v282 : IVec S1x256 32) (v301 : BitVec 32) (X_arg13 : BufTy.Contents (Elt F) arg13.view.ty) (init : FVec F S1x256 .f32 × FVec F S1x256 .f32 × IVec S1x256 32 × IVec S1x256 32 × IVec S1x256 32) :
    LoopInvTy_k0_t6 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v20 v124 v249 v260 v262 v268 v276 v280 v281 v282 v301 init where
  inv := fun _ _ => scores c arg13 X_arg13
  step := fun k acc => by
    obtain ⟨a0, a1, a2, a3, a4⟩ := acc
    unfold k0_t6_body
    iintro HR
    sl_exec
    sl_step
    sl_close

/-- What a call of the `while` does: it takes the scores, gives back some words, and the scores as they were. -/
def search (c : Dev nD) (arg13 : Memref sig .tc .vmem S2048x256 .f32) (X : BufTy.Contents (Elt F) arg13.view.ty) :
    sWPT 𝕄 (BitVec 32 × BitVec 32 × FVec F S1x256 .f32 × FVec F S1x256 .f32 × IVec S1x256 32 × IVec S1x256 32 × IVec S1x256 32) := do
  sWPT.consume (scores c arg13 X)
  let r ← sWPT.arbitrary
  sWPT.produce (scores c arg13 X)
  pure r

theorem search_apply (c : Dev nD) (arg13 : Memref sig .tc .vmem S2048x256 .f32) (X : BufTy.Contents (Elt F) arg13.view.ty)
    (K : BitVec 32 × BitVec 32 × FVec F S1x256 .f32 × FVec F S1x256 .f32 × IVec S1x256 32 × IVec S1x256 32 × IVec S1x256 32 → sProp 𝕄) :
    search c arg13 X K = iprop(scores c arg13 X ∗ ∀ r : BitVec 32 × BitVec 32 × FVec F S1x256 .f32 × FVec F S1x256 .f32 × IVec S1x256 32 × IVec S1x256 32 × IVec S1x256 32, (scores c arg13 X -∗ K r)) := rfl

/-- At the bound the test fails. -/
theorem test_at_bound (b : BitVec 1) : ¬ Scalar.andi (Scalar.cmpi .slt (288#32) 288#32) b = 1#1 := by
  revert b; decide

theorem count_succ (j : ℕ) : Scalar.addi (BitVec.ofNat 32 j) 1#32 = BitVec.ofNat 32 (j + 1) := by
  show BitVec.ofNat 32 j + 1#32 = _
  rw [BitVec.ofNat_add]

/-- The `while` called with `k` trips left at most before its counter reaches 288 does as `search` says, by induction on `k`:
    at the bound the test fails; below it the body reads the scores and calls itself with the counter one further. -/
theorem search_le (c : Dev nD) (E : Set ℕ) (i : grid0.Coords) (v124 : IVec S32x256 32)
    (arg13 : Memref sig .tc .vmem S2048x256 .f32) (harg13 : arg13.IsWhole) (X : BufTy.Contents (Elt F) arg13.view.ty) :
    ∀ k j : ℕ, j + k = 288 → ∀ (w : BitVec 32) (a b : FVec F S1x256 .f32) (d e f : IVec S1x256 32) K, search c arg13 X K
      ⊢ wp frame (wpE (defs₀ (F := F)) Variants.nat (c : Thread nD τ) (some k)) E
          (defs₀ (F := F) .tc 1 ⟨i, v124, arg13, harg13, BitVec.ofNat 32 j, w, a, b, d, e, f⟩) K := by
  intro k
  induction k with
  | zero =>
    intro j hj w a b d e f K
    obtain rfl : j = 288 := by omega
    rw [search_apply]
    show _ ⊢ wp frame (wpE (defs₀ (F := F)) Variants.nat (c : Thread nD τ) (some 0)) E (cc0_while1 i v124 arg13 harg13 (288#32) w a b d e f) K
    simp only [cc0_while1_eq_skeleton]; unfold cc0_while1_skel
    simp only [test_at_bound, ↓reduceIte, Prog.pure_eq_ret]
    iintro ⟨H, Hk⟩
    rw [wp_ret]; imodintro
    iapply Hk
    iexact H
  | succ k ih =>
    intro j hj w a b d e f K
    rw [search_apply]
    show _ ⊢ wp frame (wpE (defs₀ (F := F)) Variants.nat (c : Thread nD τ) (some (k + 1))) E (cc0_while1 i v124 arg13 harg13 (BitVec.ofNat 32 j) w a b d e f) K
    simp only [cc0_while1_eq_skeleton]; unfold cc0_while1_skel
    by_cases ht : Scalar.andi (Scalar.cmpi .slt (BitVec.ofNat 32 j) 288#32) (Scalar.cmpi .eq w 0#32) = 1#1
    · simp only [ht, ↓reduceIte]
      simp only [count_succ]
      iintro ⟨H, Hk⟩
      sl_exec
      iapply (wp_call_spec Variants.nat (c : Thread nD τ) (some (k + 1)) E (search c arg13 X) k
        (fun u hu => by cases hu; exact Nat.lt_succ_self k) (ih (j + 1) (by omega) _ _ _ _ _ _))
      rw [search_apply]
      isplitl [H]; · iexact H
      iintro %r H
      rw [wp_ret]; imodintro
      iapply Hk
      iexact H
    · simp only [ht, ↓reduceIte, Prog.pure_eq_ret]
      iintro ⟨H, Hk⟩
      rw [wp_ret]; imodintro
      iapply Hk
      iexact H

/-- The part of the body with the search in it: it reads the scores and one more buffer and leaves both. -/
theorem part_search (c : Dev nD) (E : Set ℕ) (i : grid0.Coords) (arg2 : Memref sig .tc .vmem S1x256x256 .bf16) (harg2 : arg2.IsWhole) (arg3 : Memref sig .tc .vmem S1x8x256 .f32) (harg3 : arg3.IsWhole) (arg4 : Memref sig .tc .vmem S1x2048x256 .bf16) (harg4 : arg4.IsWhole) (arg5 : Memref sig .tc .vmem S1x8x272x256 .bf16) (harg5 : arg5.IsWhole) (arg6 : Memref sig .tc .vmem S1x2048x64 .bf16) (harg6 : arg6.IsWhole) (arg7 : Memref sig .tc .vmem S256x256 .bf16) (harg7 : arg7.IsWhole) (arg8 : Memref sig .tc .vmem S512x256 .bf16) (harg8 : arg8.IsWhole) (arg9 : Memref sig .tc .vmem S8x256x64 .bf16) (harg9 : arg9.IsWhole) (arg10 : Memref sig .tc .vmem S8x64x256 .bf16) (harg10 : arg10.IsWhole) (arg11 : Memref sig .tc .vmem S256x256 .bf16) (harg11 : arg11.IsWhole) (arg12 : Memref sig .tc .vmem S1x256x512 .bf16) (harg12 : arg12.IsWhole) (arg13 : Memref sig .tc .vmem S2048x256 .f32) (harg13 : arg13.IsWhole) (arg14 : Memref sig .tc .vmem S8x256x256 .f32) (harg14 : arg14.IsWhole) (arg15 : Memref sig .tc .vmem S8x256x256 .bf16) (harg15 : arg15.IsWhole) (arg16 : Memref sig .tc .vmem S8x256x256 .f32) (harg16 : arg16.IsWhole) (arg17 : Memref sig .tc .vmem S4x256x256 .f32) (harg17 : arg17.IsWhole) (arg1 : BitVec 32) (v20 : BitVec 32) (v124 : IVec S32x256 32) (v249 : IVec S1x256 1) (v260 : IVec S1x256 1) (v262 : IVec S1x256 1) (v268 : FVec F S1x256 .f32) (v276 : FVec F S1x256 .f32) (v280 : IVec S1x256 32) (v281 : IVec S1x256 32) (v282 : IVec S1x256 32)
    (X : BufTy.Contents (Elt F) arg13.view.ty) (Y : BufTy.Contents (Elt F) arg11.view.ty) :
    iprop((arg11.view.loc (c : Thread nD τ) ↦[arg11.view.set]{fullShare} Y) ∗ (arg13.view.loc (c : Thread nD τ) ↦[arg13.view.set]{fullShare} X))
      ⊢ wp frame (wpE (defs₀ (F := F)) Variants.nat (c : Thread nD τ) none) E (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v20 v124 v249 v260 v262 v268 v276 v280 v281 v282)
          (fun _ => iprop((arg11.view.loc (c : Thread nD τ) ↦[arg11.view.set]{fullShare} Y) ∗ (arg13.view.loc (c : Thread nD τ) ↦[arg13.view.set]{fullShare} X) : sProp 𝕄)) := by
  simp only [k0_part37_eq_skeleton]; unfold k0_part37_skel
  iintro ⟨HY, H⟩
  sl_exec
  iapply (wp_call_spec Variants.nat (c : Thread nD τ) none E (search c arg13 X) 288
    (fun u hu => nomatch hu) (search_le c E i v124 arg13 harg13 X 288 0 rfl _ _ _ _ _ _))
  rw [search_apply]
  isplitl [H]; · iexact H
  iintro %r H
  obtain ⟨r0, r1, r2, r3, r4, r5, r6⟩ := r
  sl_exec
  sl_step
  sl_close

end Cert.Proof.MixDsaIdealRun

end
-- ==== Proof.DsaIdealBody.lean ====
module

public import proofs.«01_k».proof.Proof.DsaIdealSearch

/-
  One run of the body of `MixDsaIdeal`, of which this is said: it comes to an end, it leaves the ten buffers it only reads as
  they were, and it hands back the other six (the result's and the five it works in) with something in them.
-/

@[expose] public section

set_option maxRecDepth 16384

noncomputable section

namespace Cert.Proof.MixDsaIdealRun

open Cert.MixDsaIdeal Cert.MixDsaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's buffers: the ten it reads at their contents, the six it writes at any. -/
def buffers (c : Dev nD) (arg2 : Memref sig .tc .vmem S1x256x256 .bf16) (arg3 : Memref sig .tc .vmem S1x8x256 .f32) (arg4 : Memref sig .tc .vmem S1x2048x256 .bf16) (arg5 : Memref sig .tc .vmem S1x8x272x256 .bf16) (arg6 : Memref sig .tc .vmem S1x2048x64 .bf16) (arg7 : Memref sig .tc .vmem S256x256 .bf16) (arg8 : Memref sig .tc .vmem S512x256 .bf16) (arg9 : Memref sig .tc .vmem S8x256x64 .bf16) (arg10 : Memref sig .tc .vmem S8x64x256 .bf16) (arg11 : Memref sig .tc .vmem S256x256 .bf16) (arg12 : Memref sig .tc .vmem S1x256x512 .bf16) (arg13 : Memref sig .tc .vmem S2048x256 .f32) (arg14 : Memref sig .tc .vmem S8x256x256 .f32) (arg15 : Memref sig .tc .vmem S8x256x256 .bf16) (arg16 : Memref sig .tc .vmem S8x256x256 .f32) (arg17 : Memref sig .tc .vmem S4x256x256 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) : sProp 𝕄 :=
  iprop((arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} X6)
      ∗ (arg7.view.loc (c : Thread nD τ) ↦[arg7.view.set]{fullShare} X7)
      ∗ (arg8.view.loc (c : Thread nD τ) ↦[arg8.view.set]{fullShare} X8)
      ∗ (arg9.view.loc (c : Thread nD τ) ↦[arg9.view.set]{fullShare} X9)
      ∗ (arg10.view.loc (c : Thread nD τ) ↦[arg10.view.set]{fullShare} X10)
      ∗ (arg11.view.loc (c : Thread nD τ) ↦[arg11.view.set]{fullShare} X11)
      ∗ (∃ f, (arg12.view.loc (c : Thread nD τ) ↦[arg12.view.set]{fullShare} f))
      ∗ (∃ f, (arg13.view.loc (c : Thread nD τ) ↦[arg13.view.set]{fullShare} f))
      ∗ (∃ f, (arg14.view.loc (c : Thread nD τ) ↦[arg14.view.set]{fullShare} f))
      ∗ (∃ f, (arg15.view.loc (c : Thread nD τ) ↦[arg15.view.set]{fullShare} f))
      ∗ (∃ f, (arg16.view.loc (c : Thread nD τ) ↦[arg16.view.set]{fullShare} f))
      ∗ (∃ f, (arg17.view.loc (c : Thread nD τ) ↦[arg17.view.set]{fullShare} f)))

set_option maxHeartbeats 12000000 in
/-- The body runs from its buffers to its buffers. -/
theorem body_run (c : Dev nD) (i : grid0.Coords) (arg2 : Memref sig .tc .vmem S1x256x256 .bf16) (harg2 : arg2.IsWhole) (arg3 : Memref sig .tc .vmem S1x8x256 .f32) (harg3 : arg3.IsWhole) (arg4 : Memref sig .tc .vmem S1x2048x256 .bf16) (harg4 : arg4.IsWhole) (arg5 : Memref sig .tc .vmem S1x8x272x256 .bf16) (harg5 : arg5.IsWhole) (arg6 : Memref sig .tc .vmem S1x2048x64 .bf16) (harg6 : arg6.IsWhole) (arg7 : Memref sig .tc .vmem S256x256 .bf16) (harg7 : arg7.IsWhole) (arg8 : Memref sig .tc .vmem S512x256 .bf16) (harg8 : arg8.IsWhole) (arg9 : Memref sig .tc .vmem S8x256x64 .bf16) (harg9 : arg9.IsWhole) (arg10 : Memref sig .tc .vmem S8x64x256 .bf16) (harg10 : arg10.IsWhole) (arg11 : Memref sig .tc .vmem S256x256 .bf16) (harg11 : arg11.IsWhole) (arg12 : Memref sig .tc .vmem S1x256x512 .bf16) (harg12 : arg12.IsWhole) (arg13 : Memref sig .tc .vmem S2048x256 .f32) (harg13 : arg13.IsWhole) (arg14 : Memref sig .tc .vmem S8x256x256 .f32) (harg14 : arg14.IsWhole) (arg15 : Memref sig .tc .vmem S8x256x256 .bf16) (harg15 : arg15.IsWhole) (arg16 : Memref sig .tc .vmem S8x256x256 .f32) (harg16 : arg16.IsWhole) (arg17 : Memref sig .tc .vmem S4x256x256 .f32) (harg17 : arg17.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (K : PUnit → sProp 𝕄) :
    iprop(buffers c arg2 arg3 arg4 arg5 arg6 arg7 arg8 arg9 arg10 arg11 arg12 arg13 arg14 arg15 arg16 arg17 X2 X3 X4 X5 X6 X7 X8 X9 X10 X11
        ∗ (buffers c arg2 arg3 arg4 arg5 arg6 arg7 arg8 arg9 arg10 arg11 arg12 arg13 arg14 arg15 arg16 arg17 X2 X3 X4 X5 X6 X7 X8 X9 X10 X11 -∗ K ⟨⟩))
      ⊢ wp frame (wpE (defs₀ (F := F)) Variants.nat (c : Thread nD τ) none) Set.univ (cc0_mix_dsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hcut := fun arg1 v20 v124 v249 v260 v262 v268 v276 v280 v281 v282 X => part_search (F := F) c Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v20 v124 v249 v260 v262 v268 v276 v280 v281 v282 X X11
  simp only [cc0_mix_dsa_eq_skeleton]; unfold cc0_mix_dsa_skel buffers
  iintro ⟨⟨H2, H3, H4, H5, H6, H7, H8, H9, H10, H11, ⟨%f12, H12⟩, ⟨%f13, H13⟩, ⟨%f14, H14⟩, ⟨%f15, H15⟩, ⟨%f16, H16⟩, ⟨%f17, H17⟩⟩, Hk⟩
  sl_exec
  sl_step
  iapply Hk
  sl_close

end Cert.Proof.MixDsaIdealRun

end
-- ==== Proof.DsaIdealFrame.lean ====
module

public import proofs.«01_k».proof.Proof.DsaIdealBody
public import proofs.«01_k».proof.Proof.Gen.MixDsaIdeal.Launch
public import proofs.«01_k».proof.Proof.Gen.MixDsaIdeal.Points
public import Idealize.ShloMosaic.Lib.Pipeline.FrameBody
public import Idealize.ShloMosaic.Lib.Ring
public import Idealize.ShloMosaic.Lib.WordCmp
public import Idealize.ShloMosaic.Lib.Claim

/-
  The frame of `MixDsaIdeal`: every run ends, with its nine arguments as they were and no semaphore up. The grid's points are
  run one after another, and between two of them nothing is said of what lies in any buffer on the chip: a window that is
  only read is never copied back, so its array cannot change whatever its buffer holds.
-/

@[expose] public section

set_option maxRecDepth 16384

noncomputable section

namespace Cert.Proof.MixDsaIdealRun

open Cert.MixDsaIdeal Cert.MixDsaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What lies in a core's buffers when its grid begins: the memory after the host's operations. -/
abbrev entry (c : Dev nD) (b : Ref sig .tc) : Buf (Elt F) ((c : Thread nD τ).loc b) :=
  StableHlo.after (List.flatten [hostOps0]) (fun b => m (c, b)) b

/-- The program is the host's operations and then the grid. -/
theorem enters : Pipeline.HMain (Ix := Unit) (Name := ℕ) (U := UR sig nD τ) (Lvl := ℕ) cfgs 0 defs₀ Variants.nat m (main (F := F)) (entry m) :=
  Pipeline.hmain_prefixes cfgs 0 defs₀ Variants.nat m main [hostOps0] (by simp only [List.Forall]; exact hostOps0_sub)
    (by simp only [List.Forall]; repeat' constructor) main_chain

/-- The host's operations leave argument 0 alone. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append,
      List.Forall, StableHlo.nullary_writes, StableHlo.unary_writes, StableHlo.binary_writes, Finset.mem_singleton]
    repeat' apply And.intro
    all_goals exact StableHlo.devRef_ne_of_ne (by decide)))
/-- The host's operations leave argument 1 alone. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append,
      List.Forall, StableHlo.nullary_writes, StableHlo.unary_writes, StableHlo.binary_writes, Finset.mem_singleton]
    repeat' apply And.intro
    all_goals exact StableHlo.devRef_ne_of_ne (by decide)))
/-- The host's operations leave argument 2 alone. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append,
      List.Forall, StableHlo.nullary_writes, StableHlo.unary_writes, StableHlo.binary_writes, Finset.mem_singleton]
    repeat' apply And.intro
    all_goals exact StableHlo.devRef_ne_of_ne (by decide)))
/-- The host's operations leave argument 3 alone. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append,
      List.Forall, StableHlo.nullary_writes, StableHlo.unary_writes, StableHlo.binary_writes, Finset.mem_singleton]
    repeat' apply And.intro
    all_goals exact StableHlo.devRef_ne_of_ne (by decide)))
/-- The host's operations leave argument 4 alone. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append,
      List.Forall, StableHlo.nullary_writes, StableHlo.unary_writes, StableHlo.binary_writes, Finset.mem_singleton]
    repeat' apply And.intro
    all_goals exact StableHlo.devRef_ne_of_ne (by decide)))
/-- The host's operations leave argument 5 alone. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append,
      List.Forall, StableHlo.nullary_writes, StableHlo.unary_writes, StableHlo.binary_writes, Finset.mem_singleton]
    repeat' apply And.intro
    all_goals exact StableHlo.devRef_ne_of_ne (by decide)))
/-- The host's operations leave argument 6 alone. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append,
      List.Forall, StableHlo.nullary_writes, StableHlo.unary_writes, StableHlo.binary_writes, Finset.mem_singleton]
    repeat' apply And.intro
    all_goals exact StableHlo.devRef_ne_of_ne (by decide)))
/-- The host's operations leave argument 7 alone. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append,
      List.Forall, StableHlo.nullary_writes, StableHlo.unary_writes, StableHlo.binary_writes, Finset.mem_singleton]
    repeat' apply And.intro
    all_goals exact StableHlo.devRef_ne_of_ne (by decide)))
/-- The host's operations leave argument 8 alone. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append,
      List.Forall, StableHlo.nullary_writes, StableHlo.unary_writes, StableHlo.binary_writes, Finset.mem_singleton]
    repeat' apply And.intro
    all_goals exact StableHlo.devRef_ne_of_ne (by decide)))

/-- Of every window nothing is said. -/
def untold : Fin 11 → Bool := fun _ => true

/-- What is carried from point to point: the arrays as the grid finds them, and the buffers the body works in at any
    contents. -/
def carried (_ : Fin 1) (c : Dev nD) : Dat τ (Elt F) Unit ℕ (UR sig nD τ) ℕ (cfg0 (F := F)) c where
  A w := entry m c (Pipeline.arrRef spec0 w)
  after w t := Pipeline.Dat.unnamed (cfg := cfg0) w t
  Φ _ := Pipeline.ΦA spec0 c
  q _ := fullShare
  owed _ := 0

theorem arrays (c : Dev nD) (w : Fin (cfg0 (F := F)).W) : (carried m 0 c).A w = entry m c (Pipeline.arrRef spec0 w) := by
  dsimp only [carried]

/-- The body's buffers, each with something in it. -/
def held (c : Dev nD) (arg2 : Memref sig .tc .vmem S1x256x256 .bf16) (arg3 : Memref sig .tc .vmem S1x8x256 .f32) (arg4 : Memref sig .tc .vmem S1x2048x256 .bf16) (arg5 : Memref sig .tc .vmem S1x8x272x256 .bf16) (arg6 : Memref sig .tc .vmem S1x2048x64 .bf16) (arg7 : Memref sig .tc .vmem S256x256 .bf16) (arg8 : Memref sig .tc .vmem S512x256 .bf16) (arg9 : Memref sig .tc .vmem S8x256x64 .bf16) (arg10 : Memref sig .tc .vmem S8x64x256 .bf16) (arg11 : Memref sig .tc .vmem S256x256 .bf16) (arg12 : Memref sig .tc .vmem S1x256x512 .bf16) (arg13 : Memref sig .tc .vmem S2048x256 .f32) (arg14 : Memref sig .tc .vmem S8x256x256 .f32) (arg15 : Memref sig .tc .vmem S8x256x256 .bf16) (arg16 : Memref sig .tc .vmem S8x256x256 .f32) (arg17 : Memref sig .tc .vmem S4x256x256 .f32) : sProp 𝕄 :=
  iprop((∃ f : BufTy.Contents (Elt F) arg2.view.ty, (arg2.view.loc (c : Thread nD τ) ↦[arg2.view.set]{fullShare} f))
    ∗ (∃ f : BufTy.Contents (Elt F) arg3.view.ty, (arg3.view.loc (c : Thread nD τ) ↦[arg3.view.set]{fullShare} f))
    ∗ (∃ f : BufTy.Contents (Elt F) arg4.view.ty, (arg4.view.loc (c : Thread nD τ) ↦[arg4.view.set]{fullShare} f))
    ∗ (∃ f : BufTy.Contents (Elt F) arg5.view.ty, (arg5.view.loc (c : Thread nD τ) ↦[arg5.view.set]{fullShare} f))
    ∗ (∃ f : BufTy.Contents (Elt F) arg6.view.ty, (arg6.view.loc (c : Thread nD τ) ↦[arg6.view.set]{fullShare} f))
    ∗ (∃ f : BufTy.Contents (Elt F) arg7.view.ty, (arg7.view.loc (c : Thread nD τ) ↦[arg7.view.set]{fullShare} f))
    ∗ (∃ f : BufTy.Contents (Elt F) arg8.view.ty, (arg8.view.loc (c : Thread nD τ) ↦[arg8.view.set]{fullShare} f))
    ∗ (∃ f : BufTy.Contents (Elt F) arg9.view.ty, (arg9.view.loc (c : Thread nD τ) ↦[arg9.view.set]{fullShare} f))
    ∗ (∃ f : BufTy.Contents (Elt F) arg10.view.ty, (arg10.view.loc (c : Thread nD τ) ↦[arg10.view.set]{fullShare} f))
    ∗ (∃ f : BufTy.Contents (Elt F) arg11.view.ty, (arg11.view.loc (c : Thread nD τ) ↦[arg11.view.set]{fullShare} f))
    ∗ (∃ f : BufTy.Contents (Elt F) arg12.view.ty, (arg12.view.loc (c : Thread nD τ) ↦[arg12.view.set]{fullShare} f))
    ∗ (∃ f : BufTy.Contents (Elt F) arg13.view.ty, (arg13.view.loc (c : Thread nD τ) ↦[arg13.view.set]{fullShare} f))
    ∗ (∃ f : BufTy.Contents (Elt F) arg14.view.ty, (arg14.view.loc (c : Thread nD τ) ↦[arg14.view.set]{fullShare} f))
    ∗ (∃ f : BufTy.Contents (Elt F) arg15.view.ty, (arg15.view.loc (c : Thread nD τ) ↦[arg15.view.set]{fullShare} f))
    ∗ (∃ f : BufTy.Contents (Elt F) arg16.view.ty, (arg16.view.loc (c : Thread nD τ) ↦[arg16.view.set]{fullShare} f))
    ∗ (∃ f : BufTy.Contents (Elt F) arg17.view.ty, (arg17.view.loc (c : Thread nD τ) ↦[arg17.view.set]{fullShare} f)))

/-- One run of the body, of which only this is kept: it ends, and its buffers are there again. -/
theorem body_ends (c : Dev nD) (i : grid0.Coords) (arg2 : Memref sig .tc .vmem S1x256x256 .bf16) (harg2 : arg2.IsWhole) (arg3 : Memref sig .tc .vmem S1x8x256 .f32) (harg3 : arg3.IsWhole) (arg4 : Memref sig .tc .vmem S1x2048x256 .bf16) (harg4 : arg4.IsWhole) (arg5 : Memref sig .tc .vmem S1x8x272x256 .bf16) (harg5 : arg5.IsWhole) (arg6 : Memref sig .tc .vmem S1x2048x64 .bf16) (harg6 : arg6.IsWhole) (arg7 : Memref sig .tc .vmem S256x256 .bf16) (harg7 : arg7.IsWhole) (arg8 : Memref sig .tc .vmem S512x256 .bf16) (harg8 : arg8.IsWhole) (arg9 : Memref sig .tc .vmem S8x256x64 .bf16) (harg9 : arg9.IsWhole) (arg10 : Memref sig .tc .vmem S8x64x256 .bf16) (harg10 : arg10.IsWhole) (arg11 : Memref sig .tc .vmem S256x256 .bf16) (harg11 : arg11.IsWhole) (arg12 : Memref sig .tc .vmem S1x256x512 .bf16) (harg12 : arg12.IsWhole) (arg13 : Memref sig .tc .vmem S2048x256 .f32) (harg13 : arg13.IsWhole) (arg14 : Memref sig .tc .vmem S8x256x256 .f32) (harg14 : arg14.IsWhole) (arg15 : Memref sig .tc .vmem S8x256x256 .bf16) (harg15 : arg15.IsWhole) (arg16 : Memref sig .tc .vmem S8x256x256 .f32) (harg16 : arg16.IsWhole) (arg17 : Memref sig .tc .vmem S4x256x256 .f32) (harg17 : arg17.IsWhole) (R : sProp 𝕄) :
    iprop(held c arg2 arg3 arg4 arg5 arg6 arg7 arg8 arg9 arg10 arg11 arg12 arg13 arg14 arg15 arg16 arg17 ∗ R)
      ⊢ wp frame (wpE (defs₀ (F := F)) Variants.nat (c : Thread nD τ) none) Set.univ (cc0_mix_dsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          fun _ => iprop(held c arg2 arg3 arg4 arg5 arg6 arg7 arg8 arg9 arg10 arg11 arg12 arg13 arg14 arg15 arg16 arg17 ∗ R) := by
  unfold held
  iintro ⟨⟨⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, H12, H13, H14, H15, H16, H17⟩, HR⟩
  iapply (body_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X11 (fun _ => iprop(((∃ f : BufTy.Contents (Elt F) arg2.view.ty, (arg2.view.loc (c : Thread nD τ) ↦[arg2.view.set]{fullShare} f))
    ∗ (∃ f : BufTy.Contents (Elt F) arg3.view.ty, (arg3.view.loc (c : Thread nD τ) ↦[arg3.view.set]{fullShare} f))
    ∗ (∃ f : BufTy.Contents (Elt F) arg4.view.ty, (arg4.view.loc (c : Thread nD τ) ↦[arg4.view.set]{fullShare} f))
    ∗ (∃ f : BufTy.Contents (Elt F) arg5.view.ty, (arg5.view.loc (c : Thread nD τ) ↦[arg5.view.set]{fullShare} f))
    ∗ (∃ f : BufTy.Contents (Elt F) arg6.view.ty, (arg6.view.loc (c : Thread nD τ) ↦[arg6.view.set]{fullShare} f))
    ∗ (∃ f : BufTy.Contents (Elt F) arg7.view.ty, (arg7.view.loc (c : Thread nD τ) ↦[arg7.view.set]{fullShare} f))
    ∗ (∃ f : BufTy.Contents (Elt F) arg8.view.ty, (arg8.view.loc (c : Thread nD τ) ↦[arg8.view.set]{fullShare} f))
    ∗ (∃ f : BufTy.Contents (Elt F) arg9.view.ty, (arg9.view.loc (c : Thread nD τ) ↦[arg9.view.set]{fullShare} f))
    ∗ (∃ f : BufTy.Contents (Elt F) arg10.view.ty, (arg10.view.loc (c : Thread nD τ) ↦[arg10.view.set]{fullShare} f))
    ∗ (∃ f : BufTy.Contents (Elt F) arg11.view.ty, (arg11.view.loc (c : Thread nD τ) ↦[arg11.view.set]{fullShare} f))
    ∗ (∃ f : BufTy.Contents (Elt F) arg12.view.ty, (arg12.view.loc (c : Thread nD τ) ↦[arg12.view.set]{fullShare} f))
    ∗ (∃ f : BufTy.Contents (Elt F) arg13.view.ty, (arg13.view.loc (c : Thread nD τ) ↦[arg13.view.set]{fullShare} f))
    ∗ (∃ f : BufTy.Contents (Elt F) arg14.view.ty, (arg14.view.loc (c : Thread nD τ) ↦[arg14.view.set]{fullShare} f))
    ∗ (∃ f : BufTy.Contents (Elt F) arg15.view.ty, (arg15.view.loc (c : Thread nD τ) ↦[arg15.view.set]{fullShare} f))
    ∗ (∃ f : BufTy.Contents (Elt F) arg16.view.ty, (arg16.view.loc (c : Thread nD τ) ↦[arg16.view.set]{fullShare} f))
    ∗ (∃ f : BufTy.Contents (Elt F) arg17.view.ty, (arg17.view.loc (c : Thread nD τ) ↦[arg17.view.set]{fullShare} f))) ∗ R)))
  unfold buffers
  isplitl [H2 H3 H4 H5 H6 H7 H8 H9 H10 H11 H12 H13 H14 H15 H16 H17]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iintro ⟨H2, H3, H4, H5, H6, H7, H8, H9, H10, H11, H12, H13, H14, H15, H16, H17⟩
  isplitr [HR]
  · isplitl [H2]; · iexists X2; iexact H2
    isplitl [H3]; · iexists X3; iexact H3
    isplitl [H4]; · iexists X4; iexact H4
    isplitl [H5]; · iexists X5; iexact H5
    isplitl [H6]; · iexists X6; iexact H6
    isplitl [H7]; · iexists X7; iexact H7
    isplitl [H8]; · iexists X8; iexact H8
    isplitl [H9]; · iexists X9; iexact H9
    isplitl [H10]; · iexists X10; iexact H10
    isplitl [H11]; · iexists X11; iexact H11
    isplitl [H12]; · iexact H12
    isplitl [H13]; · iexact H13
    isplitl [H14]; · iexact H14
    isplitl [H15]; · iexact H15
    isplitl [H16]; · iexact H16
    iexact H17
  iexact HR

/-- To own a part of a buffer, whatever is read there, is to own it with something in the buffer. -/
theorem whatever (c : Dev nD) {sp : Space} {sh : Shape} {e : EltTy} (M : Memref sig .tc sp sh e) :
    (iprop(∃ X, owns (c : Thread nD τ) M fullShare X) : sProp 𝕄)
      = iprop(∃ f : BufTy.Contents (Elt F) M.view.ty, (M.view.loc (c : Thread nD τ) ↦[M.view.set]{fullShare} f)) := by
  have h₁ : (iprop(∃ X, owns (c : Thread nD τ) M fullShare X) : sProp 𝕄)
      ⊢ iprop(∃ f : BufTy.Contents (Elt F) M.view.ty, (M.view.loc (c : Thread nD τ) ↦[M.view.set]{fullShare} f)) := by
    unfold owns
    iintro ⟨%X, %f, %hf, H⟩
    iexists f; iexact H
  have h₂ : iprop(∃ f : BufTy.Contents (Elt F) M.view.ty, (M.view.loc (c : Thread nD τ) ↦[M.view.set]{fullShare} f))
      ⊢ (iprop(∃ X, owns (c : Thread nD τ) M fullShare X) : sProp 𝕄) := by
    unfold owns
    iintro ⟨%f, H⟩
    iexists _; iexists f
    isplitr
    · ipureintro; exact rfl
    iexact H
  exact BI.equiv_iff.mp ⟨h₁, h₂⟩

/-- The same of a whole buffer. -/
theorem whole_held (c : Dev nD) (b : Ref sig .tc) :
    (iprop(∃ f : Buf (Elt F) ((c : Thread nD τ).loc b), ((c : Thread nD τ).loc b) ↦{fullShare} f) : sProp 𝕄)
      = iprop(∃ f : BufTy.Contents (Elt F) (Memref.whole b).view.ty, ((Memref.whole b).view.loc (c : Thread nD τ) ↦[(Memref.whole b).view.set]{fullShare} f)) := by
  have h₁ : (iprop(∃ f : Buf (Elt F) ((c : Thread nD τ).loc b), ((c : Thread nD τ).loc b) ↦{fullShare} f) : sProp 𝕄)
      ⊢ iprop(∃ f : BufTy.Contents (Elt F) (Memref.whole b).view.ty, ((Memref.whole b).view.loc (c : Thread nD τ) ↦[(Memref.whole b).view.set]{fullShare} f)) := by
    iintro ⟨%f, H⟩
    iexists f
    simp only [View.set_whole]; iexact H
  have h₂ : iprop(∃ f : BufTy.Contents (Elt F) (Memref.whole b).view.ty, ((Memref.whole b).view.loc (c : Thread nD τ) ↦[(Memref.whole b).view.set]{fullShare} f))
      ⊢ (iprop(∃ f : Buf (Elt F) ((c : Thread nD τ).loc b), ((c : Thread nD τ).loc b) ↦{fullShare} f) : sProp 𝕄) := by
    iintro ⟨%f, H⟩
    iexists f
    simp only [View.set_whole]; iexact H
  exact BI.equiv_iff.mp ⟨h₁, h₂⟩

set_option maxHeartbeats 4000000 in
/-- The buffers the body works in and the windows' are those it is handed at a point, the register apart. -/
theorem handed (c : Dev nD) (t : Fin (cfg0 (F := F)).N) (R : sProp 𝕄) :
    iprop((Pipeline.ΦA spec0 c : sProp 𝕄) ∗ R ∗ (∃ X, owns (c : Thread nD τ) (win0_0.stage ((cfg0 (F := F)).slots t 0)) fullShare X)
    ∗ (∃ X, owns (c : Thread nD τ) (win0_1.stage ((cfg0 (F := F)).slots t 1)) fullShare X)
    ∗ (∃ X, owns (c : Thread nD τ) (win0_2.stage ((cfg0 (F := F)).slots t 2)) fullShare X)
    ∗ (∃ X, owns (c : Thread nD τ) (win0_3.stage ((cfg0 (F := F)).slots t 3)) fullShare X)
    ∗ (∃ X, owns (c : Thread nD τ) (win0_4.stage ((cfg0 (F := F)).slots t 4)) fullShare X)
    ∗ (∃ X, owns (c : Thread nD τ) (win0_5.stage ((cfg0 (F := F)).slots t 5)) fullShare X)
    ∗ (∃ X, owns (c : Thread nD τ) (win0_6.stage ((cfg0 (F := F)).slots t 6)) fullShare X)
    ∗ (∃ X, owns (c : Thread nD τ) (win0_7.stage ((cfg0 (F := F)).slots t 7)) fullShare X)
    ∗ (∃ X, owns (c : Thread nD τ) (win0_8.stage ((cfg0 (F := F)).slots t 8)) fullShare X)
    ∗ (∃ X, owns (c : Thread nD τ) (win0_9.stage ((cfg0 (F := F)).slots t 9)) fullShare X)
    ∗ (∃ X, owns (c : Thread nD τ) (win0_10.stage ((cfg0 (F := F)).slots t 10)) fullShare X))
      ⊣⊢ iprop(held c (win0_0.stage ((cfg0 (F := F)).slots t 0)) (win0_1.stage ((cfg0 (F := F)).slots t 1)) (win0_2.stage ((cfg0 (F := F)).slots t 2)) (win0_3.stage ((cfg0 (F := F)).slots t 3)) (win0_4.stage ((cfg0 (F := F)).slots t 4)) (win0_5.stage ((cfg0 (F := F)).slots t 5)) (win0_6.stage ((cfg0 (F := F)).slots t 6)) (win0_7.stage ((cfg0 (F := F)).slots t 7)) (win0_8.stage ((cfg0 (F := F)).slots t 8)) (win0_9.stage ((cfg0 (F := F)).slots t 9)) (win0_10.stage ((cfg0 (F := F)).slots t 10)) (Memref.whole cc0_scratch0) (Memref.whole cc0_scratch1) (Memref.whole cc0_scratch2) (Memref.whole cc0_scratch3) (Memref.whole cc0_scratch4) ∗ (∃ r, prngReg c r) ∗ R) := by
  rw [whatever (F := F) c (win0_0.stage ((cfg0 (F := F)).slots t 0)), whatever (F := F) c (win0_1.stage ((cfg0 (F := F)).slots t 1)), whatever (F := F) c (win0_2.stage ((cfg0 (F := F)).slots t 2)), whatever (F := F) c (win0_3.stage ((cfg0 (F := F)).slots t 3)), whatever (F := F) c (win0_4.stage ((cfg0 (F := F)).slots t 4)), whatever (F := F) c (win0_5.stage ((cfg0 (F := F)).slots t 5)), whatever (F := F) c (win0_6.stage ((cfg0 (F := F)).slots t 6)), whatever (F := F) c (win0_7.stage ((cfg0 (F := F)).slots t 7)), whatever (F := F) c (win0_8.stage ((cfg0 (F := F)).slots t 8)), whatever (F := F) c (win0_9.stage ((cfg0 (F := F)).slots t 9)), whatever (F := F) c (win0_10.stage ((cfg0 (F := F)).slots t 10))]
  unfold Pipeline.ΦA held
  rw [scopedRest0_eq, whole_held (F := F) c cc0_scratch0, whole_held (F := F) c cc0_scratch1, whole_held (F := F) c cc0_scratch2, whole_held (F := F) c cc0_scratch3, whole_held (F := F) c cc0_scratch4]
  constructor
  · iintro ⟨⟨⟨S0, S1, S2, S3, S4⟩, Hr⟩, HR, H0, H1, H2, H3, H4, H5, H6, H7, H8, H9, H10⟩
    isplitr [Hr HR]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [S0]; · iexact S0
      isplitl [S1]; · iexact S1
      isplitl [S2]; · iexact S2
      isplitl [S3]; · iexact S3
      iexact S4
    isplitl [Hr]; · iexact Hr
    iexact HR
  · iintro ⟨⟨H0, H1, H2, H3, H4, H5, H6, H7, H8, H9, H10, S0, S1, S2, S3, S4⟩, Hr, HR⟩
    isplitl [S0 S1 S2 S3 S4 Hr]
    · isplitr [Hr]
      · isplitl [S0]; · iexact S0
        isplitl [S1]; · iexact S1
        isplitl [S2]; · iexact S2
        isplitl [S3]; · iexact S3
        iexact S4
      iexact Hr
    isplitl [HR]; · iexact HR
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body's row of the table, at a point. -/
theorem row (t : Fin (cfg0 (F := F)).N) : defs₀ (F := F) .tc cfg0.body (cfg0.bodyArgs t (cfg0.slots t)) = bodyAt0 t := by
  unfold defs₀; rw [Defs.onTc_tc]

/-- Every point is run as the grid asks. -/
theorem every_point (c : Dev nD) : BodyObligationLoose (carried (F := F) m 0 c) (defs₀ (F := F)) Variants.nat () Set.univ untold := fun t => by
  rw [bigSep_W0, bigSep_W0, row]
  exact triple_restated (body_ends c (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (win0_10.stage ((cfg0 (F := F)).slots t 10)) (hstage0_10 (((cfg0 (F := F)).slots t 10).cast nbuf0_10)) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) _) rfl (handed c t _).1 fun _ => (handed c t _).2

set_option backward.isDefEq.respectTransparency.types false in
/-- The whole run: it ends with its arrays as the grid found them and no semaphore up. -/
theorem ends : θ_run defs (onTc (τ := τ) (main (F := F))) (s₀ m ρ) (fun r =>
    (Pipeline.RDat.FramePost (cfgs 0) (fun c => (carried m 0 c).toRForget untold) (entry m)) r ∧ r.2.sem = fun _ => 0) :=
  Pipeline.θ_run_frame_track_forget (Q' := _) cfgs (carried m) (0 : Fin 1) launch0 defs₀ Variants.nat untold m ρ main
    (hbody := every_point m) (hshare := fun c => (carried m 0 c).share_full fun _ => rfl)
    (howed := fun _ _ => rfl) (V := entry m) (hmain := enters m) (hA := arrays m)
    (hin := fun _ => .rfl) (hout := fun _ => .rfl)

/-- The frame: the arguments end as they began, and no semaphore is up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(Pipeline.RDat.FramePost.arr_in h.1 c 0 rfl).trans ((arrays m c 0).trans (entry_arg0 m c)),
      (Pipeline.RDat.FramePost.arr_in h.1 c 2 rfl).trans ((arrays m c 2).trans (entry_arg1 m c)),
      (Pipeline.RDat.FramePost.arr_in h.1 c 3 rfl).trans ((arrays m c 3).trans (entry_arg2 m c)),
      (Pipeline.RDat.FramePost.arr_in h.1 c 4 rfl).trans ((arrays m c 4).trans (entry_arg3 m c)),
      (Pipeline.RDat.FramePost.arr_in h.1 c 1 rfl).trans ((arrays m c 1).trans (entry_arg4 m c)),
      ((h.1 c).2 main_arg5 (Pipeline.mem_restRefs_of main_arg5 (by decide) (show ∀ w : Fin 11, (spec0 w).arr.view.ref ≠ main_arg5 by decide))).trans (entry_arg5 m c),
      ((h.1 c).2 main_arg6 (Pipeline.mem_restRefs_of main_arg6 (by decide) (show ∀ w : Fin 11, (spec0 w).arr.view.ref ≠ main_arg6 by decide))).trans (entry_arg6 m c),
      ((h.1 c).2 main_arg7 (Pipeline.mem_restRefs_of main_arg7 (by decide) (show ∀ w : Fin 11, (spec0 w).arr.view.ref ≠ main_arg7 by decide))).trans (entry_arg7 m c),
      ((h.1 c).2 main_arg8 (Pipeline.mem_restRefs_of main_arg8 (by decide) (show ∀ w : Fin 11, (spec0 w).arr.view.ref ≠ main_arg8 by decide))).trans (entry_arg8 m c)⟩, h.2⟩) (ends m ρ)

end Cert.Proof.MixDsaIdealRun

end
-- ==== Proof.PreLeft.lean ====
module

public import proofs.«01_k».proof.Proof.Gen.MixPreIdeal.Frame.RunB
public import Idealize.ShloMosaic.Lib.Claim

/-! # What the mixer's first kernel leaves, point by point

The grid's points are sixteen rows of four.  At the first point of a row the kernel fills the scratch that the other three go on
using; so what a point leaves is a function of what the one before left in that scratch.  These modules name it, for every output
and for the scratch that is kept, and run the kernel over it. -/

@[expose] public section

set_option maxRecDepth 16384

noncomputable section

namespace Cert.MixPreIdeal.Named

open Cert.MixPreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch that is kept from one point to the next: the gated rows, the memory's keys and values, the spread taps. -/
abbrev Carried (F : FTy → Type) [FloatOps F] := Vec F S544x512 .f32 × Vec F S256x512 .bf16 × Vec F S256x512 .bf16 × Vec F S31x8x512 .f32

/-- The body's run at the first point of a row. -/
abbrev runA (c : Dev nD) (t : Fin cfg0.N) (h0 : t.val % 4 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)

/-- The body's run at a later point of a row, over the scratch that the point before left. -/
abbrev runB (c : Dev nD) (t : Fin cfg0.N) (h0 : ¬t.val % 4 = 0) (s : Carried F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) s.1 s.2.1 s.2.2.1 s.2.2.2

/-- What the first point of a row leaves in output 21. -/
def out0_A_21 (c : Dev nD) (t : Fin cfg0.N) (h0 : t.val % 4 = 0) : Vec F S1x512x256 .bf16 :=
  VO0_21.read (Elt F) (VO0_21.writes (Elt F) VO0_21.junk (runA m c t h0).1)

/-- What the first point of a row leaves in output 22. -/
def out0_A_22 (c : Dev nD) (t : Fin cfg0.N) (h0 : t.val % 4 = 0) : Vec F S1x512x256 .bf16 :=
  VO0_22.read (Elt F) (VO0_22.writes (Elt F) VO0_22.junk (runA m c t h0).2.1)

/-- What the first point of a row leaves in output 23. -/
def out0_A_23 (c : Dev nD) (t : Fin cfg0.N) (h0 : t.val % 4 = 0) : Vec F S1x2x272x256 .bf16 :=
  VO0_23.read (Elt F) (VO0_23.writes (Elt F) VO0_23.junk (runA m c t h0).2.2.1)

/-- What the first point of a row leaves in output 24. -/
def out0_A_24 (c : Dev nD) (t : Fin cfg0.N) (h0 : t.val % 4 = 0) : Vec F S1x512x64 .bf16 :=
  VO0_24.read (Elt F) (VO0_24.writes (Elt F) VO0_24.junk (runA m c t h0).2.2.2.1)

/-- What the first point of a row leaves in output 25. -/
def out0_A_25 (c : Dev nD) (t : Fin cfg0.N) (h0 : t.val % 4 = 0) : Vec F S1x8x512 .f32 :=
  VO0_25.read (Elt F) (VO0_25.writes (Elt F) VO0_25.junk (runA m c t h0).2.2.2.2.1)

/-- What the first point of a row leaves in output 26. -/
def out0_A_26 (c : Dev nD) (t : Fin cfg0.N) (h0 : t.val % 4 = 0) : Vec F S1x512x1024 .bf16 :=
  VO0_26.read (Elt F) (VO0_26.writes (Elt F) VO0_26.junk (runA m c t h0).2.2.2.2.2.1)

/-- What the first point of a row leaves in output 27. -/
def out0_A_27 (c : Dev nD) (t : Fin cfg0.N) (h0 : t.val % 4 = 0) : Vec F S1x512x1024 .bf16 :=
  VO0_27.read (Elt F) (VO0_27.writes (Elt F) VO0_27.junk (runA m c t h0).2.2.2.2.2.2.1)

/-- What the first point of a row leaves in scratch buffer 0. -/
def sout0_A_0 (c : Dev nD) (t : Fin cfg0.N) (h0 : t.val % 4 = 0) : Vec F S544x512 .f32 :=
  VS0_0.read (Elt F) (VS0_0.writes (Elt F) VS0_0.junk (runA m c t h0).2.2.2.2.2.2.2.1)

/-- What the first point of a row leaves in scratch buffer 2. -/
def sout0_A_2 (c : Dev nD) (t : Fin cfg0.N) (h0 : t.val % 4 = 0) : Vec F S256x512 .bf16 :=
  VS0_2.read (Elt F) (VS0_2.writes (Elt F) VS0_2.junk (runA m c t h0).2.2.2.2.2.2.2.2.1)

/-- What the first point of a row leaves in scratch buffer 3. -/
def sout0_A_3 (c : Dev nD) (t : Fin cfg0.N) (h0 : t.val % 4 = 0) : Vec F S256x512 .bf16 :=
  VS0_3.read (Elt F) (VS0_3.writes (Elt F) VS0_3.junk (runA m c t h0).2.2.2.2.2.2.2.2.2.1)

/-- What the first point of a row leaves in scratch buffer 6. -/
def sout0_A_6 (c : Dev nD) (t : Fin cfg0.N) (h0 : t.val % 4 = 0) : Vec F S31x8x512 .f32 :=
  VS0_6.read (Elt F) (VS0_6.writes (Elt F) VS0_6.junk (runA m c t h0).2.2.2.2.2.2.2.2.2.2.1)

/-- What a later point of a row leaves in output 21. -/
def out0_B_21 (c : Dev nD) (t : Fin cfg0.N) (h0 : ¬t.val % 4 = 0) (s : Carried F) : Vec F S1x512x256 .bf16 :=
  VO0_21.read (Elt F) (VO0_21.writes (Elt F) VO0_21.junk (runB m c t h0 s).1)

/-- What a later point of a row leaves in output 22. -/
def out0_B_22 (c : Dev nD) (t : Fin cfg0.N) (h0 : ¬t.val % 4 = 0) (s : Carried F) : Vec F S1x512x256 .bf16 :=
  VO0_22.read (Elt F) (VO0_22.writes (Elt F) VO0_22.junk (runB m c t h0 s).2.1)

/-- What a later point of a row leaves in output 23. -/
def out0_B_23 (c : Dev nD) (t : Fin cfg0.N) (h0 : ¬t.val % 4 = 0) (s : Carried F) : Vec F S1x2x272x256 .bf16 :=
  VO0_23.read (Elt F) (VO0_23.writes (Elt F) VO0_23.junk (runB m c t h0 s).2.2.1)

/-- What a later point of a row leaves in output 24. -/
def out0_B_24 (c : Dev nD) (t : Fin cfg0.N) (h0 : ¬t.val % 4 = 0) (s : Carried F) : Vec F S1x512x64 .bf16 :=
  VO0_24.read (Elt F) (VO0_24.writes (Elt F) VO0_24.junk (runB m c t h0 s).2.2.2.1)

/-- What a later point of a row leaves in output 25. -/
def out0_B_25 (c : Dev nD) (t : Fin cfg0.N) (h0 : ¬t.val % 4 = 0) (s : Carried F) : Vec F S1x8x512 .f32 :=
  VO0_25.read (Elt F) (VO0_25.writes (Elt F) VO0_25.junk (runB m c t h0 s).2.2.2.2.1)

/-- What a later point of a row leaves in output 26. -/
def out0_B_26 (c : Dev nD) (t : Fin cfg0.N) (h0 : ¬t.val % 4 = 0) (s : Carried F) : Vec F S1x512x1024 .bf16 :=
  VO0_26.read (Elt F) (VO0_26.writes (Elt F) VO0_26.junk (runB m c t h0 s).2.2.2.2.2.1)

/-- What a later point of a row leaves in output 27. -/
def out0_B_27 (c : Dev nD) (t : Fin cfg0.N) (h0 : ¬t.val % 4 = 0) (s : Carried F) : Vec F S1x512x1024 .bf16 :=
  VO0_27.read (Elt F) (VO0_27.writes (Elt F) VO0_27.junk (runB m c t h0 s).2.2.2.2.2.2.1)

/-- What a later point of a row leaves in scratch buffer 0. -/
def sout0_B_0 (c : Dev nD) (t : Fin cfg0.N) (h0 : ¬t.val % 4 = 0) (s : Carried F) : Vec F S544x512 .f32 :=
  VS0_0.read (Elt F) (VS0_0.writes (Elt F) VS0_0.junk (runB m c t h0 s).2.2.2.2.2.2.2.1)

/-- The first point of a row writes the whole of output 21. -/
theorem cover0_A_21 (c : Dev nD) (t : Fin cfg0.N) (h0 : t.val % 4 = 0) (y : S1x512x256.Idx) :
    ∃ pc ∈ (runA m c t h0).1, y ∈ pc.1.set :=
  View.cover_of_tiledL (runA m c t h0).1 S1x512x256.size (by sl_kernel_rfl) y

/-- The first point of a row writes the whole of output 22. -/
theorem cover0_A_22 (c : Dev nD) (t : Fin cfg0.N) (h0 : t.val % 4 = 0) (y : S1x512x256.Idx) :
    ∃ pc ∈ (runA m c t h0).2.1, y ∈ pc.1.set :=
  View.cover_of_tiledL (runA m c t h0).2.1 S1x512x256.size (by sl_kernel_rfl) y

/-- The first point of a row writes the whole of output 23. -/
theorem cover0_A_23 (c : Dev nD) (t : Fin cfg0.N) (h0 : t.val % 4 = 0) (y : S1x2x272x256.Idx) :
    ∃ pc ∈ (runA m c t h0).2.2.1, y ∈ pc.1.set :=
  View.cover_of_tiledBy (runA m c t h0).2.2.1 ![1, 1, 16, 256] (by sl_kernel_rfl) y

/-- The first point of a row writes the whole of output 24. -/
theorem cover0_A_24 (c : Dev nD) (t : Fin cfg0.N) (h0 : t.val % 4 = 0) (y : S1x512x64.Idx) :
    ∃ pc ∈ (runA m c t h0).2.2.2.1, y ∈ pc.1.set :=
  View.cover_of_tiledL (runA m c t h0).2.2.2.1 S1x512x64.size (by sl_kernel_rfl) y

/-- The first point of a row writes the whole of output 25. -/
theorem cover0_A_25 (c : Dev nD) (t : Fin cfg0.N) (h0 : t.val % 4 = 0) (y : S1x8x512.Idx) :
    ∃ pc ∈ (runA m c t h0).2.2.2.2.1, y ∈ pc.1.set :=
  View.cover_of_tiledL (runA m c t h0).2.2.2.2.1 S1x8x512.size (by sl_kernel_rfl) y

/-- The first point of a row writes the whole of output 26. -/
theorem cover0_A_26 (c : Dev nD) (t : Fin cfg0.N) (h0 : t.val % 4 = 0) (y : S1x512x1024.Idx) :
    ∃ pc ∈ (runA m c t h0).2.2.2.2.2.1, y ∈ pc.1.set :=
  View.cover_of_tiledL (runA m c t h0).2.2.2.2.2.1 S1x512x256.size (by sl_kernel_rfl) y

/-- The first point of a row writes the whole of output 27. -/
theorem cover0_A_27 (c : Dev nD) (t : Fin cfg0.N) (h0 : t.val % 4 = 0) (y : S1x512x1024.Idx) :
    ∃ pc ∈ (runA m c t h0).2.2.2.2.2.2.1, y ∈ pc.1.set :=
  View.cover_of_tiledL (runA m c t h0).2.2.2.2.2.2.1 S1x512x1024.size (by sl_kernel_rfl) y

/-- The first point of a row writes the whole of scratch buffer 0. -/
theorem scover0_A_0 (c : Dev nD) (t : Fin cfg0.N) (h0 : t.val % 4 = 0) (y : S544x512.Idx) :
    ∃ pc ∈ (runA m c t h0).2.2.2.2.2.2.2.1, y ∈ pc.1.set :=
  View.cover_of_tiledBy (runA m c t h0).2.2.2.2.2.2.2.1 ![32, 512] (by sl_kernel_rfl) y

/-- The first point of a row writes the whole of scratch buffer 2. -/
theorem scover0_A_2 (c : Dev nD) (t : Fin cfg0.N) (h0 : t.val % 4 = 0) (y : S256x512.Idx) :
    ∃ pc ∈ (runA m c t h0).2.2.2.2.2.2.2.2.1, y ∈ pc.1.set :=
  View.cover_of_tiledL (runA m c t h0).2.2.2.2.2.2.2.2.1 S256x512.size (by sl_kernel_rfl) y

/-- The first point of a row writes the whole of scratch buffer 3. -/
theorem scover0_A_3 (c : Dev nD) (t : Fin cfg0.N) (h0 : t.val % 4 = 0) (y : S256x512.Idx) :
    ∃ pc ∈ (runA m c t h0).2.2.2.2.2.2.2.2.2.1, y ∈ pc.1.set :=
  View.cover_of_tiledL (runA m c t h0).2.2.2.2.2.2.2.2.2.1 S256x512.size (by sl_kernel_rfl) y

/-- The first point of a row writes the whole of scratch buffer 6. -/
theorem scover0_A_6 (c : Dev nD) (t : Fin cfg0.N) (h0 : t.val % 4 = 0) (y : S31x8x512.Idx) :
    ∃ pc ∈ (runA m c t h0).2.2.2.2.2.2.2.2.2.2.1, y ∈ pc.1.set :=
  View.cover_of_tiledL (runA m c t h0).2.2.2.2.2.2.2.2.2.2.1 S1x8x512.size (by sl_kernel_rfl) y

/-- A later point of a row writes the whole of output 21. -/
theorem cover0_B_21 (c : Dev nD) (t : Fin cfg0.N) (h0 : ¬t.val % 4 = 0) (s : Carried F) (y : S1x512x256.Idx) :
    ∃ pc ∈ (runB m c t h0 s).1, y ∈ pc.1.set :=
  View.cover_of_tiledL (runB m c t h0 s).1 S1x512x256.size (by sl_kernel_rfl) y

/-- A later point of a row writes the whole of output 22. -/
theorem cover0_B_22 (c : Dev nD) (t : Fin cfg0.N) (h0 : ¬t.val % 4 = 0) (s : Carried F) (y : S1x512x256.Idx) :
    ∃ pc ∈ (runB m c t h0 s).2.1, y ∈ pc.1.set :=
  View.cover_of_tiledL (runB m c t h0 s).2.1 S1x512x256.size (by sl_kernel_rfl) y

/-- A later point of a row writes the whole of output 23. -/
theorem cover0_B_23 (c : Dev nD) (t : Fin cfg0.N) (h0 : ¬t.val % 4 = 0) (s : Carried F) (y : S1x2x272x256.Idx) :
    ∃ pc ∈ (runB m c t h0 s).2.2.1, y ∈ pc.1.set :=
  View.cover_of_tiledBy (runB m c t h0 s).2.2.1 ![1, 1, 16, 256] (by sl_kernel_rfl) y

/-- A later point of a row writes the whole of output 24. -/
theorem cover0_B_24 (c : Dev nD) (t : Fin cfg0.N) (h0 : ¬t.val % 4 = 0) (s : Carried F) (y : S1x512x64.Idx) :
    ∃ pc ∈ (runB m c t h0 s).2.2.2.1, y ∈ pc.1.set :=
  View.cover_of_tiledL (runB m c t h0 s).2.2.2.1 S1x512x64.size (by sl_kernel_rfl) y

/-- A later point of a row writes the whole of output 25. -/
theorem cover0_B_25 (c : Dev nD) (t : Fin cfg0.N) (h0 : ¬t.val % 4 = 0) (s : Carried F) (y : S1x8x512.Idx) :
    ∃ pc ∈ (runB m c t h0 s).2.2.2.2.1, y ∈ pc.1.set :=
  View.cover_of_tiledL (runB m c t h0 s).2.2.2.2.1 S1x8x512.size (by sl_kernel_rfl) y

/-- A later point of a row writes the whole of output 26. -/
theorem cover0_B_26 (c : Dev nD) (t : Fin cfg0.N) (h0 : ¬t.val % 4 = 0) (s : Carried F) (y : S1x512x1024.Idx) :
    ∃ pc ∈ (runB m c t h0 s).2.2.2.2.2.1, y ∈ pc.1.set :=
  View.cover_of_tiledL (runB m c t h0 s).2.2.2.2.2.1 S1x512x256.size (by sl_kernel_rfl) y

/-- A later point of a row writes the whole of output 27. -/
theorem cover0_B_27 (c : Dev nD) (t : Fin cfg0.N) (h0 : ¬t.val % 4 = 0) (s : Carried F) (y : S1x512x1024.Idx) :
    ∃ pc ∈ (runB m c t h0 s).2.2.2.2.2.2.1, y ∈ pc.1.set :=
  View.cover_of_tiledL (runB m c t h0 s).2.2.2.2.2.2.1 S1x512x1024.size (by sl_kernel_rfl) y

/-- A later point of a row writes the whole of scratch buffer 0. -/
theorem scover0_B_0 (c : Dev nD) (t : Fin cfg0.N) (h0 : ¬t.val % 4 = 0) (s : Carried F) (y : S544x512.Idx) :
    ∃ pc ∈ (runB m c t h0 s).2.2.2.2.2.2.2.1, y ∈ pc.1.set :=
  View.cover_of_tiledBy (runB m c t h0 s).2.2.2.2.2.2.2.1 ![32, 512] (by sl_kernel_rfl) y

/-- Everything a point leaves: the seven outputs, then the kept scratch (of which a later point of a row rewrites only the first). -/
abbrev Left (F : FTy → Type) [FloatOps F] := Vec F S1x512x256 .bf16 × Vec F S1x512x256 .bf16 × Vec F S1x2x272x256 .bf16 × Vec F S1x512x64 .bf16 × Vec F S1x8x512 .f32 × Vec F S1x512x1024 .bf16 × Vec F S1x512x1024 .bf16 × Vec F S544x512 .f32 × Vec F S256x512 .bf16 × Vec F S256x512 .bf16 × Vec F S31x8x512 .f32

/-- What the first point of a row leaves. -/
def leftA (c : Dev nD) (t : Fin cfg0.N) (h0 : t.val % 4 = 0) : Left F :=
  (out0_A_21 m c t h0, out0_A_22 m c t h0, out0_A_23 m c t h0, out0_A_24 m c t h0, out0_A_25 m c t h0, out0_A_26 m c t h0, out0_A_27 m c t h0, sout0_A_0 m c t h0, sout0_A_2 m c t h0, sout0_A_3 m c t h0, sout0_A_6 m c t h0)

/-- What a later point of a row leaves. -/
def leftB (c : Dev nD) (t : Fin cfg0.N) (h0 : ¬t.val % 4 = 0) (s : Carried F) : Left F :=
  (out0_B_21 m c t h0 s, out0_B_22 m c t h0 s, out0_B_23 m c t h0 s, out0_B_24 m c t h0 s, out0_B_25 m c t h0 s, out0_B_26 m c t h0 s, out0_B_27 m c t h0 s, sout0_B_0 m c t h0 s, s.2.1, s.2.2.1, s.2.2.2)

/-- What every point leaves, each from the one before. -/
def outsAt0 (c : Dev nD) : (n : ℕ) → n < cfg0.N → Left F
  | 0, hn => leftA m c ⟨0, hn⟩ (Nat.zero_mod _)
  | n + 1, hn =>
    if h0 : (n + 1) % 4 = 0 then leftA m c ⟨n + 1, hn⟩ h0
    else leftB m c ⟨n + 1, hn⟩ h0 (outsAt0 c n (Nat.lt_of_succ_lt hn)).2.2.2.2.2.2.2

theorem outsAt0_A (c : Dev nD) (t : Fin cfg0.N) (h0 : t.val % 4 = 0) : outsAt0 m c t.val t.isLt = leftA m c t h0 := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = leftB m c t h0 (outsAt0 m c (t.val - 1) (by omega)).2.2.2.2.2.2.2 := by
  obtain ⟨n, hn⟩ := t
  cases n with
  | zero => exact absurd (Nat.zero_mod _) h0
  | succ n => exact (dif_neg h0).trans rfl

/-- What holds of the scratch before a point: at the start nothing is known of it, later the kept buffers are at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.1) ∗ (∃ d, owns (c : Thread nD τ) scM0_1 fullShare d) ∗ owns (c : Thread nD τ) scM0_2 fullShare ((outsAt0 m c n hn).2.2.2.2.2.2.2.2.1) ∗ owns (c : Thread nD τ) scM0_3 fullShare ((outsAt0 m c n hn).2.2.2.2.2.2.2.2.2.1) ∗ (∃ d, owns (c : Thread nD τ) scM0_4 fullShare d) ∗ (∃ d, owns (c : Thread nD τ) scM0_5 fullShare d) ∗ owns (c : Thread nD τ) scM0_6 fullShare ((outsAt0 m c n hn).2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- The same after a point. -/
theorem PhiS_succ (c : Dev nD) (n : ℕ) (hn : n < cfg0.N) :
    PhiS m c (n + 1) hn = iprop(iprop(owns (c : Thread nD τ) scM0_0 fullShare ((outsAt0 m c n hn).2.2.2.2.2.2.2.1) ∗ (∃ d, owns (c : Thread nD τ) scM0_1 fullShare d) ∗ owns (c : Thread nD τ) scM0_2 fullShare ((outsAt0 m c n hn).2.2.2.2.2.2.2.2.1) ∗ owns (c : Thread nD τ) scM0_3 fullShare ((outsAt0 m c n hn).2.2.2.2.2.2.2.2.2.1) ∗ (∃ d, owns (c : Thread nD τ) scM0_4 fullShare d) ∗ (∃ d, owns (c : Thread nD τ) scM0_5 fullShare d) ∗ owns (c : Thread nD τ) scM0_6 fullShare ((outsAt0 m c n hn).2.2.2.2.2.2.2.2.2.2)) ∗ (∃ r, prngReg c r)) := rfl

/-- The same before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.1) ∗ (∃ d, owns (c : Thread nD τ) scM0_1 fullShare d) ∗ owns (c : Thread nD τ) scM0_2 fullShare ((outsAt0 m c (n - 1) (by omega)).2.2.2.2.2.2.2.2.1) ∗ owns (c : Thread nD τ) scM0_3 fullShare ((outsAt0 m c (n - 1) (by omega)).2.2.2.2.2.2.2.2.2.1) ∗ (∃ d, owns (c : Thread nD τ) scM0_4 fullShare d) ∗ (∃ d, owns (c : Thread nD τ) scM0_5 fullShare d) ∗ owns (c : Thread nD τ) scM0_6 fullShare ((outsAt0 m c (n - 1) (by omega)).2.2.2.2.2.2.2.2.2.2)) ∗ (∃ r, prngReg c r)) := by
  cases n with
  | zero => exact absurd rfl hz
  | succ n => rfl

/-! ## What is claimed of every window at every point -/

/-- Every window's buffer after each point: an input's at its block, an output's at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (outsAt0 m c t.val t.isLt).1
    | ⟨22, _⟩ => (outsAt0 m c t.val t.isLt).2.1
    | ⟨23, _⟩ => (outsAt0 m c t.val t.isLt).2.2.1
    | ⟨24, _⟩ => (outsAt0 m c t.val t.isLt).2.2.2.1
    | ⟨25, _⟩ => (outsAt0 m c t.val t.isLt).2.2.2.2.1
    | ⟨26, _⟩ => (outsAt0 m c t.val t.isLt).2.2.2.2.2.1
    | ⟨27, _⟩ => (outsAt0 m c t.val t.isLt).2.2.2.2.2.2.1
    | ⟨_ + 28, h⟩ => absurd h (Nat.not_lt.2 (Nat.le_add_left _ _))
  Φ t := PhiS m c t.val (Nat.le_of_lt_succ t.isLt)
  q _ := fullShare
  owed _ := 0

/-- The arrays are what the launch finds. -/
theorem A_eq (c : Dev nD) (w : Fin cfg0.W) : (dats m 0 c).A w = V m c (Pipeline.arrRef spec0 w) := by
  dsimp only [dats]

/-- The scratch at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What every window holds after a point, one window at a time. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = (outsAt0 m c t.val t.isLt).1 := by dsimp only [dats]
theorem after0_22 (c : Dev nD) (t : Fin cfg0.N) : (dats m 0 c).after 22 t = (outsAt0 m c t.val t.isLt).2.1 := by dsimp only [dats]
theorem after0_23 (c : Dev nD) (t : Fin cfg0.N) : (dats m 0 c).after 23 t = (outsAt0 m c t.val t.isLt).2.2.1 := by dsimp only [dats]
theorem after0_24 (c : Dev nD) (t : Fin cfg0.N) : (dats m 0 c).after 24 t = (outsAt0 m c t.val t.isLt).2.2.2.1 := by dsimp only [dats]
theorem after0_25 (c : Dev nD) (t : Fin cfg0.N) : (dats m 0 c).after 25 t = (outsAt0 m c t.val t.isLt).2.2.2.2.1 := by dsimp only [dats]
theorem after0_26 (c : Dev nD) (t : Fin cfg0.N) : (dats m 0 c).after 26 t = (outsAt0 m c t.val t.isLt).2.2.2.2.2.1 := by dsimp only [dats]
theorem after0_27 (c : Dev nD) (t : Fin cfg0.N) : (dats m 0 c).after 27 t = (outsAt0 m c t.val t.isLt).2.2.2.2.2.2.1 := by dsimp only [dats]

/-- At every point an input is at its block, whether that point fetched it or an earlier one did. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## What the kernel finds and returns at any point -/

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

end Cert.MixPreIdeal.Named

end
-- ==== Proof.PreRun.lean ====
module

public import proofs.«01_k».proof.Proof.PreLeft

/-! # The run of the mixer's first kernel, every point's outputs named -/

@[expose] public section

set_option maxRecDepth 16384

noncomputable section

namespace Cert.MixPreIdeal.Named

open Cert.MixPreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 25600000 in
/-- The body at any point, by cases: the first of all, the first of a row, a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · by_cases hz : t.val = 0
    · rw [PhiS_castSucc m c t, PhiS_zero m c _ _ hz, PhiA0_eq]
      rw [outsAt0_A m c t h0]
      unfold leftA out0_A_21 out0_A_22 out0_A_23 out0_A_24 out0_A_25 out0_A_26 out0_A_27 sout0_A_0 sout0_A_2 sout0_A_3 sout0_A_6; (try dsimp only)
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
      iapply ((runA m c t h0).2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, H7, H8, H9, H10, H11, H12, H13, H14, H15, H16, H17, H18, H19, H20, ⟨%e21, H21⟩, ⟨%e22, H22⟩, ⟨%e23, H23⟩, ⟨%e24, H24⟩, ⟨%e25, H25⟩, ⟨%e26, H26⟩, ⟨%e27, H27⟩, ⟨%es0, HS0⟩, ⟨%fT1, HS1⟩, ⟨%es2, HS2⟩, ⟨%es3, HS3⟩, ⟨%fT4, HS4⟩, ⟨%fT5, HS5⟩, ⟨%es6, HS6⟩⟩
      isplitl [HS0 HS1 HS2 HS3 HS4 HS5 HS6 Hg]
      · isplitl [HS0 HS1 HS2 HS3 HS4 HS5 HS6]
        · isplitl [HS0]
          · unfold owns; iexists _; isplitr
            swap; · iexact HS0
            ipureintro; exact View.read_writes_of_cover _ _ _ _ _ (scover0_A_0 m c t h0)
          isplitl [HS1]
          · iexists _; unfold owns; iexists _; isplitr
            swap; · iexact HS1
            ipureintro; rfl
          isplitl [HS2]
          · unfold owns; iexists _; isplitr
            swap; · iexact HS2
            ipureintro; exact View.read_writes_of_cover _ _ _ _ _ (scover0_A_2 m c t h0)
          isplitl [HS3]
          · unfold owns; iexists _; isplitr
            swap; · iexact HS3
            ipureintro; exact View.read_writes_of_cover _ _ _ _ _ (scover0_A_3 m c t h0)
          isplitl [HS4]
          · iexists _; unfold owns; iexists _; isplitr
            swap; · iexact HS4
            ipureintro; rfl
          isplitl [HS5]
          · iexists _; unfold owns; iexists _; isplitr
            swap; · iexact HS5
            ipureintro; rfl
          unfold owns; iexists _; isplitr
          swap; · iexact HS6
          ipureintro; exact View.read_writes_of_cover _ _ _ _ _ (scover0_A_6 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]
      · unfold owns; iexists _; isplitr
        swap; · iexact H21
        ipureintro; exact View.read_writes_of_cover _ _ _ _ _ (cover0_A_21 m c t h0)
      isplitl [H22]
      · unfold owns; iexists _; isplitr
        swap; · iexact H22
        ipureintro; exact View.read_writes_of_cover _ _ _ _ _ (cover0_A_22 m c t h0)
      isplitl [H23]
      · unfold owns; iexists _; isplitr
        swap; · iexact H23
        ipureintro; exact View.read_writes_of_cover _ _ _ _ _ (cover0_A_23 m c t h0)
      isplitl [H24]
      · unfold owns; iexists _; isplitr
        swap; · iexact H24
        ipureintro; exact View.read_writes_of_cover _ _ _ _ _ (cover0_A_24 m c t h0)
      isplitl [H25]
      · unfold owns; iexists _; isplitr
        swap; · iexact H25
        ipureintro; exact View.read_writes_of_cover _ _ _ _ _ (cover0_A_25 m c t h0)
      isplitl [H26]
      · unfold owns; iexists _; isplitr
        swap; · iexact H26
        ipureintro; exact View.read_writes_of_cover _ _ _ _ _ (cover0_A_26 m c t h0)
      unfold owns; iexists _; isplitr
      swap; · iexact H27
      ipureintro; exact View.read_writes_of_cover _ _ _ _ _ (cover0_A_27 m c t h0)
    · rw [PhiS_castSucc m c t, PhiS_pos m c _ _ hz]
      rw [outsAt0_A m c t h0]
      unfold leftA out0_A_21 out0_A_22 out0_A_23 out0_A_24 out0_A_25 out0_A_26 out0_A_27 sout0_A_0 sout0_A_2 sout0_A_3 sout0_A_6; (try dsimp only)
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
      iapply ((runA m c t h0).2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [HS0]; · iexists _; iexact HS0
      isplitl [HS1]; · iexact HS1
      isplitl [HS2]; · iexists _; iexact HS2
      isplitl [HS3]; · iexists _; iexact HS3
      isplitl [HS4]; · iexact HS4
      isplitl [HS5]; · iexact HS5
      isplitl [HS6]; · iexists _; iexact HS6
      iintro ⟨H0, H1, H2, H3, H4, H5, H6, H7, H8, H9, H10, H11, H12, H13, H14, H15, H16, H17, H18, H19, H20, ⟨%e21, H21⟩, ⟨%e22, H22⟩, ⟨%e23, H23⟩, ⟨%e24, H24⟩, ⟨%e25, H25⟩, ⟨%e26, H26⟩, ⟨%e27, H27⟩, ⟨%es0, HS0⟩, ⟨%fT1, HS1⟩, ⟨%es2, HS2⟩, ⟨%es3, HS3⟩, ⟨%fT4, HS4⟩, ⟨%fT5, HS5⟩, ⟨%es6, HS6⟩⟩
      isplitl [HS0 HS1 HS2 HS3 HS4 HS5 HS6 Hg]
      · isplitl [HS0 HS1 HS2 HS3 HS4 HS5 HS6]
        · isplitl [HS0]
          · unfold owns; iexists _; isplitr
            swap; · iexact HS0
            ipureintro; exact View.read_writes_of_cover _ _ _ _ _ (scover0_A_0 m c t h0)
          isplitl [HS1]
          · iexists _; unfold owns; iexists _; isplitr
            swap; · iexact HS1
            ipureintro; rfl
          isplitl [HS2]
          · unfold owns; iexists _; isplitr
            swap; · iexact HS2
            ipureintro; exact View.read_writes_of_cover _ _ _ _ _ (scover0_A_2 m c t h0)
          isplitl [HS3]
          · unfold owns; iexists _; isplitr
            swap; · iexact HS3
            ipureintro; exact View.read_writes_of_cover _ _ _ _ _ (scover0_A_3 m c t h0)
          isplitl [HS4]
          · iexists _; unfold owns; iexists _; isplitr
            swap; · iexact HS4
            ipureintro; rfl
          isplitl [HS5]
          · iexists _; unfold owns; iexists _; isplitr
            swap; · iexact HS5
            ipureintro; rfl
          unfold owns; iexists _; isplitr
          swap; · iexact HS6
          ipureintro; exact View.read_writes_of_cover _ _ _ _ _ (scover0_A_6 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]
      · unfold owns; iexists _; isplitr
        swap; · iexact H21
        ipureintro; exact View.read_writes_of_cover _ _ _ _ _ (cover0_A_21 m c t h0)
      isplitl [H22]
      · unfold owns; iexists _; isplitr
        swap; · iexact H22
        ipureintro; exact View.read_writes_of_cover _ _ _ _ _ (cover0_A_22 m c t h0)
      isplitl [H23]
      · unfold owns; iexists _; isplitr
        swap; · iexact H23
        ipureintro; exact View.read_writes_of_cover _ _ _ _ _ (cover0_A_23 m c t h0)
      isplitl [H24]
      · unfold owns; iexists _; isplitr
        swap; · iexact H24
        ipureintro; exact View.read_writes_of_cover _ _ _ _ _ (cover0_A_24 m c t h0)
      isplitl [H25]
      · unfold owns; iexists _; isplitr
        swap; · iexact H25
        ipureintro; exact View.read_writes_of_cover _ _ _ _ _ (cover0_A_25 m c t h0)
      isplitl [H26]
      · unfold owns; iexists _; isplitr
        swap; · iexact H26
        ipureintro; exact View.read_writes_of_cover _ _ _ _ _ (cover0_A_26 m c t h0)
      unfold owns; iexists _; isplitr
      swap; · iexact H27
      ipureintro; exact View.read_writes_of_cover _ _ _ _ _ (cover0_A_27 m c t h0)
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold leftB out0_B_21 out0_B_22 out0_B_23 out0_B_24 out0_B_25 out0_B_26 out0_B_27 sout0_B_0; (try dsimp only)
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
      iapply ((runB m c t h0 (outsAt0 m c (t.val - 1) (by omega)).2.2.2.2.2.2.2).2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, H7, H8, H9, H10, H11, H12, H13, H14, H15, H16, H17, H18, H19, H20, ⟨%e21, H21⟩, ⟨%e22, H22⟩, ⟨%e23, H23⟩, ⟨%e24, H24⟩, ⟨%e25, H25⟩, ⟨%e26, H26⟩, ⟨%e27, H27⟩, ⟨%es0, HS0⟩, ⟨%fT1, HS1⟩, HS2, HS3, ⟨%fT4, HS4⟩, ⟨%fT5, HS5⟩, HS6⟩
      isplitl [HS0 HS1 HS2 HS3 HS4 HS5 HS6 Hg]
      · isplitl [HS0 HS1 HS2 HS3 HS4 HS5 HS6]
        · isplitl [HS0]
          · unfold owns; iexists _; isplitr
            swap; · iexact HS0
            ipureintro; exact View.read_writes_of_cover _ _ _ _ _ (scover0_B_0 m c t h0 _)
          isplitl [HS1]
          · iexists _; unfold owns; iexists _; isplitr
            swap; · iexact HS1
            ipureintro; rfl
          isplitl [HS2]
          · iexact HS2
          isplitl [HS3]
          · iexact HS3
          isplitl [HS4]
          · iexists _; unfold owns; iexists _; isplitr
            swap; · iexact HS4
            ipureintro; rfl
          isplitl [HS5]
          · iexists _; unfold owns; iexists _; isplitr
            swap; · iexact HS5
            ipureintro; rfl
          iexact HS6
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]
      · unfold owns; iexists _; isplitr
        swap; · iexact H21
        ipureintro; exact View.read_writes_of_cover _ _ _ _ _ (cover0_B_21 m c t h0 _)
      isplitl [H22]
      · unfold owns; iexists _; isplitr
        swap; · iexact H22
        ipureintro; exact View.read_writes_of_cover _ _ _ _ _ (cover0_B_22 m c t h0 _)
      isplitl [H23]
      · unfold owns; iexists _; isplitr
        swap; · iexact H23
        ipureintro; exact View.read_writes_of_cover _ _ _ _ _ (cover0_B_23 m c t h0 _)
      isplitl [H24]
      · unfold owns; iexists _; isplitr
        swap; · iexact H24
        ipureintro; exact View.read_writes_of_cover _ _ _ _ _ (cover0_B_24 m c t h0 _)
      isplitl [H25]
      · unfold owns; iexists _; isplitr
        swap; · iexact H25
        ipureintro; exact View.read_writes_of_cover _ _ _ _ _ (cover0_B_25 m c t h0 _)
      isplitl [H26]
      · unfold owns; iexists _; isplitr
        swap; · iexact H26
        ipureintro; exact View.read_writes_of_cover _ _ _ _ _ (cover0_B_26 m c t h0 _)
      unfold owns; iexists _; isplitr
      swap; · iexact H27
      ipureintro; exact View.read_writes_of_cover _ _ _ _ _ (cover0_B_27 m c t h0 _)

/-- The body that the launch runs at a point. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body does at every point what the launch asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch starts with unknown scratch, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and may forget it after any point, -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexact HS1
    isplitl [HS2]
    · iexists _; iexact HS2
    isplitl [HS3]
    · iexists _; iexact HS3
    isplitl [HS4]
    · iexact HS4
    isplitl [HS5]
    · iexact HS5
    iexists _; iexact HS6
  iexact Hg

/-- so after the last one. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every execution ends, with the arrays at what the points leave and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The arguments end as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.MixPreIdeal.Named

end
-- ==== Proof.PreRows.lean ====
module

public import proofs.«01_k».proof.Proof.Rows

/-!
# One token's row through the mixer's projections

The mixer's first call multiplies a normalised row by columns of the input projection, whose columns it holds as rows,
and then normalises the product, centres it, or squashes it. This module defines those steps on rows, and reads the
kernel's operations on a block of rows as those steps.
-/

@[expose] public section

namespace Layer

open Idealize.ShloMosaic Idealize.ShloMosaic.ValueIdx
open scoped BigOperators

/-- Row `r` of the only slab of a block. -/
abbrev slabRow {m n : ℕ} {φ : FTy} (x : FVec Ideal ⟨3, ![1, m, n]⟩ φ) (r : Fin m) : Row n := fun k => x (ix3 0 r k)

/-- The matrix whose columns are the rows of `w`. -/
abbrev colsOf {m n : ℕ} {φ : FTy} (w : FVec Ideal ⟨2, ![n, m]⟩ φ) : Fin m → Fin n → EReal := fun i j => w (ix2 j i)

/-- The normalisation over 256 entries. -/
noncomputable abbrev rmsQ (x g : Row 256) : Row 256 := rms 0x43800000#32 0x358637BD#32 x g

/-- A row less its mean, whose divisor is the given word. -/
noncomputable def centre {n : ℕ} (d : BitVec 32) (x : Row n) : Row n := fun j =>
  x j - Ideal.div (∑ k, x k) (Ideal.ofBits .f32 d)

/-- The centred normalisation of a row with gain `g` and shift `b`. -/
noncomputable def layerNorm {n : ℕ} (d e : BitVec 32) (x g b : Row n) : Row n := fun j =>
  rms d e (centre d x) g j + b j

/-- The columns `o`, `o + 1`, … of a matrix. -/
abbrev colsFrom {m N : ℕ} (o n : ℕ) (h : o + n ≤ N) (w : Fin m → Fin N → EReal) : Fin m → Fin n → EReal :=
  fun i j => w i ⟨o + j.val, by have := j.isLt; omega⟩

/-- A product with the rows of a matrix into a zero block, at row `r`, is row `r` times the matrix that has them as columns. -/
theorem matmulT_apply {M K N : ℕ} {φ₁ φ₂ : FTy} (d : DotDims ⟨2, ![M, K]⟩ ⟨2, ![N, K]⟩ ⟨2, ![M, N]⟩)
    (hd : d = DotDims.transposedRhs M K N) (lhs : FVec Ideal ⟨2, ![M, K]⟩ φ₁) (rhs : FVec Ideal ⟨2, ![N, K]⟩ φ₂) (r : Fin M) (c : Fin N) :
    matmul d none lhs rhs (constant ⟨2, ![M, N]⟩ .f32 0x00000000#32) (ix2 r c) = mul (rowOf lhs r) (colsOf rhs) c := by
  subst hd
  refine (Ideal.matmul_transposedRhs_apply none lhs rhs _ r c).trans ?_
  rw [constant_apply, show Ideal.ofBits .f32 0x00000000#32 = 0 from Ideal.ofBits_zero_f32, zero_add]
  rfl

/-- The kernel's centring of a block of rows, at one entry. -/
theorem centre_apply {m n : ℕ} (d : BitVec 32) (x : FVec Ideal ⟨2, ![m, n]⟩ .f32)
    (s : FVec Ideal ⟨1, ![m]⟩ .f32) (hs : ∀ r, s (ix1 r) = ∑ k : Fin n, x (ix2 r k))
    (hc : (⟨1, ![m]⟩ : Shape).ShapeCasts ⟨2, ![m, 1]⟩) (hb : (⟨2, ![m, 1]⟩ : Shape).Broadcasts ⟨2, ![m, n]⟩) (r : Fin m) (c : Fin n) :
    subf x (broadcastTo ⟨2, ![m, n]⟩ (divf (shapeCast ⟨2, ![m, 1]⟩ s hc)
        (broadcast ⟨2, ![m, 1]⟩ (Scalar.ofBits .f32 d : Ideal .f32))) hb) (ix2 r c) = centre d (rowOf x r) c := by
  show x (ix2 r c) - broadcastTo ⟨2, ![m, n]⟩ _ hb (ix2 r c) = _
  rw [column_apply]
  show x (ix2 r c) - Ideal.div (shapeCast ⟨2, ![m, 1]⟩ s hc (ix2 r 0)) (Ideal.ofBits .f32 d) = _
  rw [asColumn_apply, hs]
  rfl

/-- The kernel's centred normalisation of a block of rows, at one entry. -/
theorem layerNorm_apply {m n : ℕ} (d e : BitVec 32) (x : FVec Ideal ⟨2, ![m, n]⟩ .f32) (g b : FVec Ideal ⟨2, ![1, n]⟩ .f32)
    (acc : BitVec (FTy.f32.bits)) (h : (⟨2, ![m, n]⟩ : Shape).Reduces [1] ⟨1, ![m]⟩) (hφ : FKind.Formats FTy.f32)
    (hacc : acc = FKind.add.neutral .f32 hφ)
    (hc : (⟨1, ![m]⟩ : Shape).ShapeCasts ⟨2, ![m, 1]⟩) (hb : (⟨2, ![m, 1]⟩ : Shape).Broadcasts ⟨2, ![m, n]⟩)
    (hg : (⟨2, ![1, n]⟩ : Shape).Broadcasts ⟨2, ![m, n]⟩) (y : FVec Ideal ⟨2, ![m, n]⟩ .f32)
    (hy : y = subf x (broadcastTo ⟨2, ![m, n]⟩ (divf (shapeCast ⟨2, ![m, 1]⟩ (multiReduction .add [1] ⟨1, ![m]⟩ x acc h hφ hacc) hc)
        (broadcast ⟨2, ![m, 1]⟩ (Scalar.ofBits .f32 d : Ideal .f32))) hb)) (r : Fin m) (c : Fin n) :
    addf (mulf (mulf y (broadcastTo ⟨2, ![m, n]⟩ (rsqrt (addf (divf (shapeCast ⟨2, ![m, 1]⟩
        (multiReduction .add [1] ⟨1, ![m]⟩ (mulf y y) acc h hφ hacc) hc)
        (broadcast ⟨2, ![m, 1]⟩ (Scalar.ofBits .f32 d : Ideal .f32)))
        (broadcast ⟨2, ![m, 1]⟩ (Scalar.ofBits .f32 e : Ideal .f32)))) hb)) (broadcastTo ⟨2, ![m, n]⟩ g hg))
        (broadcastTo ⟨2, ![m, n]⟩ b hg) (ix2 r c)
      = layerNorm d e (rowOf x r) (rowOf g 0) (rowOf b 0) c := by
  have e1 : rowOf y r = centre d (rowOf x r) := funext fun k => by
    subst hy
    exact centre_apply d x _ (fun r => rowSum_apply x acc h hφ hacc r) hc hb r k
  rw [addf_apply, rms_apply d e y g _ (fun r => rowSum_apply (mulf y y) acc h hφ hacc r), broadcastTo_1b_ab_apply, e1]
  rfl

end Layer
-- ==== Proof.PreBlock.lean ====
module

public import proofs.«01_k».proof.Proof.PreRows
public import proofs.«01_k».proof.Proof.Gen.MixPreIdeal.Skeleton

/-!
# What the body of the mixer's first call stores in four of its blocks

The stored blocks of the query latent, the key latent, the index key and the first gate, at row `r` and column `c`,
are steps on row `r` of the normalised block.
-/

@[expose] public section

namespace Cert.MixPreIdeal.Rows

open Cert.MixPreIdeal Cert.MixPreIdeal.Gen Idealize.ShloMosaic Idealize.ShloMosaic.ValueIdx Layer
open scoped BigOperators

/-- The normalised block. -/
theorem norm_row (x : Vec Ideal S1x512x1024 .f32) (g : Vec Ideal S1x1024 .f32) (r : Fin 512) :
    rowOf (φ := .bf16) (k0_pay42 (F := Ideal) x g) r = rmsD (slabRow (φ := .f32) x r) (rowOf (φ := .f32) g 0) := by
  unfold k0_pay42
  simp only [shapeCast_self]
  rw [rms_row 0x44800000#32 0x358637BD#32 _ _ _ (fun r => rowSum_apply _ _ _ _ _ r)]
  refine congrArg (fun y => rmsD y (rowOf (φ := .f32) g 0)) (funext fun k => ?_)
  exact shapeCast_1ab_ab_apply x _ r k

/-- The query latent. -/
theorem query_apply (h : FVec Ideal S512x1024 .bf16) (w : Vec Ideal S256x1024 .bf16) (g : Vec Ideal S1x256 .f32) (r : Fin 512) (c : Fin 256) :
    k0_pay589 (F := Ideal) h w g (ix3 0 r c)
      = rmsQ (mul (rowOf (φ := .bf16) h r) (colsOf (φ := .bf16) w)) (rowOf (φ := .f32) g 0) c := by
  unfold k0_pay589
  simp only [shapeCast_self]
  rw [shapeCast_ab_1ab_apply]
  refine (rms_apply 0x43800000#32 0x358637BD#32 _ _ _ (fun r => rowSum_apply _ _ _ _ _ r) _ _ _ r c).trans ?_
  refine congrArg (fun y => rmsQ y (rowOf (φ := .f32) g 0) c) (funext fun k => ?_)
  exact matmulT_apply (φ₁ := .bf16) (φ₂ := .bf16) dot_S512x1024_S256x1024_S512x256_1_1_0_0_n_n rfl h w r k

/-- The key latent. -/
theorem key_apply (h : FVec Ideal S512x1024 .bf16) (w : Vec Ideal S256x1024 .bf16) (g : Vec Ideal S1x256 .f32) (r : Fin 512) (c : Fin 256) :
    k0_pay594 (F := Ideal) (k0_pay590 h w) (k0_pay591 g) (k0_pay592 h w) (Scalar.ofBits .f32 0x358637BD#32) (ix3 0 r c)
      = rmsQ (mul (rowOf (φ := .bf16) h r) (colsOf (φ := .bf16) w)) (rowOf (φ := .f32) g 0) c := by
  unfold k0_pay594 k0_pay593 k0_pay592 k0_pay591
  simp only [shapeCast_self]
  rw [shapeCast_ab_1ab_apply]
  refine (rms_apply 0x43800000#32 0x358637BD#32 _ _ _ (fun r => rowSum_apply _ _ _ _ _ r) _ _ _ r c).trans ?_
  refine congrArg (fun y => rmsQ y (rowOf (φ := .f32) g 0) c) (funext fun k => ?_)
  unfold k0_pay590
  simp only [shapeCast_self]
  exact matmulT_apply (φ₁ := .bf16) (φ₂ := .bf16) dot_S512x1024_S256x1024_S512x256_1_1_0_0_n_n rfl h w r k

/-- The index key: the first 64 of the 128 columns that the product holds. -/
theorem index_apply (h : FVec Ideal S512x1024 .bf16) (w : Vec Ideal S128x1024 .bf16) (g b : Vec Ideal S1x64 .f32) (r : Fin 512) (c : Fin 64) :
    k0_pay600 (F := Ideal) h w g b (ix3 0 r c)
      = layerNorm 0x42800000#32 0x358637BD#32
          (mul (rowOf (φ := .bf16) h r) (colsFrom 0 64 (by omega) (colsOf (φ := .bf16) w))) (rowOf (φ := .f32) g 0) (rowOf (φ := .f32) b 0) c := by
  unfold k0_pay600
  simp only [shapeCast_self]
  rw [shapeCast_ab_1ab_apply]
  refine (layerNorm_apply 0x42800000#32 0x358637BD#32 _ _ _ _ _ _ _ _ _ _ _ rfl r c).trans ?_
  refine congrArg (fun y => layerNorm 0x42800000#32 0x358637BD#32 y (rowOf (φ := .f32) g 0) (rowOf (φ := .f32) b 0) c) (funext fun k => ?_)
  unfold k0_pay599
  simp only [shapeCast_self]
  have hk := k.isLt
  refine (extractStridedSlice_apply ![0, 0] _ slices_S512x128_o0_0_S512x64 (ix2 r k) (ix2 r (⟨0 + k.val, by omega⟩ : Fin 128)) fun a => ?_).trans
    (matmulT_apply (φ₁ := .bf16) (φ₂ := .bf16) dot_S512x1024_S128x1024_S512x128_1_1_0_0_n_n rfl h w r _)
  match a with
  | ⟨0, _⟩ => exact (Nat.zero_add _).symm
  | ⟨1, _⟩ => rfl

/-- A run of 256 columns of the first gate. -/
theorem gate_apply (h : FVec Ideal S512x1024 .bf16) (w : Vec Ideal S256x1024 .bf16) (r : Fin 512) (c : Fin 256) :
    k0_pay52 (F := Ideal) h w (ix3 0 r c) = Ideal.logistic (mul (rowOf (φ := .bf16) h r) (colsOf (φ := .bf16) w) c) := by
  unfold k0_pay52 k0_pay51
  simp only [shapeCast_self]
  rw [shapeCast_ab_1ab_apply]
  exact congrArg Ideal.logistic (matmulT_apply (φ₁ := .bf16) (φ₂ := .bf16) dot_S512x1024_S256x1024_S512x256_1_1_0_0_n_n rfl h w r c)

end Cert.MixPreIdeal.Rows
-- ==== Proof.PreValue.lean ====
module

public import proofs.«01_k».proof.Proof.PreLeft
public import proofs.«01_k».proof.Proof.PreBlock

/-!
# What a point of the mixer's first call leaves in four of its outputs

The query latent, the key latent, the index key and the first gate are stored from the point's own inputs only, in the
same way at the first point of a row and at a later one.
-/

@[expose] public section

namespace Cert.MixPreIdeal.Rows

open Cert.MixPreIdeal Cert.MixPreIdeal.Gen Cert.MixPreIdeal.Named Idealize.ShloMosaic Idealize.ShloMosaic.ValueIdx
open Idealize.ShloMosaic.TcCoe Layer
open Idealize.ShloMosaic.Pipeline (Dat)
open scoped BigOperators

variable (m : (ℓ : Loc nD τ sig) → Buf (Elt Ideal) ℓ)

/-- What a load of the whole of a buffer that holds `x` reads. -/
theorem load_whole {S : Shape} {e : EltTy} {M : Memref sig .tc .vmem S e} (h : M.IsWhole) (x : Vec Ideal S e)
    {off : Fin S.rank → ℕ} (ho : off = fun _ => 0) (inb : ∀ a, off a + S.size a ≤ S.size a) :
    M.view.readAt (Elt Ideal) (Rect.unit off S.size inb) (h.unread x) = x := by
  rw [View.readAt_eq_ld, h.read_unread]
  exact View.ld_unit_zero ho inb x

theorem zero2 : (![0, 0] : Fin 2 → ℕ) = fun _ => 0 := funext fun a => match a with | ⟨0, _⟩ => rfl | ⟨1, _⟩ => rfl
theorem zero3 : (![0, 0, 0] : Fin 3 → ℕ) = fun _ => 0 :=
  funext fun a => match a with | ⟨0, _⟩ => rfl | ⟨1, _⟩ => rfl | ⟨2, _⟩ => rfl

/-- The first gate of a block: the first 1024 of the gates' columns. -/
noncomputable def gateBlock (h : FVec Ideal S512x1024 .bf16) (w : Vec Ideal S3072x1024 .bf16) : Vec Ideal S1x512x1024 .bf16 := fun y =>
  Ideal.logistic (mul (rowOf (φ := .bf16) h (y 1))
    (fun i (j : Fin 1024) => w (ix2 (⟨j.val, by have := j.isLt; omega⟩ : Fin 3072) i)) (y 2))

/-- A run of 256 columns of the first gate is what is stored of it. -/
theorem gate_run (pay : FVec Ideal S512x1024 .bf16 → Vec Ideal S256x1024 .bf16 → FVec Ideal S1x512x256 .bf16)
    (hp : ∀ h w r c, pay h w (ix3 0 r c) = Ideal.logistic (mul (rowOf (φ := .bf16) h r) (colsOf (φ := .bf16) w) c))
    (o : ℕ) (h : FVec Ideal S512x1024 .bf16) (w : Vec Ideal S3072x1024 .bf16)
    (inb : ∀ a, (![o, 0] : Fin 2 → ℕ) a + S256x1024.size a ≤ S3072x1024.size a)
    (inb' : ∀ a, (![0, 0, o] : Fin 3 → ℕ) a + S1x512x256.size a ≤ S1x512x1024.size a) (x : S1x512x256.Idx) :
    pay h (View.ld w (Rect.unit (s := S3072x1024) ![o, 0] S256x1024.size inb)) x
      = gateBlock h w ((Rect.unit (s := S1x512x1024) ![0, 0, o] S1x512x256.size inb').emb x) := by
  obtain ⟨z, r, c, rfl⟩ : ∃ (z : Fin 1) (r : Fin 512) (c : Fin 256), x = ix3 z r c := ⟨x 0, x 1, x 2, eq_ix3 x⟩
  obtain rfl : z = 0 := Subsingleton.elim _ _
  rw [hp]
  unfold gateBlock
  refine congrArg Ideal.logistic (Finset.sum_congr rfl fun i _ => congrArg₂ (· * ·) ?_ ?_)
  · refine congrArg h (funext fun a => Fin.ext ?_)
    match a with
    | ⟨0, _⟩ => show r.val = 0 + 1 * r.val; omega
    | ⟨1, _⟩ => rfl
  · refine congrArg w (funext fun a => Fin.ext ?_)
    match a with
    | ⟨0, _⟩ => show o + 1 * c.val = o + 1 * c.val; rfl
    | ⟨1, _⟩ => show 0 + 1 * i.val = i.val; omega

/-- The other runs of the first gate. -/
theorem gate_apply1 (h : FVec Ideal S512x1024 .bf16) (w : Vec Ideal S256x1024 .bf16) (r : Fin 512) (c : Fin 256) :
    k0_pay55 (F := Ideal) h w (ix3 0 r c) = Ideal.logistic (mul (rowOf (φ := .bf16) h r) (colsOf (φ := .bf16) w) c) :=
  gate_apply h w r c
theorem gate_apply2 (h : FVec Ideal S512x1024 .bf16) (w : Vec Ideal S256x1024 .bf16) (r : Fin 512) (c : Fin 256) :
    k0_pay58 (F := Ideal) h w (ix3 0 r c) = Ideal.logistic (mul (rowOf (φ := .bf16) h r) (colsOf (φ := .bf16) w) c) :=
  gate_apply h w r c
theorem gate_apply3 (h : FVec Ideal S512x1024 .bf16) (w : Vec Ideal S256x1024 .bf16) (r : Fin 512) (c : Fin 256) :
    k0_pay62 (F := Ideal) h (k0_pay60 w) (ix3 0 r c) = Ideal.logistic (mul (rowOf (φ := .bf16) h r) (colsOf (φ := .bf16) w) c) :=
  gate_apply h w r c

/-- The normalised block at a point. -/
noncomputable abbrev normed (c : Dev nD) (t : Fin cfg0.N) : FVec Ideal S512x1024 .bf16 :=
  k0_pay42 (F := Ideal) (iblk m c 0 t) (iblk m c 2 t)

/-- The query latent that the first point of a row leaves. -/
theorem out0_A_21_eq (c : Dev nD) (t : Fin cfg0.N) (h0 : t.val % 4 = 0) :
    out0_A_21 m c t h0 = k0_pay589 (normed m c t) (iblk m c 3 t) (iblk m c 9 t) := by
  have e : (runA m c t h0).1 = [⟨Rect.unit (s := S1x512x256) ![0, 0, 0] S1x512x256.size (by decide), k0_pay589 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_3 t).view.readAt (Elt Ideal) (Rect.unit (s := S256x1024) ![0, 0] S256x1024.size (by decide)) ((hs0_3 t).unread (iblk m c 3 t))) ((ms0_9 t).view.readAt (Elt Ideal) (Rect.unit (s := S1x256) ![0, 0] S1x256.size (by decide)) ((hs0_9 t).unread (iblk m c 9 t)))⟩] := rfl
  unfold out0_A_21
  rw [View.read_writes_junk_eq_canon, e, View.canon_unit_zero zero3, load_whole (hs0_0 t) (iblk m c 0 t) zero3 (by decide), load_whole (hs0_2 t) (iblk m c 2 t) zero2 (by decide), load_whole (hs0_3 t) (iblk m c 3 t) zero2 (by decide), load_whole (hs0_9 t) (iblk m c 9 t) zero2 (by decide)]

/-- The query latent that a later point of a row leaves. -/
theorem out0_B_21_eq (c : Dev nD) (t : Fin cfg0.N) (h0 : ¬t.val % 4 = 0) (s : Carried Ideal) :
    out0_B_21 m c t h0 s = k0_pay589 (normed m c t) (iblk m c 3 t) (iblk m c 9 t) := by
  have e : (runB m c t h0 s).1 = [⟨Rect.unit (s := S1x512x256) ![0, 0, 0] S1x512x256.size (by decide), k0_pay589 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_3 t).view.readAt (Elt Ideal) (Rect.unit (s := S256x1024) ![0, 0] S256x1024.size (by decide)) ((hs0_3 t).unread (iblk m c 3 t))) ((ms0_9 t).view.readAt (Elt Ideal) (Rect.unit (s := S1x256) ![0, 0] S1x256.size (by decide)) ((hs0_9 t).unread (iblk m c 9 t)))⟩] := rfl
  unfold out0_B_21
  rw [View.read_writes_junk_eq_canon, e, View.canon_unit_zero zero3, load_whole (hs0_0 t) (iblk m c 0 t) zero3 (by decide), load_whole (hs0_2 t) (iblk m c 2 t) zero2 (by decide), load_whole (hs0_3 t) (iblk m c 3 t) zero2 (by decide), load_whole (hs0_9 t) (iblk m c 9 t) zero2 (by decide)]

/-- The key latent that the first point of a row leaves. -/
theorem out0_A_22_eq (c : Dev nD) (t : Fin cfg0.N) (h0 : t.val % 4 = 0) :
    out0_A_22 m c t h0 = k0_pay594 (k0_pay590 (normed m c t) (iblk m c 4 t)) (k0_pay591 (iblk m c 10 t)) (k0_pay592 (normed m c t) (iblk m c 4 t)) (Scalar.ofBits .f32 0x358637BD#32) := by
  have e : (runA m c t h0).2.1 = [⟨Rect.unit (s := S1x512x256) ![0, 0, 0] S1x512x256.size (by decide), k0_pay594 (k0_pay590 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_4 t).view.readAt (Elt Ideal) (Rect.unit (s := S256x1024) ![0, 0] S256x1024.size (by decide)) ((hs0_4 t).unread (iblk m c 4 t)))) (k0_pay591 ((ms0_10 t).view.readAt (Elt Ideal) (Rect.unit (s := S1x256) ![0, 0] S1x256.size (by decide)) ((hs0_10 t).unread (iblk m c 10 t)))) (k0_pay592 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_4 t).view.readAt (Elt Ideal) (Rect.unit (s := S256x1024) ![0, 0] S256x1024.size (by decide)) ((hs0_4 t).unread (iblk m c 4 t)))) (Scalar.ofBits .f32 0x358637BD#32)⟩] := rfl
  unfold out0_A_22
  rw [View.read_writes_junk_eq_canon, e, View.canon_unit_zero zero3, load_whole (hs0_0 t) (iblk m c 0 t) zero3 (by decide), load_whole (hs0_2 t) (iblk m c 2 t) zero2 (by decide), load_whole (hs0_4 t) (iblk m c 4 t) zero2 (by decide), load_whole (hs0_10 t) (iblk m c 10 t) zero2 (by decide)]

/-- The key latent that a later point of a row leaves. -/
theorem out0_B_22_eq (c : Dev nD) (t : Fin cfg0.N) (h0 : ¬t.val % 4 = 0) (s : Carried Ideal) :
    out0_B_22 m c t h0 s = k0_pay594 (k0_pay590 (normed m c t) (iblk m c 4 t)) (k0_pay591 (iblk m c 10 t)) (k0_pay592 (normed m c t) (iblk m c 4 t)) (Scalar.ofBits .f32 0x358637BD#32) := by
  have e : (runB m c t h0 s).2.1 = [⟨Rect.unit (s := S1x512x256) ![0, 0, 0] S1x512x256.size (by decide), k0_pay594 (k0_pay590 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_4 t).view.readAt (Elt Ideal) (Rect.unit (s := S256x1024) ![0, 0] S256x1024.size (by decide)) ((hs0_4 t).unread (iblk m c 4 t)))) (k0_pay591 ((ms0_10 t).view.readAt (Elt Ideal) (Rect.unit (s := S1x256) ![0, 0] S1x256.size (by decide)) ((hs0_10 t).unread (iblk m c 10 t)))) (k0_pay592 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_4 t).view.readAt (Elt Ideal) (Rect.unit (s := S256x1024) ![0, 0] S256x1024.size (by decide)) ((hs0_4 t).unread (iblk m c 4 t)))) (Scalar.ofBits .f32 0x358637BD#32)⟩] := rfl
  unfold out0_B_22
  rw [View.read_writes_junk_eq_canon, e, View.canon_unit_zero zero3, load_whole (hs0_0 t) (iblk m c 0 t) zero3 (by decide), load_whole (hs0_2 t) (iblk m c 2 t) zero2 (by decide), load_whole (hs0_4 t) (iblk m c 4 t) zero2 (by decide), load_whole (hs0_10 t) (iblk m c 10 t) zero2 (by decide)]

/-- The index key that the first point of a row leaves. -/
theorem out0_A_24_eq (c : Dev nD) (t : Fin cfg0.N) (h0 : t.val % 4 = 0) :
    out0_A_24 m c t h0 = k0_pay600 (normed m c t) (iblk m c 5 t) (iblk m c 11 t) (iblk m c 12 t) := by
  have e : (runA m c t h0).2.2.2.1 = [⟨Rect.unit (s := S1x512x64) ![0, 0, 0] S1x512x64.size (by decide), k0_pay600 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_5 t).view.readAt (Elt Ideal) (Rect.unit (s := S128x1024) ![0, 0] S128x1024.size (by decide)) ((hs0_5 t).unread (iblk m c 5 t))) ((ms0_11 t).view.readAt (Elt Ideal) (Rect.unit (s := S1x64) ![0, 0] S1x64.size (by decide)) ((hs0_11 t).unread (iblk m c 11 t))) ((ms0_12 t).view.readAt (Elt Ideal) (Rect.unit (s := S1x64) ![0, 0] S1x64.size (by decide)) ((hs0_12 t).unread (iblk m c 12 t)))⟩] := rfl
  unfold out0_A_24
  rw [View.read_writes_junk_eq_canon, e, View.canon_unit_zero zero3, load_whole (hs0_0 t) (iblk m c 0 t) zero3 (by decide), load_whole (hs0_2 t) (iblk m c 2 t) zero2 (by decide), load_whole (hs0_5 t) (iblk m c 5 t) zero2 (by decide), load_whole (hs0_11 t) (iblk m c 11 t) zero2 (by decide), load_whole (hs0_12 t) (iblk m c 12 t) zero2 (by decide)]

/-- The index key that a later point of a row leaves. -/
theorem out0_B_24_eq (c : Dev nD) (t : Fin cfg0.N) (h0 : ¬t.val % 4 = 0) (s : Carried Ideal) :
    out0_B_24 m c t h0 s = k0_pay600 (normed m c t) (iblk m c 5 t) (iblk m c 11 t) (iblk m c 12 t) := by
  have e : (runB m c t h0 s).2.2.2.1 = [⟨Rect.unit (s := S1x512x64) ![0, 0, 0] S1x512x64.size (by decide), k0_pay600 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_5 t).view.readAt (Elt Ideal) (Rect.unit (s := S128x1024) ![0, 0] S128x1024.size (by decide)) ((hs0_5 t).unread (iblk m c 5 t))) ((ms0_11 t).view.readAt (Elt Ideal) (Rect.unit (s := S1x64) ![0, 0] S1x64.size (by decide)) ((hs0_11 t).unread (iblk m c 11 t))) ((ms0_12 t).view.readAt (Elt Ideal) (Rect.unit (s := S1x64) ![0, 0] S1x64.size (by decide)) ((hs0_12 t).unread (iblk m c 12 t)))⟩] := rfl
  unfold out0_B_24
  rw [View.read_writes_junk_eq_canon, e, View.canon_unit_zero zero3, load_whole (hs0_0 t) (iblk m c 0 t) zero3 (by decide), load_whole (hs0_2 t) (iblk m c 2 t) zero2 (by decide), load_whole (hs0_5 t) (iblk m c 5 t) zero2 (by decide), load_whole (hs0_11 t) (iblk m c 11 t) zero2 (by decide), load_whole (hs0_12 t) (iblk m c 12 t) zero2 (by decide)]

/-- The first gate that the first point of a row leaves. -/
theorem out0_A_26_eq (c : Dev nD) (t : Fin cfg0.N) (h0 : t.val % 4 = 0) :
    out0_A_26 m c t h0 = gateBlock (normed m c t) (iblk m c 8 t) := by
  have e : (runA m c t h0).2.2.2.2.2.1 = [⟨Rect.unit (s := S1x512x1024) ![0, 0, 768] S1x512x256.size (by decide), k0_pay62 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) (k0_pay60 ((ms0_8 t).view.readAt (Elt Ideal) (Rect.unit (s := S3072x1024) ![768, 0] S256x1024.size (by decide)) ((hs0_8 t).unread (iblk m c 8 t))))⟩,
      ⟨Rect.unit (s := S1x512x1024) ![0, 0, 512] S1x512x256.size (by decide), k0_pay58 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_8 t).view.readAt (Elt Ideal) (Rect.unit (s := S3072x1024) ![512, 0] S256x1024.size (by decide)) ((hs0_8 t).unread (iblk m c 8 t)))⟩,
      ⟨Rect.unit (s := S1x512x1024) ![0, 0, 256] S1x512x256.size (by decide), k0_pay55 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_8 t).view.readAt (Elt Ideal) (Rect.unit (s := S3072x1024) ![256, 0] S256x1024.size (by decide)) ((hs0_8 t).unread (iblk m c 8 t)))⟩,
      ⟨Rect.unit (s := S1x512x1024) ![0, 0, 0] S1x512x256.size (by decide), k0_pay52 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_8 t).view.readAt (Elt Ideal) (Rect.unit (s := S3072x1024) ![0, 0] S256x1024.size (by decide)) ((hs0_8 t).unread (iblk m c 8 t)))⟩] := rfl
  unfold out0_A_26
  rw [View.read_writes_junk_eq_canon]
  funext y
  refine View.canon_apply_of_pieces (gateBlock (normed m c t) (iblk m c 8 t)) _ ?_ y (cover0_A_26 m c t h0 y)
  rw [e]
  intro p hp x
  simp only [List.mem_cons, List.not_mem_nil, or_false] at hp
  rcases hp with rfl | rfl | rfl | rfl
  · show k0_pay62 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) (k0_pay60 (View.ld ((ms0_8 t).view.read (Elt Ideal) ((hs0_8 t).unread (iblk m c 8 t))) (Rect.unit (s := S3072x1024) ![768, 0] S256x1024.size (by decide)))) x = _
    rw [(hs0_8 t).read_unread, load_whole (hs0_0 t) (iblk m c 0 t) zero3 (by decide), load_whole (hs0_2 t) (iblk m c 2 t) zero2 (by decide)]
    exact gate_run (fun h w => k0_pay62 h (k0_pay60 w)) gate_apply3 768 (normed m c t) (iblk m c 8 t) (by decide) (by decide) x
  · show k0_pay58 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) (View.ld ((ms0_8 t).view.read (Elt Ideal) ((hs0_8 t).unread (iblk m c 8 t))) (Rect.unit (s := S3072x1024) ![512, 0] S256x1024.size (by decide))) x = _
    rw [(hs0_8 t).read_unread, load_whole (hs0_0 t) (iblk m c 0 t) zero3 (by decide), load_whole (hs0_2 t) (iblk m c 2 t) zero2 (by decide)]
    exact gate_run k0_pay58 gate_apply2 512 (normed m c t) (iblk m c 8 t) (by decide) (by decide) x
  · show k0_pay55 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) (View.ld ((ms0_8 t).view.read (Elt Ideal) ((hs0_8 t).unread (iblk m c 8 t))) (Rect.unit (s := S3072x1024) ![256, 0] S256x1024.size (by decide))) x = _
    rw [(hs0_8 t).read_unread, load_whole (hs0_0 t) (iblk m c 0 t) zero3 (by decide), load_whole (hs0_2 t) (iblk m c 2 t) zero2 (by decide)]
    exact gate_run k0_pay55 gate_apply1 256 (normed m c t) (iblk m c 8 t) (by decide) (by decide) x
  · show k0_pay52 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) (View.ld ((ms0_8 t).view.read (Elt Ideal) ((hs0_8 t).unread (iblk m c 8 t))) (Rect.unit (s := S3072x1024) ![0, 0] S256x1024.size (by decide))) x = _
    rw [(hs0_8 t).read_unread, load_whole (hs0_0 t) (iblk m c 0 t) zero3 (by decide), load_whole (hs0_2 t) (iblk m c 2 t) zero2 (by decide)]
    exact gate_run k0_pay52 gate_apply 0 (normed m c t) (iblk m c 8 t) (by decide) (by decide) x

/-- The first gate that a later point of a row leaves. -/
theorem out0_B_26_eq (c : Dev nD) (t : Fin cfg0.N) (h0 : ¬t.val % 4 = 0) (s : Carried Ideal) :
    out0_B_26 m c t h0 s = gateBlock (normed m c t) (iblk m c 8 t) := by
  have e : (runB m c t h0 s).2.2.2.2.2.1 = [⟨Rect.unit (s := S1x512x1024) ![0, 0, 768] S1x512x256.size (by decide), k0_pay62 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) (k0_pay60 ((ms0_8 t).view.readAt (Elt Ideal) (Rect.unit (s := S3072x1024) ![768, 0] S256x1024.size (by decide)) ((hs0_8 t).unread (iblk m c 8 t))))⟩,
      ⟨Rect.unit (s := S1x512x1024) ![0, 0, 512] S1x512x256.size (by decide), k0_pay58 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_8 t).view.readAt (Elt Ideal) (Rect.unit (s := S3072x1024) ![512, 0] S256x1024.size (by decide)) ((hs0_8 t).unread (iblk m c 8 t)))⟩,
      ⟨Rect.unit (s := S1x512x1024) ![0, 0, 256] S1x512x256.size (by decide), k0_pay55 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_8 t).view.readAt (Elt Ideal) (Rect.unit (s := S3072x1024) ![256, 0] S256x1024.size (by decide)) ((hs0_8 t).unread (iblk m c 8 t)))⟩,
      ⟨Rect.unit (s := S1x512x1024) ![0, 0, 0] S1x512x256.size (by decide), k0_pay52 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_8 t).view.readAt (Elt Ideal) (Rect.unit (s := S3072x1024) ![0, 0] S256x1024.size (by decide)) ((hs0_8 t).unread (iblk m c 8 t)))⟩] := rfl
  unfold out0_B_26
  rw [View.read_writes_junk_eq_canon]
  funext y
  refine View.canon_apply_of_pieces (gateBlock (normed m c t) (iblk m c 8 t)) _ ?_ y (cover0_B_26 m c t h0 s y)
  rw [e]
  intro p hp x
  simp only [List.mem_cons, List.not_mem_nil, or_false] at hp
  rcases hp with rfl | rfl | rfl | rfl
  · show k0_pay62 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) (k0_pay60 (View.ld ((ms0_8 t).view.read (Elt Ideal) ((hs0_8 t).unread (iblk m c 8 t))) (Rect.unit (s := S3072x1024) ![768, 0] S256x1024.size (by decide)))) x = _
    rw [(hs0_8 t).read_unread, load_whole (hs0_0 t) (iblk m c 0 t) zero3 (by decide), load_whole (hs0_2 t) (iblk m c 2 t) zero2 (by decide)]
    exact gate_run (fun h w => k0_pay62 h (k0_pay60 w)) gate_apply3 768 (normed m c t) (iblk m c 8 t) (by decide) (by decide) x
  · show k0_pay58 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) (View.ld ((ms0_8 t).view.read (Elt Ideal) ((hs0_8 t).unread (iblk m c 8 t))) (Rect.unit (s := S3072x1024) ![512, 0] S256x1024.size (by decide))) x = _
    rw [(hs0_8 t).read_unread, load_whole (hs0_0 t) (iblk m c 0 t) zero3 (by decide), load_whole (hs0_2 t) (iblk m c 2 t) zero2 (by decide)]
    exact gate_run k0_pay58 gate_apply2 512 (normed m c t) (iblk m c 8 t) (by decide) (by decide) x
  · show k0_pay55 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) (View.ld ((ms0_8 t).view.read (Elt Ideal) ((hs0_8 t).unread (iblk m c 8 t))) (Rect.unit (s := S3072x1024) ![256, 0] S256x1024.size (by decide))) x = _
    rw [(hs0_8 t).read_unread, load_whole (hs0_0 t) (iblk m c 0 t) zero3 (by decide), load_whole (hs0_2 t) (iblk m c 2 t) zero2 (by decide)]
    exact gate_run k0_pay55 gate_apply1 256 (normed m c t) (iblk m c 8 t) (by decide) (by decide) x
  · show k0_pay52 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) (View.ld ((ms0_8 t).view.read (Elt Ideal) ((hs0_8 t).unread (iblk m c 8 t))) (Rect.unit (s := S3072x1024) ![0, 0] S256x1024.size (by decide))) x = _
    rw [(hs0_8 t).read_unread, load_whole (hs0_0 t) (iblk m c 0 t) zero3 (by decide), load_whole (hs0_2 t) (iblk m c 2 t) zero2 (by decide)]
    exact gate_run k0_pay52 gate_apply 0 (normed m c t) (iblk m c 8 t) (by decide) (by decide) x

/-- The query latent that a point leaves. -/
theorem left21 (c : Dev nD) (t : Fin cfg0.N) : (outsAt0 m c t.val t.isLt).1 = k0_pay589 (normed m c t) (iblk m c 3 t) (iblk m c 9 t) := by
  by_cases h0 : t.val % 4 = 0
  · rw [outsAt0_A m c t h0]
    dsimp only [leftA]
    exact out0_A_21_eq m c t h0
  · rw [outsAt0_B m c t h0]
    dsimp only [leftB]
    exact out0_B_21_eq m c t h0 _

/-- The key latent that a point leaves. -/
theorem left22 (c : Dev nD) (t : Fin cfg0.N) : (outsAt0 m c t.val t.isLt).2.1 = k0_pay594 (k0_pay590 (normed m c t) (iblk m c 4 t)) (k0_pay591 (iblk m c 10 t)) (k0_pay592 (normed m c t) (iblk m c 4 t)) (Scalar.ofBits .f32 0x358637BD#32) := by
  by_cases h0 : t.val % 4 = 0
  · rw [outsAt0_A m c t h0]
    dsimp only [leftA]
    exact out0_A_22_eq m c t h0
  · rw [outsAt0_B m c t h0]
    dsimp only [leftB]
    exact out0_B_22_eq m c t h0 _

/-- The index key that a point leaves. -/
theorem left24 (c : Dev nD) (t : Fin cfg0.N) : (outsAt0 m c t.val t.isLt).2.2.2.1 = k0_pay600 (normed m c t) (iblk m c 5 t) (iblk m c 11 t) (iblk m c 12 t) := by
  by_cases h0 : t.val % 4 = 0
  · rw [outsAt0_A m c t h0]
    dsimp only [leftA]
    exact out0_A_24_eq m c t h0
  · rw [outsAt0_B m c t h0]
    dsimp only [leftB]
    exact out0_B_24_eq m c t h0 _

/-- The first gate that a point leaves. -/
theorem left26 (c : Dev nD) (t : Fin cfg0.N) : (outsAt0 m c t.val t.isLt).2.2.2.2.2.1 = gateBlock (normed m c t) (iblk m c 8 t) := by
  by_cases h0 : t.val % 4 = 0
  · rw [outsAt0_A m c t h0]
    dsimp only [leftA]
    exact out0_A_26_eq m c t h0
  · rw [outsAt0_B m c t h0]
    dsimp only [leftB]
    exact out0_B_26_eq m c t h0 _

end Cert.MixPreIdeal.Rows
-- ==== Proof.PreArray.lean ====
module

public import proofs.«01_k».proof.Proof.PreValue
public import proofs.«01_k».proof.Proof.PreRun
public import Idealize.ShloMosaic.Lib.StableHlo.Run
public import Idealize.ShloMosaic.Lib.KernelVsHost

/-!
# The arrays that the mixer's first call leaves in four of its results

Point `t` works on rows `512 (t mod 4), …` of sequence `t / 4`, and the sixty-four blocks tile each result.
-/

@[expose] public section

namespace Cert.MixPreIdeal.Rows

open Cert.MixPreIdeal Cert.MixPreIdeal.Gen Cert.MixPreIdeal.Named Idealize.ShloMosaic Idealize.ShloMosaic.ValueIdx
open Idealize.ShloMosaic.TcCoe Layer
open Idealize.SL.Sem
open Idealize.ShloMosaic.Pipeline (Dat)
open scoped BigOperators

variable (m : (ℓ : Loc nD τ sig) → Buf (Elt Ideal) ℓ) (ρ : Dev nD → PrngReg)

/-- A token's normalised row. -/
noncomputable abbrev tokenRow (x : Vec Ideal S16x2048x1024 .f32) (g : Vec Ideal S1x1024 .f32) (b : Fin 16) (t : Fin 2048) : Row 1024 :=
  rmsD (fun k => x (ix3 b t k)) (rowOf (φ := .f32) g 0)

/-- `n` columns of the input projection from column `o` on. -/
noncomputable abbrev columns (w : Vec Ideal S1x1024x5188 .f32) (o n : ℕ) (h : o + n ≤ 5188) : Fin 1024 → Fin n → EReal := fun i j =>
  w (ix3 0 i (⟨o + j.val, by have := j.isLt; omega⟩ : Fin 5188))

/-- The query latent of every token. -/
noncomputable def queries (x : Vec Ideal S16x2048x1024 .f32) (g : Vec Ideal S1x1024 .f32) (w : Vec Ideal S1x1024x5188 .f32)
    (gq : Vec Ideal S1x256 .f32) : Vec Ideal S16x2048x256 .bf16 := fun i =>
  rmsQ (mul (tokenRow x g (i 0) (i 1)) (columns w 0 256 (by omega))) (rowOf (φ := .f32) gq 0) (i 2)

/-- The key latent of every token. -/
noncomputable def keys (x : Vec Ideal S16x2048x1024 .f32) (g : Vec Ideal S1x1024 .f32) (w : Vec Ideal S1x1024x5188 .f32)
    (gk : Vec Ideal S1x256 .f32) : Vec Ideal S16x2048x256 .bf16 := fun i =>
  rmsQ (mul (tokenRow x g (i 0) (i 1)) (columns w 256 256 (by omega))) (rowOf (φ := .f32) gk 0) (i 2)

/-- The index key of every token. -/
noncomputable def indexKeys (x : Vec Ideal S16x2048x1024 .f32) (g : Vec Ideal S1x1024 .f32) (w : Vec Ideal S1x1024x5188 .f32)
    (gi bi : Vec Ideal S1x64 .f32) : Vec Ideal S16x2048x64 .bf16 := fun i =>
  layerNorm 0x42800000#32 0x358637BD#32 (mul (tokenRow x g (i 0) (i 1)) (columns w 512 64 (by omega)))
    (rowOf (φ := .f32) gi 0) (rowOf (φ := .f32) bi 0) (i 2)

/-- The first gate of every token. -/
noncomputable def gates (x : Vec Ideal S16x2048x1024 .f32) (g : Vec Ideal S1x1024 .f32) (w : Vec Ideal S1x1024x5188 .f32) :
    Vec Ideal S16x2048x1024 .bf16 := fun i =>
  Ideal.logistic (mul (tokenRow x g (i 0) (i 1)) (columns w 2116 1024 (by omega)) (i 2))

/-- The input projection, transposed. -/
noncomputable abbrev flipped (w : Vec Ideal S1x1024x5188 .f32) : Vec Ideal S5188x1024 .f32 :=
  transpose S5188x1024 [1, 0] (shapeCast S1024x5188 w shapeCasts_S1x1024x5188_S1024x5188) transposes_S1024x5188_S5188x1024_1_0

theorem flipped_apply (w : Vec Ideal S1x1024x5188 .f32) (j : Fin 5188) (i : Fin 1024) : flipped w (ix2 j i) = w (ix3 0 i j) :=
  (transpose_ix2_apply _ _ j i).trans (shapeCast_1ab_ab_apply _ _ i j)

theorem V_v23 (c : Dev nD) : V m c main_v23 = shapeCast S1x1024 (shapeCast S1024 (m ((c : Thread nD τ).loc main_arg2)) shapeCasts_S1x1024_S1024) shapeCasts_S1024_S1x1024 := by
  show StableHlo.after (List.flatten [hostOps0, hostOps0_1, hostOps0_2]) _ _ = _
  simp only [hostOps0, hostOps0_1, hostOps0_2, List.flatten_cons, List.flatten_nil, List.append_nil, List.cons_append, List.nil_append]
  after_results
  all_goals rfl
theorem V_v26 (c : Dev nD) : V m c main_v26 = (extractStridedSlice S256x1024 ![0, 0] (flipped (m ((c : Thread nD τ).loc main_arg3))) slices_S5188x1024_S256x1024_0_0 : Vec Ideal S256x1024 .f32) := by
  show StableHlo.after (List.flatten [hostOps0, hostOps0_1, hostOps0_2]) _ _ = _
  simp only [hostOps0, hostOps0_1, hostOps0_2, List.flatten_cons, List.flatten_nil, List.append_nil, List.cons_append, List.nil_append]
  after_results
  all_goals rfl
theorem V_v28 (c : Dev nD) : V m c main_v28 = (extractStridedSlice S256x1024 ![256, 0] (flipped (m ((c : Thread nD τ).loc main_arg3))) slices_S5188x1024_S256x1024_256_0 : Vec Ideal S256x1024 .f32) := by
  show StableHlo.after (List.flatten [hostOps0, hostOps0_1, hostOps0_2]) _ _ = _
  simp only [hostOps0, hostOps0_1, hostOps0_2, List.flatten_cons, List.flatten_nil, List.append_nil, List.cons_append, List.nil_append]
  after_results
  all_goals rfl
theorem V_v29 (c : Dev nD) : V m c main_v29 = (pad S128x1024 ![0, 0] ![60, 0] ![0, 0] (extractStridedSlice S68x1024 ![512, 0] (flipped (m ((c : Thread nD τ).loc main_arg3))) slices_S5188x1024_S68x1024_512_0)
    (sitofp .f32 (constantI S_ 32 0#32) : FVec Ideal S_ .f32) pads_S68x1024_S128x1024_0600_000 (by decide) : Vec Ideal S128x1024 .f32) := by
  show StableHlo.after (List.flatten [hostOps0, hostOps0_1, hostOps0_2]) _ _ = _
  simp only [hostOps0, hostOps0_1, hostOps0_2, List.flatten_cons, List.flatten_nil, List.append_nil, List.cons_append, List.nil_append]
  after_results
  all_goals rfl
theorem V_v35 (c : Dev nD) : V m c main_v35 = (extractStridedSlice S3072x1024 ![2116, 0] (flipped (m ((c : Thread nD τ).loc main_arg3))) slices_S5188x1024_S3072x1024_2116_0 : Vec Ideal S3072x1024 .f32) := by
  show StableHlo.after (List.flatten [hostOps0, hostOps0_1, hostOps0_2]) _ _ = _
  simp only [hostOps0, hostOps0_1, hostOps0_2, List.flatten_cons, List.flatten_nil, List.append_nil, List.cons_append, List.nil_append]
  after_results
  all_goals rfl
theorem V_v36 (c : Dev nD) : V m c main_v36 = shapeCast S1x256 (shapeCast S256 (m ((c : Thread nD τ).loc main_arg4)) shapeCasts_S1x256_S256) shapeCasts_S256_S1x256 := by
  show StableHlo.after (List.flatten [hostOps0, hostOps0_1, hostOps0_2]) _ _ = _
  simp only [hostOps0, hostOps0_1, hostOps0_2, List.flatten_cons, List.flatten_nil, List.append_nil, List.cons_append, List.nil_append]
  after_results
  all_goals rfl
theorem V_v37 (c : Dev nD) : V m c main_v37 = shapeCast S1x256 (shapeCast S256 (m ((c : Thread nD τ).loc main_arg5)) shapeCasts_S1x256_S256) shapeCasts_S256_S1x256 := by
  show StableHlo.after (List.flatten [hostOps0, hostOps0_1, hostOps0_2]) _ _ = _
  simp only [hostOps0, hostOps0_1, hostOps0_2, List.flatten_cons, List.flatten_nil, List.append_nil, List.cons_append, List.nil_append]
  after_results
  all_goals rfl
theorem V_v38 (c : Dev nD) : V m c main_v38 = shapeCast S1x64 (shapeCast S64 (m ((c : Thread nD τ).loc main_arg6)) shapeCasts_S1x64_S64) shapeCasts_S64_S1x64 := by
  show StableHlo.after (List.flatten [hostOps0, hostOps0_1, hostOps0_2]) _ _ = _
  simp only [hostOps0, hostOps0_1, hostOps0_2, List.flatten_cons, List.flatten_nil, List.append_nil, List.cons_append, List.nil_append]
  after_results
  all_goals rfl
theorem V_v39 (c : Dev nD) : V m c main_v39 = shapeCast S1x64 (shapeCast S64 (m ((c : Thread nD τ).loc main_arg7)) shapeCasts_S1x64_S64) shapeCasts_S64_S1x64 := by
  show StableHlo.after (List.flatten [hostOps0, hostOps0_1, hostOps0_2]) _ _ = _
  simp only [hostOps0, hostOps0_1, hostOps0_2, List.flatten_cons, List.flatten_nil, List.append_nil, List.cons_append, List.nil_append]
  after_results
  all_goals rfl

theorem idx0 : ∀ t : Fin cfg0.N, win0_0.index t = ![t.val / 4, t.val % 4, 0] :=
  (by decide +kernel : ∀ t : Fin grid0.N, win0_0.index t = ![t.val / 4, t.val % 4, 0])
theorem idx21 : ∀ t : Fin cfg0.N, win0_21.index t = ![t.val / 4, t.val % 4, 0] :=
  (by decide +kernel : ∀ t : Fin grid0.N, win0_21.index t = ![t.val / 4, t.val % 4, 0])
theorem idx22 : ∀ t : Fin cfg0.N, win0_22.index t = ![t.val / 4, t.val % 4, 0] :=
  (by decide +kernel : ∀ t : Fin grid0.N, win0_22.index t = ![t.val / 4, t.val % 4, 0])
theorem idx24 : ∀ t : Fin cfg0.N, win0_24.index t = ![t.val / 4, t.val % 4, 0] :=
  (by decide +kernel : ∀ t : Fin grid0.N, win0_24.index t = ![t.val / 4, t.val % 4, 0])
theorem idx26 : ∀ t : Fin cfg0.N, win0_26.index t = ![t.val / 4, t.val % 4, 0] :=
  (by decide +kernel : ∀ t : Fin grid0.N, win0_26.index t = ![t.val / 4, t.val % 4, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![0, 0] := (by decide +kernel : ∀ t : Fin grid0.N, win0_11.index t = ![0, 0])
theorem idx12 : ∀ t : Fin cfg0.N, win0_12.index t = ![0, 0] := (by decide +kernel : ∀ t : Fin grid0.N, win0_12.index t = ![0, 0])

theorem lt64 (t : Fin cfg0.N) : t.val < 64 := lt_of_lt_of_eq t.isLt N_0

/-- The point's sequence. -/
def seqOf (t : Fin cfg0.N) : Fin 16 := ⟨t.val / 4, by have := lt64 t; omega⟩
/-- The point's token `r`. -/
def tokOf (t : Fin cfg0.N) (r : Fin 512) : Fin 2048 := ⟨t.val % 4 * 512 + r.val, by have := r.isLt; omega⟩

/-- Row `r` of the input's block at a point. -/
theorem block0 (c : Dev nD) (t : Fin cfg0.N) (r : Fin 512) (k : Fin 1024) :
    (iblk m c 0 t : Vec Ideal S1x512x1024 .f32) (ix3 0 r k)
      = (m ((c : Thread nD τ).loc main_arg0) : Vec Ideal S16x2048x1024 .f32) (ix3 (seqOf t) (tokOf t r) k) := by
  rw [← V_main_arg0 m c]
  show V m c main_arg0 _ = V m c main_arg0 _
  refine congrArg _ (funext fun a => Fin.ext ?_)
  match a with
  | ⟨0, _⟩ => show win0_0.index t 0 * 1 + 1 * 0 = t.val / 4; rw [idx0]; show t.val / 4 * 1 + 1 * 0 = t.val / 4; omega
  | ⟨1, _⟩ => show win0_0.index t 1 * 512 + 1 * r.val = t.val % 4 * 512 + r.val; rw [idx0]; show t.val % 4 * 512 + 1 * r.val = _; omega
  | ⟨2, _⟩ => show win0_0.index t 2 * 1024 + 1 * k.val = k.val; rw [idx0]; show 0 * 1024 + 1 * k.val = k.val; omega

/-- The norm's gain. -/
theorem block2 (c : Dev nD) (t : Fin cfg0.N) (k : Fin 1024) :
    (iblk m c 2 t : Vec Ideal S1x1024 .f32) (ix2 0 k) = (m ((c : Thread nD τ).loc main_arg2) : Vec Ideal S1x1024 .f32) (ix2 0 k) := by
  have e : (iblk m c 2 t : Vec Ideal S1x1024 .f32) (ix2 0 k) = V m c main_v23 (ix2 (0 : Fin 1) k) := by
    show V m c main_v23 _ = V m c main_v23 _
    refine congrArg _ (funext fun a => Fin.ext ?_)
    match a with
    | ⟨0, _⟩ => show win0_2.index t 0 * 1 + 1 * 0 = 0; rw [idx2]; rfl
    | ⟨1, _⟩ => show win0_2.index t 1 * 1024 + 1 * k.val = k.val; rw [idx2]; show 0 * 1024 + 1 * k.val = k.val; omega
  rw [e, V_v23]
  exact (shapeCast_a_1a_apply _ _ _ _).trans (shapeCast_1a_a_apply _ _ _)

/-- The query's gain. -/
theorem block9 (c : Dev nD) (t : Fin cfg0.N) (k : Fin 256) :
    (iblk m c 9 t : Vec Ideal S1x256 .f32) (ix2 0 k) = (m ((c : Thread nD τ).loc main_arg4) : Vec Ideal S1x256 .f32) (ix2 0 k) := by
  have e : (iblk m c 9 t : Vec Ideal S1x256 .f32) (ix2 0 k) = V m c main_v36 (ix2 (0 : Fin 1) k) := by
    show V m c main_v36 _ = V m c main_v36 _
    refine congrArg _ (funext fun a => Fin.ext ?_)
    match a with
    | ⟨0, _⟩ => show win0_9.index t 0 * 1 + 1 * 0 = 0; rw [idx9]; rfl
    | ⟨1, _⟩ => show win0_9.index t 1 * 256 + 1 * k.val = k.val; rw [idx9]; show 0 * 256 + 1 * k.val = k.val; omega
  rw [e, V_v36]
  exact (shapeCast_a_1a_apply _ _ _ _).trans (shapeCast_1a_a_apply _ _ _)

/-- The key's gain. -/
theorem block10 (c : Dev nD) (t : Fin cfg0.N) (k : Fin 256) :
    (iblk m c 10 t : Vec Ideal S1x256 .f32) (ix2 0 k) = (m ((c : Thread nD τ).loc main_arg5) : Vec Ideal S1x256 .f32) (ix2 0 k) := by
  have e : (iblk m c 10 t : Vec Ideal S1x256 .f32) (ix2 0 k) = V m c main_v37 (ix2 (0 : Fin 1) k) := by
    show V m c main_v37 _ = V m c main_v37 _
    refine congrArg _ (funext fun a => Fin.ext ?_)
    match a with
    | ⟨0, _⟩ => show win0_10.index t 0 * 1 + 1 * 0 = 0; rw [idx10]; rfl
    | ⟨1, _⟩ => show win0_10.index t 1 * 256 + 1 * k.val = k.val; rw [idx10]; show 0 * 256 + 1 * k.val = k.val; omega
  rw [e, V_v37]
  exact (shapeCast_a_1a_apply _ _ _ _).trans (shapeCast_1a_a_apply _ _ _)

/-- The index key's gain. -/
theorem block11 (c : Dev nD) (t : Fin cfg0.N) (k : Fin 64) :
    (iblk m c 11 t : Vec Ideal S1x64 .f32) (ix2 0 k) = (m ((c : Thread nD τ).loc main_arg6) : Vec Ideal S1x64 .f32) (ix2 0 k) := by
  have e : (iblk m c 11 t : Vec Ideal S1x64 .f32) (ix2 0 k) = V m c main_v38 (ix2 (0 : Fin 1) k) := by
    show V m c main_v38 _ = V m c main_v38 _
    refine congrArg _ (funext fun a => Fin.ext ?_)
    match a with
    | ⟨0, _⟩ => show win0_11.index t 0 * 1 + 1 * 0 = 0; rw [idx11]; rfl
    | ⟨1, _⟩ => show win0_11.index t 1 * 64 + 1 * k.val = k.val; rw [idx11]; show 0 * 64 + 1 * k.val = k.val; omega
  rw [e, V_v38]
  exact (shapeCast_a_1a_apply _ _ _ _).trans (shapeCast_1a_a_apply _ _ _)

/-- The index key's shift. -/
theorem block12 (c : Dev nD) (t : Fin cfg0.N) (k : Fin 64) :
    (iblk m c 12 t : Vec Ideal S1x64 .f32) (ix2 0 k) = (m ((c : Thread nD τ).loc main_arg7) : Vec Ideal S1x64 .f32) (ix2 0 k) := by
  have e : (iblk m c 12 t : Vec Ideal S1x64 .f32) (ix2 0 k) = V m c main_v39 (ix2 (0 : Fin 1) k) := by
    show V m c main_v39 _ = V m c main_v39 _
    refine congrArg _ (funext fun a => Fin.ext ?_)
    match a with
    | ⟨0, _⟩ => show win0_12.index t 0 * 1 + 1 * 0 = 0; rw [idx12]; rfl
    | ⟨1, _⟩ => show win0_12.index t 1 * 64 + 1 * k.val = k.val; rw [idx12]; show 0 * 64 + 1 * k.val = k.val; omega
  rw [e, V_v39]
  exact (shapeCast_a_1a_apply _ _ _ _).trans (shapeCast_1a_a_apply _ _ _)

/-- The query weight at column `j` is the projection's at column `0 + j`. -/
theorem block3 (c : Dev nD) (t : Fin cfg0.N) (j : Fin 256) (i : Fin 1024) :
    (iblk m c 3 t : Vec Ideal S256x1024 .bf16) (ix2 j i)
      = (m ((c : Thread nD τ).loc main_arg3) : Vec Ideal S1x1024x5188 .f32) (ix3 0 i (⟨0 + j.val, by have := j.isLt; omega⟩ : Fin 5188)) := by
  have e : (iblk m c 3 t : Vec Ideal S256x1024 .bf16) (ix2 j i) = V m c main_v26 (ix2 j i) := by
    show V m c main_v26 _ = V m c main_v26 _
    refine congrArg _ (funext fun a => Fin.ext ?_)
    match a with
    | ⟨0, _⟩ => show win0_3.index t 0 * 256 + 1 * j.val = j.val; rw [idx3]; show 0 * 256 + 1 * j.val = j.val; omega
    | ⟨1, _⟩ => show win0_3.index t 1 * 1024 + 1 * i.val = i.val; rw [idx3]; show 0 * 1024 + 1 * i.val = i.val; omega
  rw [e, V_v26]
  have hj := j.isLt
  refine (extractStridedSlice_apply ![0, 0] _ slices_S5188x1024_S256x1024_0_0 (ix2 j i) (ix2 (⟨0 + j.val, by omega⟩ : Fin 5188) i) fun a => ?_).trans
    (flipped_apply _ _ _)
  match a with
  | ⟨0, _⟩ => rfl
  | ⟨1, _⟩ => exact (Nat.zero_add _).symm

/-- The key weight at column `j` is the projection's at column `256 + j`. -/
theorem block4 (c : Dev nD) (t : Fin cfg0.N) (j : Fin 256) (i : Fin 1024) :
    (iblk m c 4 t : Vec Ideal S256x1024 .bf16) (ix2 j i)
      = (m ((c : Thread nD τ).loc main_arg3) : Vec Ideal S1x1024x5188 .f32) (ix3 0 i (⟨256 + j.val, by have := j.isLt; omega⟩ : Fin 5188)) := by
  have e : (iblk m c 4 t : Vec Ideal S256x1024 .bf16) (ix2 j i) = V m c main_v28 (ix2 j i) := by
    show V m c main_v28 _ = V m c main_v28 _
    refine congrArg _ (funext fun a => Fin.ext ?_)
    match a with
    | ⟨0, _⟩ => show win0_4.index t 0 * 256 + 1 * j.val = j.val; rw [idx4]; show 0 * 256 + 1 * j.val = j.val; omega
    | ⟨1, _⟩ => show win0_4.index t 1 * 1024 + 1 * i.val = i.val; rw [idx4]; show 0 * 1024 + 1 * i.val = i.val; omega
  rw [e, V_v28]
  have hj := j.isLt
  refine (extractStridedSlice_apply ![256, 0] _ slices_S5188x1024_S256x1024_256_0 (ix2 j i) (ix2 (⟨256 + j.val, by omega⟩ : Fin 5188) i) fun a => ?_).trans
    (flipped_apply _ _ _)
  match a with
  | ⟨0, _⟩ => rfl
  | ⟨1, _⟩ => exact (Nat.zero_add _).symm

/-- The gate weight at column `j` is the projection's at column `2116 + j`. -/
theorem block8 (c : Dev nD) (t : Fin cfg0.N) (j : Fin 3072) (i : Fin 1024) :
    (iblk m c 8 t : Vec Ideal S3072x1024 .bf16) (ix2 j i)
      = (m ((c : Thread nD τ).loc main_arg3) : Vec Ideal S1x1024x5188 .f32) (ix3 0 i (⟨2116 + j.val, by have := j.isLt; omega⟩ : Fin 5188)) := by
  have e : (iblk m c 8 t : Vec Ideal S3072x1024 .bf16) (ix2 j i) = V m c main_v35 (ix2 j i) := by
    show V m c main_v35 _ = V m c main_v35 _
    refine congrArg _ (funext fun a => Fin.ext ?_)
    match a with
    | ⟨0, _⟩ => show win0_8.index t 0 * 3072 + 1 * j.val = j.val; rw [idx8]; show 0 * 3072 + 1 * j.val = j.val; omega
    | ⟨1, _⟩ => show win0_8.index t 1 * 1024 + 1 * i.val = i.val; rw [idx8]; show 0 * 1024 + 1 * i.val = i.val; omega
  rw [e, V_v35]
  have hj := j.isLt
  refine (extractStridedSlice_apply ![2116, 0] _ slices_S5188x1024_S3072x1024_2116_0 (ix2 j i) (ix2 (⟨2116 + j.val, by omega⟩ : Fin 5188) i) fun a => ?_).trans
    (flipped_apply _ _ _)
  match a with
  | ⟨0, _⟩ => rfl
  | ⟨1, _⟩ => exact (Nat.zero_add _).symm

/-- The index key's weight at column `j` below 68 is the projection's at column `512 + j`. -/
theorem block5 (c : Dev nD) (t : Fin cfg0.N) (j : Fin 128) (hj : j.val < 68) (i : Fin 1024) :
    (iblk m c 5 t : Vec Ideal S128x1024 .bf16) (ix2 j i)
      = (m ((c : Thread nD τ).loc main_arg3) : Vec Ideal S1x1024x5188 .f32) (ix3 0 i (⟨512 + j.val, by omega⟩ : Fin 5188)) := by
  have e : (iblk m c 5 t : Vec Ideal S128x1024 .bf16) (ix2 j i) = V m c main_v29 (ix2 j i) := by
    show V m c main_v29 _ = V m c main_v29 _
    refine congrArg _ (funext fun a => Fin.ext ?_)
    match a with
    | ⟨0, _⟩ => show win0_5.index t 0 * 128 + 1 * j.val = j.val; rw [idx5]; show 0 * 128 + 1 * j.val = j.val; omega
    | ⟨1, _⟩ => show win0_5.index t 1 * 1024 + 1 * i.val = i.val; rw [idx5]; show 0 * 1024 + 1 * i.val = i.val; omega
  rw [e, V_v29]
  refine (pad_apply_of_inside ![0, 0] ![60, 0] ![0, 0] _ _ pads_S68x1024_S128x1024_0600_000 _ (ix2 j i) (ix2 (⟨j.val, by omega⟩ : Fin 68) i) fun a => ?_).trans ?_
  · match a with
    | ⟨0, _⟩ => show j.val = 0 + j.val * (0 + 1); omega
    | ⟨1, _⟩ => show i.val = 0 + i.val * (0 + 1); omega
  refine (extractStridedSlice_apply ![512, 0] _ slices_S5188x1024_S68x1024_512_0 (ix2 (⟨j.val, by omega⟩ : Fin 68) i) (ix2 (⟨512 + j.val, by omega⟩ : Fin 5188) i) fun a => ?_).trans
    (flipped_apply _ _ _)
  match a with
  | ⟨0, _⟩ => rfl
  | ⟨1, _⟩ => exact (Nat.zero_add _).symm

/-- The point's normalised block, row by row. -/
theorem normed_row (c : Dev nD) (t : Fin cfg0.N) (r : Fin 512) :
    rowOf (φ := .bf16) (normed m c t) r
      = tokenRow (m ((c : Thread nD τ).loc main_arg0)) (m ((c : Thread nD τ).loc main_arg2)) (seqOf t) (tokOf t r) := by
  refine (norm_row (iblk m c 0 t) (iblk m c 2 t) r).trans ?_
  have h0 : slabRow (φ := .f32) (iblk m c 0 t : Vec Ideal S1x512x1024 .f32) r
      = fun k => (m ((c : Thread nD τ).loc main_arg0) : Vec Ideal S16x2048x1024 .f32) (ix3 (seqOf t) (tokOf t r) k) :=
    funext fun k => block0 m c t r k
  have h2 : rowOf (φ := .f32) (iblk m c 2 t : Vec Ideal S1x1024 .f32) 0
      = rowOf (φ := .f32) (m ((c : Thread nD τ).loc main_arg2) : Vec Ideal S1x1024 .f32) 0 := funext fun k => block2 m c t k
  rw [h0, h2]

/-- The result `queries` as a function of the launch memory. -/
noncomputable abbrev result21 (c : Dev nD) : Buf (Elt Ideal) ((c : Thread nD τ).loc main_v57_0) :=
  queries (m ((c : Thread nD τ).loc main_arg0)) (m ((c : Thread nD τ).loc main_arg2)) (m ((c : Thread nD τ).loc main_arg3)) (m ((c : Thread nD τ).loc main_arg4))

/-- What a point leaves of it. -/
theorem left21_apply (c : Dev nD) (t : Fin cfg0.N) (r : Fin 512) (k : Fin 256) :
    (outsAt0 m c t.val t.isLt).1 (ix3 0 r k) = result21 m c (ix3 (seqOf t) (tokOf t r) k) := by
  refine (congrFun (left21 m c t) _).trans ((query_apply (normed m c t) (iblk m c 3 t) (iblk m c 9 t) r k).trans ?_)
  have hw : colsOf (φ := .bf16) (iblk m c 3 t : Vec Ideal S256x1024 .bf16) = columns (m ((c : Thread nD τ).loc main_arg3)) 0 256 (by omega) :=
    funext fun i => funext fun j => block3 m c t j i
  have hg : rowOf (φ := .f32) (iblk m c 9 t : Vec Ideal S1x256 .f32) 0 = rowOf (φ := .f32) (m ((c : Thread nD τ).loc main_arg4) : Vec Ideal S1x256 .f32) 0 :=
    funext fun i => block9 m c t i
  rw [normed_row, hw, hg]
  rfl

/-- What a point writes back is the result read through its block. -/
theorem flushed21_eq (c : Dev nD) (t : Fin cfg0.N) (hf : (cfg0.win 21).flush t = true) :
    (dats m 0 c).flushed 21 t = ((cfg0.win 21).blk t).view.read (Elt Ideal) (result21 m c) := by
  show (cfg0.win 21).cut (grid0.coords t) ((dats m 0 c).after 21 t) = _
  rw [after0_21]
  funext j
  obtain ⟨z, r, k, rfl⟩ : ∃ (z : Fin 1) (r : Fin 512) (k : Fin 256), j = ix3 z r k := ⟨j 0, j 1, j 2, eq_ix3 j⟩
  obtain rfl : z = 0 := Subsingleton.elim _ _
  have e : ((cfg0.win 21).blk t).view.read (Elt Ideal) (result21 m c) (ix3 0 r k) = result21 m c (ix3 (seqOf t) (tokOf t r) k) := by
    show result21 m c _ = result21 m c _
    refine congrArg _ (funext fun a => Fin.ext ?_)
    match a with
    | ⟨0, _⟩ => show win0_21.index t 0 * 1 + 1 * 0 = t.val / 4; rw [idx21]; show t.val / 4 * 1 + 1 * 0 = t.val / 4; omega
    | ⟨1, _⟩ => show win0_21.index t 1 * 512 + 1 * r.val = t.val % 4 * 512 + r.val; rw [idx21]; show t.val % 4 * 512 + 1 * r.val = _; omega
    | ⟨2, _⟩ => show win0_21.index t 2 * 256 + 1 * k.val = k.val; rw [idx21]; show 0 * 256 + 1 * k.val = k.val; omega
  rw [e]
  exact left21_apply m c t r k

/-- The array after the run. -/
theorem final21 (c : Dev nD) : (dats m 0 c).arrAt 21 cfg0.N = result21 m c :=
  (dats m 0 c).arrAt_eq_of_cover 21 (result21 m c) (flushed21_eq m c) fun i => by
    have h0 : (i 0 : Nat) < 16 := (i 0).isLt
    have h1 : (i 1 : Nat) < 2048 := (i 1).isLt
    have h2 : (i 2 : Nat) < 256 := (i 2).isLt
    have hN : cfg0.N = 64 := N_0
    let t : Fin cfg0.N := ⟨(i 0 : Nat) * 4 + (i 1 : Nat) / 512, by omega⟩
    have ht : t.val = (i 0 : Nat) * 4 + (i 1 : Nat) / 512 := rfl
    refine ⟨t, flush0_21 t, ?_⟩
    show i ∈ ((View.whole main_v57_0).slice (win0_21.rect t)).set
    rw [View.set_slice_whole, Rect.mem_set_unit]
    intro a
    match a with
    | ⟨0, _⟩ =>
      show win0_21.index t 0 * 1 ≤ (i 0 : Nat) ∧ (i 0 : Nat) < win0_21.index t 0 * 1 + 1
      rw [idx21]; show t.val / 4 * 1 ≤ (i 0 : Nat) ∧ (i 0 : Nat) < t.val / 4 * 1 + 1; omega
    | ⟨1, _⟩ =>
      show win0_21.index t 1 * 512 ≤ (i 1 : Nat) ∧ (i 1 : Nat) < win0_21.index t 1 * 512 + 512
      rw [idx21]; show t.val % 4 * 512 ≤ (i 1 : Nat) ∧ (i 1 : Nat) < t.val % 4 * 512 + 512; omega
    | ⟨2, _⟩ =>
      show win0_21.index t 2 * 256 ≤ (i 2 : Nat) ∧ (i 2 : Nat) < win0_21.index t 2 * 256 + 256
      rw [idx21]; show 0 * 256 ≤ (i 2 : Nat) ∧ (i 2 : Nat) < 0 * 256 + 256; omega

/-- The result `keys` as a function of the launch memory. -/
noncomputable abbrev result22 (c : Dev nD) : Buf (Elt Ideal) ((c : Thread nD τ).loc main_v57_1) :=
  keys (m ((c : Thread nD τ).loc main_arg0)) (m ((c : Thread nD τ).loc main_arg2)) (m ((c : Thread nD τ).loc main_arg3)) (m ((c : Thread nD τ).loc main_arg5))

/-- What a point leaves of it. -/
theorem left22_apply (c : Dev nD) (t : Fin cfg0.N) (r : Fin 512) (k : Fin 256) :
    (outsAt0 m c t.val t.isLt).2.1 (ix3 0 r k) = result22 m c (ix3 (seqOf t) (tokOf t r) k) := by
  refine (congrFun (left22 m c t) _).trans ((key_apply (normed m c t) (iblk m c 4 t) (iblk m c 10 t) r k).trans ?_)
  have hw : colsOf (φ := .bf16) (iblk m c 4 t : Vec Ideal S256x1024 .bf16) = columns (m ((c : Thread nD τ).loc main_arg3)) 256 256 (by omega) :=
    funext fun i => funext fun j => block4 m c t j i
  have hg : rowOf (φ := .f32) (iblk m c 10 t : Vec Ideal S1x256 .f32) 0 = rowOf (φ := .f32) (m ((c : Thread nD τ).loc main_arg5) : Vec Ideal S1x256 .f32) 0 :=
    funext fun i => block10 m c t i
  rw [normed_row, hw, hg]
  rfl

/-- What a point writes back is the result read through its block. -/
theorem flushed22_eq (c : Dev nD) (t : Fin cfg0.N) (hf : (cfg0.win 22).flush t = true) :
    (dats m 0 c).flushed 22 t = ((cfg0.win 22).blk t).view.read (Elt Ideal) (result22 m c) := by
  show (cfg0.win 22).cut (grid0.coords t) ((dats m 0 c).after 22 t) = _
  rw [after0_22]
  funext j
  obtain ⟨z, r, k, rfl⟩ : ∃ (z : Fin 1) (r : Fin 512) (k : Fin 256), j = ix3 z r k := ⟨j 0, j 1, j 2, eq_ix3 j⟩
  obtain rfl : z = 0 := Subsingleton.elim _ _
  have e : ((cfg0.win 22).blk t).view.read (Elt Ideal) (result22 m c) (ix3 0 r k) = result22 m c (ix3 (seqOf t) (tokOf t r) k) := by
    show result22 m c _ = result22 m c _
    refine congrArg _ (funext fun a => Fin.ext ?_)
    match a with
    | ⟨0, _⟩ => show win0_22.index t 0 * 1 + 1 * 0 = t.val / 4; rw [idx22]; show t.val / 4 * 1 + 1 * 0 = t.val / 4; omega
    | ⟨1, _⟩ => show win0_22.index t 1 * 512 + 1 * r.val = t.val % 4 * 512 + r.val; rw [idx22]; show t.val % 4 * 512 + 1 * r.val = _; omega
    | ⟨2, _⟩ => show win0_22.index t 2 * 256 + 1 * k.val = k.val; rw [idx22]; show 0 * 256 + 1 * k.val = k.val; omega
  rw [e]
  exact left22_apply m c t r k

/-- The array after the run. -/
theorem final22 (c : Dev nD) : (dats m 0 c).arrAt 22 cfg0.N = result22 m c :=
  (dats m 0 c).arrAt_eq_of_cover 22 (result22 m c) (flushed22_eq m c) fun i => by
    have h0 : (i 0 : Nat) < 16 := (i 0).isLt
    have h1 : (i 1 : Nat) < 2048 := (i 1).isLt
    have h2 : (i 2 : Nat) < 256 := (i 2).isLt
    have hN : cfg0.N = 64 := N_0
    let t : Fin cfg0.N := ⟨(i 0 : Nat) * 4 + (i 1 : Nat) / 512, by omega⟩
    have ht : t.val = (i 0 : Nat) * 4 + (i 1 : Nat) / 512 := rfl
    refine ⟨t, flush0_22 t, ?_⟩
    show i ∈ ((View.whole main_v57_1).slice (win0_22.rect t)).set
    rw [View.set_slice_whole, Rect.mem_set_unit]
    intro a
    match a with
    | ⟨0, _⟩ =>
      show win0_22.index t 0 * 1 ≤ (i 0 : Nat) ∧ (i 0 : Nat) < win0_22.index t 0 * 1 + 1
      rw [idx22]; show t.val / 4 * 1 ≤ (i 0 : Nat) ∧ (i 0 : Nat) < t.val / 4 * 1 + 1; omega
    | ⟨1, _⟩ =>
      show win0_22.index t 1 * 512 ≤ (i 1 : Nat) ∧ (i 1 : Nat) < win0_22.index t 1 * 512 + 512
      rw [idx22]; show t.val % 4 * 512 ≤ (i 1 : Nat) ∧ (i 1 : Nat) < t.val % 4 * 512 + 512; omega
    | ⟨2, _⟩ =>
      show win0_22.index t 2 * 256 ≤ (i 2 : Nat) ∧ (i 2 : Nat) < win0_22.index t 2 * 256 + 256
      rw [idx22]; show 0 * 256 ≤ (i 2 : Nat) ∧ (i 2 : Nat) < 0 * 256 + 256; omega

/-- The result `indexKeys` as a function of the launch memory. -/
noncomputable abbrev result24 (c : Dev nD) : Buf (Elt Ideal) ((c : Thread nD τ).loc main_v57_3) :=
  indexKeys (m ((c : Thread nD τ).loc main_arg0)) (m ((c : Thread nD τ).loc main_arg2)) (m ((c : Thread nD τ).loc main_arg3)) (m ((c : Thread nD τ).loc main_arg6)) (m ((c : Thread nD τ).loc main_arg7))

/-- What a point leaves of it. -/
theorem left24_apply (c : Dev nD) (t : Fin cfg0.N) (r : Fin 512) (k : Fin 64) :
    (outsAt0 m c t.val t.isLt).2.2.2.1 (ix3 0 r k) = result24 m c (ix3 (seqOf t) (tokOf t r) k) := by
  refine (congrFun (left24 m c t) _).trans ((index_apply (normed m c t) (iblk m c 5 t) (iblk m c 11 t) (iblk m c 12 t) r k).trans ?_)
  have hw : colsFrom 0 64 (by omega) (colsOf (φ := .bf16) (iblk m c 5 t : Vec Ideal S128x1024 .bf16))
      = columns (m ((c : Thread nD τ).loc main_arg3)) 512 64 (by omega) :=
    funext fun i => funext fun j => by
      have hj := j.isLt
      refine (block5 m c t (⟨0 + j.val, by omega⟩ : Fin 128) (by show 0 + j.val < 68; omega) i).trans ?_
      refine congrArg (fun q => (m ((c : Thread nD τ).loc main_arg3) : Vec Ideal S1x1024x5188 .f32) (ix3 0 i q)) (Fin.ext ?_)
      show 512 + (0 + j.val) = 512 + j.val; omega
  have hg : rowOf (φ := .f32) (iblk m c 11 t : Vec Ideal S1x64 .f32) 0 = rowOf (φ := .f32) (m ((c : Thread nD τ).loc main_arg6) : Vec Ideal S1x64 .f32) 0 :=
    funext fun i => block11 m c t i
  have hb : rowOf (φ := .f32) (iblk m c 12 t : Vec Ideal S1x64 .f32) 0 = rowOf (φ := .f32) (m ((c : Thread nD τ).loc main_arg7) : Vec Ideal S1x64 .f32) 0 :=
    funext fun i => block12 m c t i
  rw [normed_row, hw, hg, hb]
  rfl

/-- What a point writes back is the result read through its block. -/
theorem flushed24_eq (c : Dev nD) (t : Fin cfg0.N) (hf : (cfg0.win 24).flush t = true) :
    (dats m 0 c).flushed 24 t = ((cfg0.win 24).blk t).view.read (Elt Ideal) (result24 m c) := by
  show (cfg0.win 24).cut (grid0.coords t) ((dats m 0 c).after 24 t) = _
  rw [after0_24]
  funext j
  obtain ⟨z, r, k, rfl⟩ : ∃ (z : Fin 1) (r : Fin 512) (k : Fin 64), j = ix3 z r k := ⟨j 0, j 1, j 2, eq_ix3 j⟩
  obtain rfl : z = 0 := Subsingleton.elim _ _
  have e : ((cfg0.win 24).blk t).view.read (Elt Ideal) (result24 m c) (ix3 0 r k) = result24 m c (ix3 (seqOf t) (tokOf t r) k) := by
    show result24 m c _ = result24 m c _
    refine congrArg _ (funext fun a => Fin.ext ?_)
    match a with
    | ⟨0, _⟩ => show win0_24.index t 0 * 1 + 1 * 0 = t.val / 4; rw [idx24]; show t.val / 4 * 1 + 1 * 0 = t.val / 4; omega
    | ⟨1, _⟩ => show win0_24.index t 1 * 512 + 1 * r.val = t.val % 4 * 512 + r.val; rw [idx24]; show t.val % 4 * 512 + 1 * r.val = _; omega
    | ⟨2, _⟩ => show win0_24.index t 2 * 64 + 1 * k.val = k.val; rw [idx24]; show 0 * 64 + 1 * k.val = k.val; omega
  rw [e]
  exact left24_apply m c t r k

/-- The array after the run. -/
theorem final24 (c : Dev nD) : (dats m 0 c).arrAt 24 cfg0.N = result24 m c :=
  (dats m 0 c).arrAt_eq_of_cover 24 (result24 m c) (flushed24_eq m c) fun i => by
    have h0 : (i 0 : Nat) < 16 := (i 0).isLt
    have h1 : (i 1 : Nat) < 2048 := (i 1).isLt
    have h2 : (i 2 : Nat) < 64 := (i 2).isLt
    have hN : cfg0.N = 64 := N_0
    let t : Fin cfg0.N := ⟨(i 0 : Nat) * 4 + (i 1 : Nat) / 512, by omega⟩
    have ht : t.val = (i 0 : Nat) * 4 + (i 1 : Nat) / 512 := rfl
    refine ⟨t, flush0_24 t, ?_⟩
    show i ∈ ((View.whole main_v57_3).slice (win0_24.rect t)).set
    rw [View.set_slice_whole, Rect.mem_set_unit]
    intro a
    match a with
    | ⟨0, _⟩ =>
      show win0_24.index t 0 * 1 ≤ (i 0 : Nat) ∧ (i 0 : Nat) < win0_24.index t 0 * 1 + 1
      rw [idx24]; show t.val / 4 * 1 ≤ (i 0 : Nat) ∧ (i 0 : Nat) < t.val / 4 * 1 + 1; omega
    | ⟨1, _⟩ =>
      show win0_24.index t 1 * 512 ≤ (i 1 : Nat) ∧ (i 1 : Nat) < win0_24.index t 1 * 512 + 512
      rw [idx24]; show t.val % 4 * 512 ≤ (i 1 : Nat) ∧ (i 1 : Nat) < t.val % 4 * 512 + 512; omega
    | ⟨2, _⟩ =>
      show win0_24.index t 2 * 64 ≤ (i 2 : Nat) ∧ (i 2 : Nat) < win0_24.index t 2 * 64 + 64
      rw [idx24]; show 0 * 64 ≤ (i 2 : Nat) ∧ (i 2 : Nat) < 0 * 64 + 64; omega

/-- The result `gates` as a function of the launch memory. -/
noncomputable abbrev result26 (c : Dev nD) : Buf (Elt Ideal) ((c : Thread nD τ).loc main_v57_5) :=
  gates (m ((c : Thread nD τ).loc main_arg0)) (m ((c : Thread nD τ).loc main_arg2)) (m ((c : Thread nD τ).loc main_arg3))

/-- What a point leaves of it. -/
theorem left26_apply (c : Dev nD) (t : Fin cfg0.N) (r : Fin 512) (k : Fin 1024) :
    (outsAt0 m c t.val t.isLt).2.2.2.2.2.1 (ix3 0 r k) = result26 m c (ix3 (seqOf t) (tokOf t r) k) := by
  refine (congrFun (left26 m c t) _).trans ?_
  have hw : (fun i (j : Fin 1024) => (iblk m c 8 t : Vec Ideal S3072x1024 .bf16) (ix2 (⟨j.val, by have := j.isLt; omega⟩ : Fin 3072) i))
      = columns (m ((c : Thread nD τ).loc main_arg3)) 2116 1024 (by omega) :=
    funext fun i => funext fun j => block8 m c t _ i
  show Ideal.logistic (mul (rowOf (φ := .bf16) (normed m c t) r)
    (fun i (j : Fin 1024) => (iblk m c 8 t : Vec Ideal S3072x1024 .bf16) (ix2 (⟨j.val, by have := j.isLt; omega⟩ : Fin 3072) i)) k) = _
  rw [normed_row, hw]
  rfl

/-- What a point writes back is the result read through its block. -/
theorem flushed26_eq (c : Dev nD) (t : Fin cfg0.N) (hf : (cfg0.win 26).flush t = true) :
    (dats m 0 c).flushed 26 t = ((cfg0.win 26).blk t).view.read (Elt Ideal) (result26 m c) := by
  show (cfg0.win 26).cut (grid0.coords t) ((dats m 0 c).after 26 t) = _
  rw [after0_26]
  funext j
  obtain ⟨z, r, k, rfl⟩ : ∃ (z : Fin 1) (r : Fin 512) (k : Fin 1024), j = ix3 z r k := ⟨j 0, j 1, j 2, eq_ix3 j⟩
  obtain rfl : z = 0 := Subsingleton.elim _ _
  have e : ((cfg0.win 26).blk t).view.read (Elt Ideal) (result26 m c) (ix3 0 r k) = result26 m c (ix3 (seqOf t) (tokOf t r) k) := by
    show result26 m c _ = result26 m c _
    refine congrArg _ (funext fun a => Fin.ext ?_)
    match a with
    | ⟨0, _⟩ => show win0_26.index t 0 * 1 + 1 * 0 = t.val / 4; rw [idx26]; show t.val / 4 * 1 + 1 * 0 = t.val / 4; omega
    | ⟨1, _⟩ => show win0_26.index t 1 * 512 + 1 * r.val = t.val % 4 * 512 + r.val; rw [idx26]; show t.val % 4 * 512 + 1 * r.val = _; omega
    | ⟨2, _⟩ => show win0_26.index t 2 * 1024 + 1 * k.val = k.val; rw [idx26]; show 0 * 1024 + 1 * k.val = k.val; omega
  rw [e]
  exact left26_apply m c t r k

/-- The array after the run. -/
theorem final26 (c : Dev nD) : (dats m 0 c).arrAt 26 cfg0.N = result26 m c :=
  (dats m 0 c).arrAt_eq_of_cover 26 (result26 m c) (flushed26_eq m c) fun i => by
    have h0 : (i 0 : Nat) < 16 := (i 0).isLt
    have h1 : (i 1 : Nat) < 2048 := (i 1).isLt
    have h2 : (i 2 : Nat) < 1024 := (i 2).isLt
    have hN : cfg0.N = 64 := N_0
    let t : Fin cfg0.N := ⟨(i 0 : Nat) * 4 + (i 1 : Nat) / 512, by omega⟩
    have ht : t.val = (i 0 : Nat) * 4 + (i 1 : Nat) / 512 := rfl
    refine ⟨t, flush0_26 t, ?_⟩
    show i ∈ ((View.whole main_v57_5).slice (win0_26.rect t)).set
    rw [View.set_slice_whole, Rect.mem_set_unit]
    intro a
    match a with
    | ⟨0, _⟩ =>
      show win0_26.index t 0 * 1 ≤ (i 0 : Nat) ∧ (i 0 : Nat) < win0_26.index t 0 * 1 + 1
      rw [idx26]; show t.val / 4 * 1 ≤ (i 0 : Nat) ∧ (i 0 : Nat) < t.val / 4 * 1 + 1; omega
    | ⟨1, _⟩ =>
      show win0_26.index t 1 * 512 ≤ (i 1 : Nat) ∧ (i 1 : Nat) < win0_26.index t 1 * 512 + 512
      rw [idx26]; show t.val % 4 * 512 ≤ (i 1 : Nat) ∧ (i 1 : Nat) < t.val % 4 * 512 + 512; omega
    | ⟨2, _⟩ =>
      show win0_26.index t 2 * 1024 ≤ (i 2 : Nat) ∧ (i 2 : Nat) < win0_26.index t 2 * 1024 + 1024
      rw [idx26]; show 0 * 1024 ≤ (i 2 : Nat) ∧ (i 2 : Nat) < 0 * 1024 + 1024; omega

end Cert.MixPreIdeal.Rows
-- ==== Proof.PreWide.lean ====
module

public import proofs.«01_k».proof.Proof.PreArray
public import Idealize.ShloMosaic.Lib.IdealHost

/-!
# The two transposed results of the mixer's first call

The call also leaves the key latent with its columns as rows, sixteen rows of ones under each chunk of 256 tokens, and
the four index-head weights of every token as rows, four rows of zeros under them.
-/

@[expose] public section

namespace Cert.MixPreIdeal.Rows

open Cert.MixPreIdeal Cert.MixPreIdeal.Gen Cert.MixPreIdeal.Named Idealize.ShloMosaic Idealize.ShloMosaic.ValueIdx
open Idealize.ShloMosaic.TcCoe Layer
open Idealize.SL.Sem
open Idealize.ShloMosaic.Pipeline (Dat)
open scoped BigOperators

variable (m : (ℓ : Loc nD τ sig) → Buf (Elt Ideal) ℓ) (ρ : Dev nD → PrngReg)

/-- The key latent of a block before it is stored. -/
theorem key_core (h : FVec Ideal S512x1024 .bf16) (w : Vec Ideal S256x1024 .bf16) (g : Vec Ideal S1x256 .f32) (r : Fin 512) (c : Fin 256) :
    k0_pay593 (F := Ideal) (k0_pay590 h w) (k0_pay591 g) (k0_pay592 h w) (Scalar.ofBits .f32 0x358637BD#32) (ix2 r c)
      = rmsQ (mul (rowOf (φ := .bf16) h r) (colsOf (φ := .bf16) w)) (rowOf (φ := .f32) g 0) c := by
  unfold k0_pay593 k0_pay592 k0_pay591
  simp only [shapeCast_self]
  refine (rms_apply 0x43800000#32 0x358637BD#32 _ _ _ (fun r => rowSum_apply _ _ _ _ _ r) _ _ _ r c).trans ?_
  refine congrArg (fun y => rmsQ y (rowOf (φ := .f32) g 0) c) (funext fun k => ?_)
  unfold k0_pay590
  simp only [shapeCast_self]
  exact matmulT_apply (φ₁ := .bf16) (φ₂ := .bf16) dot_S512x1024_S256x1024_S512x256_1_1_0_0_n_n rfl h w r k

/-- A square block stored under two leading axes of size one. -/
theorem square_apply (x : FVec Ideal S256x256 .bf16) (a b : Fin 256) :
    shapeCast S1x1x256x256 x shapeCasts_S256x256_S1x1x256x256 (ix4 0 0 a b) = x (ix2 a b) := by
  refine shapeCast_apply x shapeCasts_S256x256_S1x1x256x256 (ix4 0 0 a b) (ix2 a b) ?_
  rewrite [Shape.rowMajor_val_two, Shape.rowMajor_val_four]
  show a.val * 256 + b.val = ((0 * 1 + 0) * 256 + a.val) * 256 + b.val
  omega

/-- A chunk of a block of rows, transposed and stored. -/
theorem chunk_apply (o : ℕ) (ho : o + 256 ≤ 512) (y : FVec Ideal S512x256 .f32) (hs : S512x256.Slices ![o, 0] S256x256)
    (a b : Fin 256) :
    shapeCast S1x1x256x256 (truncf .bf16 (transpose S256x256 [1, 0] (extractStridedSlice S256x256 ![o, 0] y hs)
      transposes_S256x256_p1_0_S256x256) bitsLt_bf16_f32) shapeCasts_S256x256_S1x1x256x256 (ix4 0 0 a b)
      = y (ix2 (⟨o + b.val, by have := b.isLt; omega⟩ : Fin 512) a) := by
  have hb := b.isLt
  refine (square_apply _ a b).trans ?_
  show transpose S256x256 [1, 0] (extractStridedSlice S256x256 ![o, 0] y hs) transposes_S256x256_p1_0_S256x256 (ix2 a b) = _
  refine (transpose_ix2_apply _ transposes_S256x256_p1_0_S256x256 a b).trans ?_
  refine extractStridedSlice_apply ![o, 0] y hs (ix2 b a) (ix2 (⟨o + b.val, by omega⟩ : Fin 512) a) fun d => ?_
  match d with
  | ⟨0, _⟩ => rfl
  | ⟨1, _⟩ => exact (Nat.zero_add _).symm

/-- The first chunk's columns. -/
theorem transposed_apply0 (h : FVec Ideal S512x1024 .bf16) (w : Vec Ideal S256x1024 .bf16) (g : Vec Ideal S1x256 .f32) (a b : Fin 256) :
    k0_pay595 (F := Ideal) (k0_pay590 h w) (k0_pay591 g) (k0_pay592 h w) (Scalar.ofBits .f32 0x358637BD#32) (ix4 0 0 a b)
      = rmsQ (mul (rowOf (φ := .bf16) h (⟨0 + b.val, by have := b.isLt; omega⟩ : Fin 512)) (colsOf (φ := .bf16) w)) (rowOf (φ := .f32) g 0) a := by
  rw [← key_core h w g _ a]
  unfold k0_pay595
  exact chunk_apply 0 (by omega) _ _ a b

/-- The second chunk's columns. -/
theorem transposed_apply1 (h : FVec Ideal S512x1024 .bf16) (w : Vec Ideal S256x1024 .bf16) (g : Vec Ideal S1x256 .f32) (a b : Fin 256) :
    k0_pay597 (F := Ideal) (k0_pay590 h w) (k0_pay591 g) (k0_pay592 h w) (Scalar.ofBits .f32 0x358637BD#32) (ix4 0 0 a b)
      = rmsQ (mul (rowOf (φ := .bf16) h (⟨256 + b.val, by have := b.isLt; omega⟩ : Fin 512)) (colsOf (φ := .bf16) w)) (rowOf (φ := .f32) g 0) a := by
  rw [← key_core h w g _ a]
  unfold k0_pay597
  exact chunk_apply 256 (by omega) _ _ a b

/-- The index-head weights: rows 64 to 71 of the transposed product, halved. -/
theorem weights_apply (h : FVec Ideal S512x1024 .bf16) (w : Vec Ideal S128x1024 .bf16) (a : Fin 8) (r : Fin 512) :
    k0_pay601 (F := Ideal) h w (ix3 0 a r)
      = mul (rowOf (φ := .bf16) h r) (colsOf (φ := .bf16) w) (⟨64 + a.val, by have := a.isLt; omega⟩ : Fin 128) * Ideal.ofBits .f32 0x3F000000#32 := by
  unfold k0_pay601
  rw [shapeCast_ab_1ab_apply]
  have ha := a.isLt
  refine congrArg (· * Ideal.ofBits .f32 0x3F000000#32) ?_
  refine (extractStridedSlice_apply ![64, 0] _ slices_S128x512_o64_0_S8x512 (ix2 a r) (ix2 (⟨64 + a.val, by omega⟩ : Fin 128) r) fun d => ?_).trans
    ((transpose_ix2_apply _ transposes_S512x128_p1_0_S128x512 _ r).trans ?_)
  · match d with
    | ⟨0, _⟩ => rfl
    | ⟨1, _⟩ => exact (Nat.zero_add _).symm
  unfold k0_pay599
  simp only [shapeCast_self]
  exact matmulT_apply (φ₁ := .bf16) (φ₂ := .bf16) dot_S512x1024_S128x1024_S512x128_1_1_0_0_n_n rfl h w r _

/-- The transposed key latent of a block: chunk `s`'s token `b` is token `256 s + b`, and the last sixteen rows are ones. -/
noncomputable def keyBlock (h : FVec Ideal S512x1024 .bf16) (w : Vec Ideal S256x1024 .bf16) (g : Vec Ideal S1x256 .f32) :
    Vec Ideal S1x2x272x256 .bf16 := fun y =>
  if hy : (y 2).val < 256 then
    rmsQ (mul (rowOf (φ := .bf16) h (⟨(y 1).val * 256 + (y 3).val, by
      have h1 : (y 1).val < 2 := (y 1).isLt
      have h3 : (y 3).val < 256 := (y 3).isLt
      omega⟩ : Fin 512)) (colsOf (φ := .bf16) w)) (rowOf (φ := .f32) g 0) ⟨(y 2).val, hy⟩
  else (1 : EReal)

theorem keyBlock_ones (h : FVec Ideal S512x1024 .bf16) (w : Vec Ideal S256x1024 .bf16) (g : Vec Ideal S1x256 .f32) (y : S1x2x272x256.Idx)
    (hy : ¬(y 2).val < 256) : keyBlock h w g y = (1 : EReal) := by
  unfold keyBlock
  exact dif_neg hy

/-- A chunk's columns are what is stored of it. -/
theorem key_run (s o : ℕ) (ho : o = s * 256) (hs : s < 2) {h : FVec Ideal S512x1024 .bf16} {w : Vec Ideal S256x1024 .bf16} {g : Vec Ideal S1x256 .f32}
    (pay : FVec Ideal S1x1x256x256 .bf16)
    (hp : ∀ a b : Fin 256, pay (ix4 0 0 a b)
      = rmsQ (mul (rowOf (φ := .bf16) h (⟨o + b.val, by have := b.isLt; omega⟩ : Fin 512)) (colsOf (φ := .bf16) w)) (rowOf (φ := .f32) g 0) a)
    (inb : ∀ a, (![0, s, 0, 0] : Fin 4 → ℕ) a + S1x1x256x256.size a ≤ S1x2x272x256.size a) (x : S1x1x256x256.Idx) :
    pay x = keyBlock h w g ((Rect.unit (s := S1x2x272x256) ![0, s, 0, 0] S1x1x256x256.size inb).emb x) := by
  obtain ⟨z, z', a, b, rfl⟩ : ∃ (z : Fin 1) (z' : Fin 1) (a : Fin 256) (b : Fin 256), x = ix4 z z' a b := ⟨x 0, x 1, x 2, x 3, eq_ix4 x⟩
  obtain rfl : z = 0 := Subsingleton.elim _ _
  obtain rfl : z' = 0 := Subsingleton.elim _ _
  have ha := a.isLt
  unfold keyBlock
  refine (hp a b).trans (Eq.trans ?_ (dif_pos (show 0 + 1 * a.val < 256 by omega)).symm)
  refine congrArg₂ (fun (r : Fin 512) (k : Fin 256) => rmsQ (mul (rowOf (φ := .bf16) h r) (colsOf (φ := .bf16) w)) (rowOf (φ := .f32) g 0) k)
    (Fin.ext ?_) (Fin.ext ?_)
  · show o + b.val = (s + 1 * 0) * 256 + (0 + 1 * b.val); omega
  · show a.val = 0 + 1 * a.val; omega

/-- A chunk's rows of ones. -/
theorem ones_run (pay : FVec Ideal S1x1x16x256 .bf16) (hp : ∀ x, pay x = Ideal.ofBits .bf16 0x3F80#16) (s : ℕ)
    (h : FVec Ideal S512x1024 .bf16) (w : Vec Ideal S256x1024 .bf16) (g : Vec Ideal S1x256 .f32)
    (inb : ∀ a, (![0, s, 256, 0] : Fin 4 → ℕ) a + S1x1x16x256.size a ≤ S1x2x272x256.size a) (x : S1x1x16x256.Idx) :
    pay x = keyBlock h w g ((Rect.unit (s := S1x2x272x256) ![0, s, 256, 0] S1x1x16x256.size inb).emb x) := by
  exact (hp x).trans (Ideal.ofBits_one_bf16.trans (keyBlock_ones h w g _ (show ¬256 + 1 * (x 2).val < 256 by omega)).symm)

/-- The transposed key latent that the first point of a row leaves. -/
theorem out0_A_23_eq (c : Dev nD) (t : Fin cfg0.N) (h0 : t.val % 4 = 0) :
    out0_A_23 m c t h0 = keyBlock (normed m c t) (iblk m c 4 t) (iblk m c 10 t) := by
  have e : (runA m c t h0).2.2.1 = [⟨Rect.unit (s := S1x2x272x256) ![0, 1, 256, 0] S1x1x16x256.size (by decide), k0_pay598 (F := Ideal)⟩,
      ⟨Rect.unit (s := S1x2x272x256) ![0, 1, 0, 0] S1x1x256x256.size (by decide), k0_pay597 (k0_pay590 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_4 t).view.readAt (Elt Ideal) (Rect.unit (s := S256x1024) ![0, 0] S256x1024.size (by decide)) ((hs0_4 t).unread (iblk m c 4 t)))) (k0_pay591 ((ms0_10 t).view.readAt (Elt Ideal) (Rect.unit (s := S1x256) ![0, 0] S1x256.size (by decide)) ((hs0_10 t).unread (iblk m c 10 t)))) (k0_pay592 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_4 t).view.readAt (Elt Ideal) (Rect.unit (s := S256x1024) ![0, 0] S256x1024.size (by decide)) ((hs0_4 t).unread (iblk m c 4 t)))) (Scalar.ofBits .f32 0x358637BD#32)⟩,
      ⟨Rect.unit (s := S1x2x272x256) ![0, 0, 256, 0] S1x1x16x256.size (by decide), k0_pay596 (F := Ideal)⟩,
      ⟨Rect.unit (s := S1x2x272x256) ![0, 0, 0, 0] S1x1x256x256.size (by decide), k0_pay595 (k0_pay590 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_4 t).view.readAt (Elt Ideal) (Rect.unit (s := S256x1024) ![0, 0] S256x1024.size (by decide)) ((hs0_4 t).unread (iblk m c 4 t)))) (k0_pay591 ((ms0_10 t).view.readAt (Elt Ideal) (Rect.unit (s := S1x256) ![0, 0] S1x256.size (by decide)) ((hs0_10 t).unread (iblk m c 10 t)))) (k0_pay592 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_4 t).view.readAt (Elt Ideal) (Rect.unit (s := S256x1024) ![0, 0] S256x1024.size (by decide)) ((hs0_4 t).unread (iblk m c 4 t)))) (Scalar.ofBits .f32 0x358637BD#32)⟩] := rfl
  unfold out0_A_23
  rw [View.read_writes_junk_eq_canon]
  funext y
  refine View.canon_apply_of_pieces (keyBlock (normed m c t) (iblk m c 4 t) (iblk m c 10 t)) _ ?_ y (cover0_A_23 m c t h0 y)
  rw [e, load_whole (hs0_0 t) (iblk m c 0 t) zero3 (by decide), load_whole (hs0_2 t) (iblk m c 2 t) zero2 (by decide), load_whole (hs0_4 t) (iblk m c 4 t) zero2 (by decide), load_whole (hs0_10 t) (iblk m c 10 t) zero2 (by decide)]
  intro p hp x
  simp only [List.mem_cons, List.not_mem_nil, or_false] at hp
  rcases hp with rfl | rfl | rfl | rfl
  · exact ones_run k0_pay598 (fun _ => rfl) 1 _ _ _ (by decide) x
  · exact key_run 1 256 rfl (by omega) _ (transposed_apply1 (normed m c t) (iblk m c 4 t) (iblk m c 10 t)) (by decide) x
  · exact ones_run k0_pay596 (fun _ => rfl) 0 _ _ _ (by decide) x
  · exact key_run 0 0 rfl (by omega) _ (transposed_apply0 (normed m c t) (iblk m c 4 t) (iblk m c 10 t)) (by decide) x

/-- The transposed index-head weights that the first point of a row leaves. -/
theorem out0_A_25_eq (c : Dev nD) (t : Fin cfg0.N) (h0 : t.val % 4 = 0) :
    out0_A_25 m c t h0 = k0_pay601 (normed m c t) (iblk m c 5 t) := by
  have e : (runA m c t h0).2.2.2.2.1 = [⟨Rect.unit (s := S1x8x512) ![0, 0, 0] S1x8x512.size (by decide), k0_pay601 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_5 t).view.readAt (Elt Ideal) (Rect.unit (s := S128x1024) ![0, 0] S128x1024.size (by decide)) ((hs0_5 t).unread (iblk m c 5 t)))⟩] := rfl
  unfold out0_A_25
  rw [View.read_writes_junk_eq_canon, e, View.canon_unit_zero zero3, load_whole (hs0_0 t) (iblk m c 0 t) zero3 (by decide), load_whole (hs0_2 t) (iblk m c 2 t) zero2 (by decide), load_whole (hs0_5 t) (iblk m c 5 t) zero2 (by decide)]

/-- The transposed key latent that a later point of a row leaves. -/
theorem out0_B_23_eq (c : Dev nD) (t : Fin cfg0.N) (h0 : ¬t.val % 4 = 0) (s : Carried Ideal) :
    out0_B_23 m c t h0 s = keyBlock (normed m c t) (iblk m c 4 t) (iblk m c 10 t) := by
  have e : (runB m c t h0 s).2.2.1 = [⟨Rect.unit (s := S1x2x272x256) ![0, 1, 256, 0] S1x1x16x256.size (by decide), k0_pay598 (F := Ideal)⟩,
      ⟨Rect.unit (s := S1x2x272x256) ![0, 1, 0, 0] S1x1x256x256.size (by decide), k0_pay597 (k0_pay590 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_4 t).view.readAt (Elt Ideal) (Rect.unit (s := S256x1024) ![0, 0] S256x1024.size (by decide)) ((hs0_4 t).unread (iblk m c 4 t)))) (k0_pay591 ((ms0_10 t).view.readAt (Elt Ideal) (Rect.unit (s := S1x256) ![0, 0] S1x256.size (by decide)) ((hs0_10 t).unread (iblk m c 10 t)))) (k0_pay592 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_4 t).view.readAt (Elt Ideal) (Rect.unit (s := S256x1024) ![0, 0] S256x1024.size (by decide)) ((hs0_4 t).unread (iblk m c 4 t)))) (Scalar.ofBits .f32 0x358637BD#32)⟩,
      ⟨Rect.unit (s := S1x2x272x256) ![0, 0, 256, 0] S1x1x16x256.size (by decide), k0_pay596 (F := Ideal)⟩,
      ⟨Rect.unit (s := S1x2x272x256) ![0, 0, 0, 0] S1x1x256x256.size (by decide), k0_pay595 (k0_pay590 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_4 t).view.readAt (Elt Ideal) (Rect.unit (s := S256x1024) ![0, 0] S256x1024.size (by decide)) ((hs0_4 t).unread (iblk m c 4 t)))) (k0_pay591 ((ms0_10 t).view.readAt (Elt Ideal) (Rect.unit (s := S1x256) ![0, 0] S1x256.size (by decide)) ((hs0_10 t).unread (iblk m c 10 t)))) (k0_pay592 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_4 t).view.readAt (Elt Ideal) (Rect.unit (s := S256x1024) ![0, 0] S256x1024.size (by decide)) ((hs0_4 t).unread (iblk m c 4 t)))) (Scalar.ofBits .f32 0x358637BD#32)⟩] := rfl
  unfold out0_B_23
  rw [View.read_writes_junk_eq_canon]
  funext y
  refine View.canon_apply_of_pieces (keyBlock (normed m c t) (iblk m c 4 t) (iblk m c 10 t)) _ ?_ y (cover0_B_23 m c t h0 s y)
  rw [e, load_whole (hs0_0 t) (iblk m c 0 t) zero3 (by decide), load_whole (hs0_2 t) (iblk m c 2 t) zero2 (by decide), load_whole (hs0_4 t) (iblk m c 4 t) zero2 (by decide), load_whole (hs0_10 t) (iblk m c 10 t) zero2 (by decide)]
  intro p hp x
  simp only [List.mem_cons, List.not_mem_nil, or_false] at hp
  rcases hp with rfl | rfl | rfl | rfl
  · exact ones_run k0_pay598 (fun _ => rfl) 1 _ _ _ (by decide) x
  · exact key_run 1 256 rfl (by omega) _ (transposed_apply1 (normed m c t) (iblk m c 4 t) (iblk m c 10 t)) (by decide) x
  · exact ones_run k0_pay596 (fun _ => rfl) 0 _ _ _ (by decide) x
  · exact key_run 0 0 rfl (by omega) _ (transposed_apply0 (normed m c t) (iblk m c 4 t) (iblk m c 10 t)) (by decide) x

/-- The transposed index-head weights that a later point of a row leaves. -/
theorem out0_B_25_eq (c : Dev nD) (t : Fin cfg0.N) (h0 : ¬t.val % 4 = 0) (s : Carried Ideal) :
    out0_B_25 m c t h0 s = k0_pay601 (normed m c t) (iblk m c 5 t) := by
  have e : (runB m c t h0 s).2.2.2.2.1 = [⟨Rect.unit (s := S1x8x512) ![0, 0, 0] S1x8x512.size (by decide), k0_pay601 (k0_pay42 (F := Ideal) ((ms0_0 t).view.readAt (Elt Ideal) (Rect.unit (s := S1x512x1024) ![0, 0, 0] S1x512x1024.size (by decide)) ((hs0_0 t).unread (iblk m c 0 t))) ((ms0_2 t).view.readAt (Elt Ideal) (Rect.unit (s := S1x1024) ![0, 0] S1x1024.size (by decide)) ((hs0_2 t).unread (iblk m c 2 t)))) ((ms0_5 t).view.readAt (Elt Ideal) (Rect.unit (s := S128x1024) ![0, 0] S128x1024.size (by decide)) ((hs0_5 t).unread (iblk m c 5 t)))⟩] := rfl
  unfold out0_B_25
  rw [View.read_writes_junk_eq_canon, e, View.canon_unit_zero zero3, load_whole (hs0_0 t) (iblk m c 0 t) zero3 (by decide), load_whole (hs0_2 t) (iblk m c 2 t) zero2 (by decide), load_whole (hs0_5 t) (iblk m c 5 t) zero2 (by decide)]

/-- The transposed key latent that a point leaves. -/
theorem left23 (c : Dev nD) (t : Fin cfg0.N) : (outsAt0 m c t.val t.isLt).2.2.1 = keyBlock (normed m c t) (iblk m c 4 t) (iblk m c 10 t) := by
  by_cases h0 : t.val % 4 = 0
  · rw [outsAt0_A m c t h0]
    dsimp only [leftA]
    exact out0_A_23_eq m c t h0
  · rw [outsAt0_B m c t h0]
    dsimp only [leftB]
    exact out0_B_23_eq m c t h0 _

/-- The transposed index-head weights that a point leaves. -/
theorem left25 (c : Dev nD) (t : Fin cfg0.N) : (outsAt0 m c t.val t.isLt).2.2.2.2.1 = k0_pay601 (normed m c t) (iblk m c 5 t) := by
  by_cases h0 : t.val % 4 = 0
  · rw [outsAt0_A m c t h0]
    dsimp only [leftA]
    exact out0_A_25_eq m c t h0
  · rw [outsAt0_B m c t h0]
    dsimp only [leftB]
    exact out0_B_25_eq m c t h0 _

/-- The key latent of every token, transposed chunk by chunk, with sixteen rows of ones under each chunk. -/
noncomputable def keyColumns (x : Vec Ideal S16x2048x1024 .f32) (g : Vec Ideal S1x1024 .f32) (w : Vec Ideal S1x1024x5188 .f32)
    (gk : Vec Ideal S1x256 .f32) : Vec Ideal S16x8x272x256 .bf16 := fun i =>
  if hi : (i 2).val < 256 then
    rmsQ (mul (tokenRow x g (i 0) (⟨(i 1).val * 256 + (i 3).val, by
      have h1 : (i 1).val < 8 := (i 1).isLt
      have h3 : (i 3).val < 256 := (i 3).isLt
      omega⟩ : Fin 2048)) (columns w 256 256 (by omega))) (rowOf (φ := .f32) gk 0) ⟨(i 2).val, hi⟩
  else (1 : EReal)

/-- The index-head weights of every token, halved and transposed, with four rows of zeros under them. -/
noncomputable def weightRows (x : Vec Ideal S16x2048x1024 .f32) (g : Vec Ideal S1x1024 .f32) (w : Vec Ideal S1x1024x5188 .f32) :
    Vec Ideal S16x8x2048 .f32 := fun i =>
  if hi : (i 1).val < 4 then
    mul (tokenRow x g (i 0) (i 2)) (columns w 576 4 (by omega)) ⟨(i 1).val, hi⟩ * Ideal.ofBits .f32 0x3F000000#32
  else (0 : EReal)

theorem keyColumns_ones (x : Vec Ideal S16x2048x1024 .f32) (g : Vec Ideal S1x1024 .f32) (w : Vec Ideal S1x1024x5188 .f32)
    (gk : Vec Ideal S1x256 .f32) (i : S16x8x272x256.Idx) (hi : ¬(i 2).val < 256) : keyColumns x g w gk i = (1 : EReal) := by
  unfold keyColumns
  exact dif_neg hi

theorem idx23 : ∀ t : Fin cfg0.N, win0_23.index t = ![t.val / 4, t.val % 4, 0, 0] :=
  (by decide +kernel : ∀ t : Fin grid0.N, win0_23.index t = ![t.val / 4, t.val % 4, 0, 0])
theorem idx25 : ∀ t : Fin cfg0.N, win0_25.index t = ![t.val / 4, 0, t.val % 4] :=
  (by decide +kernel : ∀ t : Fin grid0.N, win0_25.index t = ![t.val / 4, 0, t.val % 4])

/-- The small weight past column 67 is zero. -/
theorem block5_zero (c : Dev nD) (t : Fin cfg0.N) (j : Fin 128) (hj : 68 ≤ j.val) (i : Fin 1024) :
    (iblk m c 5 t : Vec Ideal S128x1024 .bf16) (ix2 j i) = (0 : EReal) := by
  have e : (iblk m c 5 t : Vec Ideal S128x1024 .bf16) (ix2 j i) = V m c main_v29 (ix2 j i) := by
    show V m c main_v29 _ = V m c main_v29 _
    refine congrArg _ (funext fun a => Fin.ext ?_)
    match a with
    | ⟨0, _⟩ => show win0_5.index t 0 * 128 + 1 * j.val = j.val; rw [idx5]; show 0 * 128 + 1 * j.val = j.val; omega
    | ⟨1, _⟩ => show win0_5.index t 1 * 1024 + 1 * i.val = i.val; rw [idx5]; show 0 * 1024 + 1 * i.val = i.val; omega
  rw [e, V_v29]
  refine (pad_apply_of_not_inside ![0, 0] ![60, 0] ![0, 0] _ _ pads_S68x1024_S128x1024_0600_000 _ (ix2 j i) (0 : Fin S68x1024.rank) fun hin => ?_).trans ?_
  · have h3 : (j.val - 0) / (0 + 1) < 68 := hin.2.2
    omega
  · show (((0#32 : BitVec 32).toInt : ℝ) : EReal) = 0
    simp

/-- A chunk of a point. -/
def chunkOf (t : Fin cfg0.N) (s : Fin 2) : Fin 8 := ⟨t.val % 4 * 2 + s.val, by have := s.isLt; omega⟩

/-- The transposed key latent as a function of the launch memory. -/
noncomputable abbrev result23 (c : Dev nD) : Buf (Elt Ideal) ((c : Thread nD τ).loc main_v57_2) :=
  keyColumns (m ((c : Thread nD τ).loc main_arg0)) (m ((c : Thread nD τ).loc main_arg2)) (m ((c : Thread nD τ).loc main_arg3)) (m ((c : Thread nD τ).loc main_arg5))

/-- What a point leaves of it. -/
theorem left23_apply (c : Dev nD) (t : Fin cfg0.N) (s : Fin 2) (a : Fin 272) (b : Fin 256) :
    (outsAt0 m c t.val t.isLt).2.2.1 (ix4 0 s a b) = result23 m c (ix4 (seqOf t) (chunkOf t s) a b) := by
  refine (congrFun (left23 m c t) _).trans ?_
  have hw : colsOf (φ := .bf16) (iblk m c 4 t : Vec Ideal S256x1024 .bf16) = columns (m ((c : Thread nD τ).loc main_arg3)) 256 256 (by omega) :=
    funext fun i => funext fun j => block4 m c t j i
  have hg : rowOf (φ := .f32) (iblk m c 10 t : Vec Ideal S1x256 .f32) 0 = rowOf (φ := .f32) (m ((c : Thread nD τ).loc main_arg5) : Vec Ideal S1x256 .f32) 0 :=
    funext fun i => block10 m c t i
  by_cases ha : a.val < 256
  · refine (dif_pos ha).trans (Eq.trans ?_ (dif_pos ha).symm)
    rw [normed_row, hw, hg]
    refine congrArg (fun q => rmsQ (mul (tokenRow (m ((c : Thread nD τ).loc main_arg0)) (m ((c : Thread nD τ).loc main_arg2)) (seqOf t) q)
      (columns (m ((c : Thread nD τ).loc main_arg3)) 256 256 (by omega)))
      (rowOf (φ := .f32) (m ((c : Thread nD τ).loc main_arg5) : Vec Ideal S1x256 .f32) 0) (⟨a.val, ha⟩ : Fin 256)) (Fin.ext ?_)
    show t.val % 4 * 512 + (s.val * 256 + b.val) = (t.val % 4 * 2 + s.val) * 256 + b.val
    omega
  · exact (keyBlock_ones _ _ _ (ix4 0 s a b) ha).trans (keyColumns_ones _ _ _ _ (ix4 (seqOf t) (chunkOf t s) a b) ha).symm

/-- What a point writes back is the result read through its block. -/
theorem flushed23_eq (c : Dev nD) (t : Fin cfg0.N) (hf : (cfg0.win 23).flush t = true) :
    (dats m 0 c).flushed 23 t = ((cfg0.win 23).blk t).view.read (Elt Ideal) (result23 m c) := by
  show (cfg0.win 23).cut (grid0.coords t) ((dats m 0 c).after 23 t) = _
  rw [after0_23]
  funext j
  obtain ⟨z, s, a, b, rfl⟩ : ∃ (z : Fin 1) (s : Fin 2) (a : Fin 272) (b : Fin 256), j = ix4 z s a b := ⟨j 0, j 1, j 2, j 3, eq_ix4 j⟩
  obtain rfl : z = 0 := Subsingleton.elim _ _
  have e : ((cfg0.win 23).blk t).view.read (Elt Ideal) (result23 m c) (ix4 0 s a b) = result23 m c (ix4 (seqOf t) (chunkOf t s) a b) := by
    show result23 m c _ = result23 m c _
    refine congrArg _ (funext fun d => Fin.ext ?_)
    match d with
    | ⟨0, _⟩ => show win0_23.index t 0 * 1 + 1 * 0 = t.val / 4; rw [idx23]; show t.val / 4 * 1 + 1 * 0 = t.val / 4; omega
    | ⟨1, _⟩ => show win0_23.index t 1 * 2 + 1 * s.val = t.val % 4 * 2 + s.val; rw [idx23]; show t.val % 4 * 2 + 1 * s.val = _; omega
    | ⟨2, _⟩ => show win0_23.index t 2 * 272 + 1 * a.val = a.val; rw [idx23]; show 0 * 272 + 1 * a.val = a.val; omega
    | ⟨3, _⟩ => show win0_23.index t 3 * 256 + 1 * b.val = b.val; rw [idx23]; show 0 * 256 + 1 * b.val = b.val; omega
  rw [e]
  exact left23_apply m c t s a b

/-- The array after the run. -/
theorem final23 (c : Dev nD) : (dats m 0 c).arrAt 23 cfg0.N = result23 m c :=
  (dats m 0 c).arrAt_eq_of_cover 23 (result23 m c) (flushed23_eq m c) fun i => by
    have h0 : (i 0 : Nat) < 16 := (i 0).isLt
    have h1 : (i 1 : Nat) < 8 := (i 1).isLt
    have h2 : (i 2 : Nat) < 272 := (i 2).isLt
    have h3 : (i 3 : Nat) < 256 := (i 3).isLt
    have hN : cfg0.N = 64 := N_0
    let t : Fin cfg0.N := ⟨(i 0 : Nat) * 4 + (i 1 : Nat) / 2, by omega⟩
    have ht : t.val = (i 0 : Nat) * 4 + (i 1 : Nat) / 2 := rfl
    refine ⟨t, flush0_23 t, ?_⟩
    show i ∈ ((View.whole main_v57_2).slice (win0_23.rect t)).set
    rw [View.set_slice_whole, Rect.mem_set_unit]
    intro a
    match a with
    | ⟨0, _⟩ =>
      show win0_23.index t 0 * 1 ≤ (i 0 : Nat) ∧ (i 0 : Nat) < win0_23.index t 0 * 1 + 1
      rw [idx23]; show t.val / 4 * 1 ≤ (i 0 : Nat) ∧ (i 0 : Nat) < t.val / 4 * 1 + 1; omega
    | ⟨1, _⟩ =>
      show win0_23.index t 1 * 2 ≤ (i 1 : Nat) ∧ (i 1 : Nat) < win0_23.index t 1 * 2 + 2
      rw [idx23]; show t.val % 4 * 2 ≤ (i 1 : Nat) ∧ (i 1 : Nat) < t.val % 4 * 2 + 2; omega
    | ⟨2, _⟩ =>
      show win0_23.index t 2 * 272 ≤ (i 2 : Nat) ∧ (i 2 : Nat) < win0_23.index t 2 * 272 + 272
      rw [idx23]; show 0 * 272 ≤ (i 2 : Nat) ∧ (i 2 : Nat) < 0 * 272 + 272; omega
    | ⟨3, _⟩ =>
      show win0_23.index t 3 * 256 ≤ (i 3 : Nat) ∧ (i 3 : Nat) < win0_23.index t 3 * 256 + 256
      rw [idx23]; show 0 * 256 ≤ (i 3 : Nat) ∧ (i 3 : Nat) < 0 * 256 + 256; omega

/-- The transposed index-head weights as a function of the launch memory. -/
noncomputable abbrev result25 (c : Dev nD) : Buf (Elt Ideal) ((c : Thread nD τ).loc main_v57_4) :=
  weightRows (m ((c : Thread nD τ).loc main_arg0)) (m ((c : Thread nD τ).loc main_arg2)) (m ((c : Thread nD τ).loc main_arg3))

/-- What a point leaves of it. -/
theorem left25_apply (c : Dev nD) (t : Fin cfg0.N) (a : Fin 8) (r : Fin 512) :
    (outsAt0 m c t.val t.isLt).2.2.2.2.1 (ix3 0 a r) = result25 m c (ix3 (seqOf t) a (tokOf t r)) := by
  refine (congrFun (left25 m c t) _).trans ((weights_apply (normed m c t) (iblk m c 5 t) a r).trans ?_)
  have ha8 := a.isLt
  by_cases ha : a.val < 4
  · refine Eq.trans ?_ (dif_pos ha).symm
    refine congrArg (· * Ideal.ofBits .f32 0x3F000000#32) ?_
    rw [normed_row]
    refine Finset.sum_congr rfl fun i _ => congrArg₂ (fun u v : EReal => u * v) rfl ?_
    refine (block5 m c t (⟨64 + a.val, by omega⟩ : Fin 128) (by show 64 + a.val < 68; omega) i).trans ?_
    refine congrArg (fun q => (m ((c : Thread nD τ).loc main_arg3) : Vec Ideal S1x1024x5188 .f32) (ix3 0 i q)) (Fin.ext ?_)
    show 512 + (64 + a.val) = 576 + a.val
    omega
  · refine Eq.trans ?_ (dif_neg ha).symm
    have hz : mul (rowOf (φ := .bf16) (normed m c t) r) (colsOf (φ := .bf16) (iblk m c 5 t : Vec Ideal S128x1024 .bf16))
        (⟨64 + a.val, by omega⟩ : Fin 128) = 0 := by
      refine Finset.sum_eq_zero fun i _ => ?_
      refine (congrArg₂ (fun u v : EReal => u * v) (rfl : rowOf (φ := .bf16) (normed m c t) r i = rowOf (φ := .bf16) (normed m c t) r i) (block5_zero m c t (⟨64 + a.val, by omega⟩ : Fin 128) (by show 68 ≤ 64 + a.val; omega) i)).trans (mul_zero _)
    rw [hz, zero_mul]

/-- What a point writes back is the result read through its block. -/
theorem flushed25_eq (c : Dev nD) (t : Fin cfg0.N) (hf : (cfg0.win 25).flush t = true) :
    (dats m 0 c).flushed 25 t = ((cfg0.win 25).blk t).view.read (Elt Ideal) (result25 m c) := by
  show (cfg0.win 25).cut (grid0.coords t) ((dats m 0 c).after 25 t) = _
  rw [after0_25]
  funext j
  obtain ⟨z, a, r, rfl⟩ : ∃ (z : Fin 1) (a : Fin 8) (r : Fin 512), j = ix3 z a r := ⟨j 0, j 1, j 2, eq_ix3 j⟩
  obtain rfl : z = 0 := Subsingleton.elim _ _
  have e : ((cfg0.win 25).blk t).view.read (Elt Ideal) (result25 m c) (ix3 0 a r) = result25 m c (ix3 (seqOf t) a (tokOf t r)) := by
    show result25 m c _ = result25 m c _
    refine congrArg _ (funext fun d => Fin.ext ?_)
    match d with
    | ⟨0, _⟩ => show win0_25.index t 0 * 1 + 1 * 0 = t.val / 4; rw [idx25]; show t.val / 4 * 1 + 1 * 0 = t.val / 4; omega
    | ⟨1, _⟩ => show win0_25.index t 1 * 8 + 1 * a.val = a.val; rw [idx25]; show 0 * 8 + 1 * a.val = a.val; omega
    | ⟨2, _⟩ => show win0_25.index t 2 * 512 + 1 * r.val = t.val % 4 * 512 + r.val; rw [idx25]; show t.val % 4 * 512 + 1 * r.val = _; omega
  rw [e]
  exact left25_apply m c t a r

/-- The array after the run. -/
theorem final25 (c : Dev nD) : (dats m 0 c).arrAt 25 cfg0.N = result25 m c :=
  (dats m 0 c).arrAt_eq_of_cover 25 (result25 m c) (flushed25_eq m c) fun i => by
    have h0 : (i 0 : Nat) < 16 := (i 0).isLt
    have h1 : (i 1 : Nat) < 8 := (i 1).isLt
    have h2 : (i 2 : Nat) < 2048 := (i 2).isLt
    have hN : cfg0.N = 64 := N_0
    let t : Fin cfg0.N := ⟨(i 0 : Nat) * 4 + (i 2 : Nat) / 512, by omega⟩
    have ht : t.val = (i 0 : Nat) * 4 + (i 2 : Nat) / 512 := rfl
    refine ⟨t, flush0_25 t, ?_⟩
    show i ∈ ((View.whole main_v57_4).slice (win0_25.rect t)).set
    rw [View.set_slice_whole, Rect.mem_set_unit]
    intro a
    match a with
    | ⟨0, _⟩ =>
      show win0_25.index t 0 * 1 ≤ (i 0 : Nat) ∧ (i 0 : Nat) < win0_25.index t 0 * 1 + 1
      rw [idx25]; show t.val / 4 * 1 ≤ (i 0 : Nat) ∧ (i 0 : Nat) < t.val / 4 * 1 + 1; omega
    | ⟨1, _⟩ =>
      show win0_25.index t 1 * 8 ≤ (i 1 : Nat) ∧ (i 1 : Nat) < win0_25.index t 1 * 8 + 8
      rw [idx25]; show 0 * 8 ≤ (i 1 : Nat) ∧ (i 1 : Nat) < 0 * 8 + 8; omega
    | ⟨2, _⟩ =>
      show win0_25.index t 2 * 512 ≤ (i 2 : Nat) ∧ (i 2 : Nat) < win0_25.index t 2 * 512 + 512
      rw [idx25]; show t.val % 4 * 512 ≤ (i 2 : Nat) ∧ (i 2 : Nat) < t.val % 4 * 512 + 512; omega

set_option maxHeartbeats 2000000 in
/-- The run ends with the six results in their arrays and the arguments as they were. -/
theorem run_results : θ_run defs (onTc (τ := τ) (main (F := Ideal))) ⟨m, fun _ => 0, ρ⟩ (fun r => ∀ c : Dev nD,
      r.2.mem ((c.tc : Thread nD τ).loc main_v57_0) = result21 m c
      ∧ r.2.mem ((c.tc : Thread nD τ).loc main_v57_1) = result22 m c
      ∧ r.2.mem ((c.tc : Thread nD τ).loc main_v57_2) = result23 m c
      ∧ r.2.mem ((c.tc : Thread nD τ).loc main_v57_3) = result24 m c
      ∧ r.2.mem ((c.tc : Thread nD τ).loc main_v57_4) = result25 m c
      ∧ r.2.mem ((c.tc : Thread nD τ).loc main_v57_5) = result26 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 21).trans (final21 m c),
    ((h c).1 22).trans (final22 m c),
    ((h c).1 23).trans (final23 m c),
    ((h c).1 24).trans (final24 m c),
    ((h c).1 25).trans (final25 m c),
    ((h c).1 26).trans (final26 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c)⟩)
    (run_main m ρ)

end Cert.MixPreIdeal.Rows
-- ==== Proof.PreRefRows.lean ====
module

public import proofs.«01_k».proof.Proof.PreRows
public import proofs.«01_k».proof.Proof.Gen.MixPreRefIdeal.Read
public import Idealize.ShloMosaic.Lib.IdealHost
public import Idealize.ShloMosaic.Lib.KernelVsHost

/-!
# What the reference of the mixer's first call computes

The reference's operations, read at token `t` of sequence `b`, are the row functions of `Rows` and `PreRows`.
-/

@[expose] public section

namespace Cert.MixPreRefIdeal.Rows

open Cert.MixPreRefIdeal Cert.MixPreRefIdeal.Gen Cert.MixPreRefIdeal.Read Idealize.ShloMosaic Idealize.ShloMosaic.ValueIdx Layer
open scoped BigOperators

variable (x0 : Vec Ideal S16x2048x1024 .f32) (x2 : Vec Ideal S1x1024 .f32) (x3 : Vec Ideal S1x1024x5188 .f32)
  (x4 x5 : Vec Ideal S1x256 .f32) (x6 x7 : Vec Ideal S1x64 .f32)

/-- The projected row of a token: its normalised row times the input projection. -/
noncomputable abbrev proj (b : Fin 16) (t : Fin 2048) : Row 5188 :=
  mul (rmsD (fun k => x0 (ix3 b t k)) (rowOf (φ := .f32) x2 0)) (fun i j => x3 (ix3 0 i j))

/-- The normalised input. -/
theorem norm_apply (b : Fin 16) (t : Fin 2048) (c : Fin 1024) :
    val_main_v13 (F := Ideal) x0 x2 (ix3 b t c) = rmsD (fun k => x0 (ix3 b t k)) (rowOf (φ := .f32) x2 0) c := by
  have hi : ∀ k : Fin 1024, idx_main_v2 (idx_main_v3 (idx_main_v9 (ix3 b t c))) k = ix3 b t k := fun k =>
    funext fun a => match a with | ⟨0, _⟩ => rfl | ⟨1, _⟩ => rfl | ⟨2, _⟩ => rfl
  have hg : idx_main_v0 (idx_main_v11 (idx_main_v12 (ix3 b t c))) = ix2 0 c :=
    funext fun a => match a with | ⟨0, _⟩ => rfl | ⟨1, _⟩ => Fin.ext (Nat.mod_eq_of_lt c.isLt)
  simp only [val_main_v13_apply, val_main_v10_apply, val_main_v9_apply, val_main_v8_apply, val_main_v7_apply, val_main_v6_apply,
    val_main_cst_1_apply, val_main_v5_apply, val_main_v4_apply, val_main_cst_0_apply, val_main_v3_apply, val_main_v2_apply,
    val_main_cst_apply, val_main_v1_apply, val_main_v12_apply, val_main_v11_apply, val_main_v0_apply, hi, hg]
  show _ * Ideal.rsqrt (Ideal.div (Ideal.ofBits .f32 0x00000000#32 + _) _ + _) * _ = _
  rw [Ideal.ofBits_zero_f32, zero_add]
  rfl

/-- The projection. -/
theorem proj_apply (b : Fin 16) (t : Fin 2048) (j : Fin 5188) :
    val_main_v15 (F := Ideal) x0 x2 x3 (ix3 b t j) = proj x0 x2 x3 b t j := by
  rw [val_main_v15_apply]
  refine Finset.sum_congr rfl fun k _ => ?_
  have el : lidx_main_v15 (ix3 b t j) k = ix3 b t k :=
    funext fun a => match a with | ⟨0, _⟩ => rfl | ⟨1, _⟩ => rfl | ⟨2, _⟩ => rfl
  have er : idx_main_v14 (ridx_main_v15 (ix3 b t j) k) = ix3 0 k j := by
    have hj := j.isLt
    have hk := k.isLt
    funext a
    match a with
    | ⟨0, _⟩ => rfl
    | ⟨1, _⟩ => exact Fin.ext (show (k.val * 5188 + j.val) / 5188 % 1024 = k.val by omega)
    | ⟨2, _⟩ => exact Fin.ext (show (k.val * 5188 + j.val) % 5188 = j.val by omega)
  rw [el, norm_apply, val_main_v14_apply, er]

/-- The query latent. -/
theorem query_apply (b : Fin 16) (t : Fin 2048) (c : Fin 256) :
    val_main_v37 (F := Ideal) x0 x2 x3 x4 (ix3 b t c)
      = rmsQ (fun k => proj x0 x2 x3 b t ⟨k.val, by have := k.isLt; omega⟩) (rowOf (φ := .f32) x4 0) c := by
  have hi : ∀ k : Fin 256, idx_main_v25 (idx_main_v26 (idx_main_v32 (ix3 b t c))) k = ix3 b t k := fun k =>
    funext fun a => match a with | ⟨0, _⟩ => rfl | ⟨1, _⟩ => rfl | ⟨2, _⟩ => rfl
  have hg : idx_main_v23 (idx_main_v34 (idx_main_v35 (ix3 b t c))) = ix2 0 c :=
    funext fun a => match a with | ⟨0, _⟩ => rfl | ⟨1, _⟩ => Fin.ext (Nat.mod_eq_of_lt c.isLt)
  have hp : ∀ k : Fin 256, val_main_v16 (F := Ideal) x0 x2 x3 (ix3 b t k) = proj x0 x2 x3 b t ⟨k.val, by have := k.isLt; omega⟩ := fun k => by
    have e : idx_main_v16 (ix3 b t k) = ix3 b t (⟨k.val, by have := k.isLt; omega⟩ : Fin 5188) :=
      funext fun a => match a with | ⟨0, _⟩ => rfl | ⟨1, _⟩ => rfl | ⟨2, _⟩ => rfl
    rw [val_main_v16_apply, e, proj_apply]
  show val_main_v36 (F := Ideal) x0 x2 x3 x4 (ix3 b t c) = _
  simp only [val_main_v36_apply, val_main_v33_apply, val_main_v32_apply, val_main_v31_apply, val_main_v30_apply, val_main_v29_apply,
    val_main_cst_4_apply, val_main_v28_apply, val_main_v27_apply, val_main_cst_3_apply, val_main_v26_apply, val_main_v25_apply,
    val_main_cst_2_apply, val_main_v24_apply, val_main_v35_apply, val_main_v34_apply, val_main_v23_apply, hi, hg, hp]
  show _ * Ideal.rsqrt (Ideal.div (Ideal.ofBits .f32 0x00000000#32 + _) _ + _) * _ = _
  rw [Ideal.ofBits_zero_f32, zero_add]
  rfl

/-- The key latent. -/
theorem key_apply (b : Fin 16) (t : Fin 2048) (c : Fin 256) :
    val_main_v52 (F := Ideal) x0 x2 x3 x5 (ix3 b t c)
      = rmsQ (fun k => proj x0 x2 x3 b t ⟨256 + k.val, by have := k.isLt; omega⟩) (rowOf (φ := .f32) x5 0) c := by
  have hi : ∀ k : Fin 256, idx_main_v40 (idx_main_v41 (idx_main_v47 (ix3 b t c))) k = ix3 b t k := fun k =>
    funext fun a => match a with | ⟨0, _⟩ => rfl | ⟨1, _⟩ => rfl | ⟨2, _⟩ => rfl
  have hg : idx_main_v38 (idx_main_v49 (idx_main_v50 (ix3 b t c))) = ix2 0 c :=
    funext fun a => match a with | ⟨0, _⟩ => rfl | ⟨1, _⟩ => Fin.ext (Nat.mod_eq_of_lt c.isLt)
  have hp : ∀ k : Fin 256, val_main_v17 (F := Ideal) x0 x2 x3 (ix3 b t k) = proj x0 x2 x3 b t ⟨256 + k.val, by have := k.isLt; omega⟩ := fun k => by
    have e : idx_main_v17 (ix3 b t k) = ix3 b t (⟨256 + k.val, by have := k.isLt; omega⟩ : Fin 5188) :=
      funext fun a => match a with | ⟨0, _⟩ => rfl | ⟨1, _⟩ => rfl | ⟨2, _⟩ => rfl
    rw [val_main_v17_apply, e, proj_apply]
  show val_main_v51 (F := Ideal) x0 x2 x3 x5 (ix3 b t c) = _
  simp only [val_main_v51_apply, val_main_v48_apply, val_main_v47_apply, val_main_v46_apply, val_main_v45_apply, val_main_v44_apply,
    val_main_cst_7_apply, val_main_v43_apply, val_main_v42_apply, val_main_cst_6_apply, val_main_v41_apply, val_main_v40_apply,
    val_main_cst_5_apply, val_main_v39_apply, val_main_v50_apply, val_main_v49_apply, val_main_v38_apply, hi, hg, hp]
  show _ * Ideal.rsqrt (Ideal.div (Ideal.ofBits .f32 0x00000000#32 + _) _ + _) * _ = _
  rw [Ideal.ofBits_zero_f32, zero_add]
  rfl

/-- The index key. -/
theorem index_apply (b : Fin 16) (t : Fin 2048) (c : Fin 64) :
    val_main_v77 (F := Ideal) x0 x2 x3 x6 x7 (ix3 b t c)
      = layerNorm 0x42800000#32 0x358637BD#32 (fun k => proj x0 x2 x3 b t ⟨512 + k.val, by have := k.isLt; omega⟩)
          (rowOf (φ := .f32) x6 0) (rowOf (φ := .f32) x7 0) c := by
  have hi : ∀ j k : Fin 64, idx_main_v55 (idx_main_v56 (idx_main_v59 (ix3 b t j))) k = ix3 b t k := fun j k =>
    funext fun a => match a with | ⟨0, _⟩ => rfl | ⟨1, _⟩ => rfl | ⟨2, _⟩ => rfl
  have hi' : ∀ k : Fin 64, idx_main_v62 (idx_main_v63 (idx_main_v69 (ix3 b t c))) k = ix3 b t k := fun k =>
    funext fun a => match a with | ⟨0, _⟩ => rfl | ⟨1, _⟩ => rfl | ⟨2, _⟩ => rfl
  have hg : idx_main_v53 (idx_main_v71 (idx_main_v72 (ix3 b t c))) = ix2 0 c :=
    funext fun a => match a with | ⟨0, _⟩ => rfl | ⟨1, _⟩ => Fin.ext (Nat.mod_eq_of_lt c.isLt)
  have hb : idx_main_v54 (idx_main_v74 (idx_main_v75 (ix3 b t c))) = ix2 0 c :=
    funext fun a => match a with | ⟨0, _⟩ => rfl | ⟨1, _⟩ => Fin.ext (Nat.mod_eq_of_lt c.isLt)
  have hp : ∀ k : Fin 64, val_main_v18 (F := Ideal) x0 x2 x3 (ix3 b t k) = proj x0 x2 x3 b t ⟨512 + k.val, by have := k.isLt; omega⟩ := fun k => by
    have e : idx_main_v18 (ix3 b t k) = ix3 b t (⟨512 + k.val, by have := k.isLt; omega⟩ : Fin 5188) :=
      funext fun a => match a with | ⟨0, _⟩ => rfl | ⟨1, _⟩ => rfl | ⟨2, _⟩ => rfl
    rw [val_main_v18_apply, e, proj_apply]
  have hm : ∀ k : Fin 64, val_main_v60 (F := Ideal) x0 x2 x3 (ix3 b t k)
      = centre 0x42800000#32 (fun k => proj x0 x2 x3 b t ⟨512 + k.val, by have := k.isLt; omega⟩) k := fun k => by
    simp only [val_main_v60_apply, val_main_v59_apply, val_main_v58_apply, val_main_v57_apply, val_main_cst_9_apply, val_main_v56_apply,
      val_main_v55_apply, val_main_cst_8_apply, hi, hp]
    show _ - Ideal.div (Ideal.ofBits .f32 0x00000000#32 + _) _ = _
    rw [Ideal.ofBits_zero_f32, zero_add]
    rfl
  show val_main_v76 (F := Ideal) x0 x2 x3 x6 x7 (ix3 b t c) = _
  simp only [val_main_v76_apply, val_main_v75_apply, val_main_v74_apply, val_main_v73_apply, val_main_v72_apply, val_main_v71_apply,
    val_main_v70_apply, val_main_v69_apply, val_main_v68_apply, val_main_v67_apply, val_main_v66_apply, val_main_cst_12_apply,
    val_main_v65_apply, val_main_v64_apply, val_main_cst_11_apply, val_main_v63_apply, val_main_v62_apply, val_main_cst_10_apply,
    val_main_v61_apply, val_main_v54_apply, val_main_v53_apply, hi', hg, hb, hm]
  show _ * Ideal.rsqrt (Ideal.div (Ideal.ofBits .f32 0x00000000#32 + _) _ + _) * _ + _ = _
  rw [Ideal.ofBits_zero_f32, zero_add]
  rfl

/-- The first gate. -/
theorem gate_apply (b : Fin 16) (t : Fin 2048) (c : Fin 1024) :
    val_main_v85 (F := Ideal) x0 x2 x3 (ix3 b t c)
      = Ideal.logistic (proj x0 x2 x3 b t ⟨2116 + c.val, by have := c.isLt; omega⟩) := by
  have hp : val_main_v78 (F := Ideal) x0 x2 x3 (ix3 b t c) = proj x0 x2 x3 b t ⟨2116 + c.val, by have := c.isLt; omega⟩ := by
    have e : idx_main_v22 (idx_main_v78 (ix3 b t c)) = ix3 b t (⟨2116 + c.val, by have := c.isLt; omega⟩ : Fin 5188) :=
      funext fun a => match a with | ⟨0, _⟩ => rfl | ⟨1, _⟩ => rfl | ⟨2, _⟩ => rfl
    rw [val_main_v78_apply, val_main_v22_apply, e, proj_apply]
  show val_main_v84 (F := Ideal) x0 x2 x3 (ix3 b t c) = _
  simp only [val_main_v84_apply, val_main_v83_apply, val_main_cst_14_apply, val_main_v82_apply, val_main_v81_apply, val_main_cst_13_apply,
    val_main_v80_apply, val_main_v79_apply, hp]
  show Ideal.div (Ideal.ofBits .f32 0x3F800000#32) (Ideal.ofBits .f32 0x3F800000#32 + _) = _
  rw [Ideal.ofBits_one_f32]
  rfl

/-- The transposed key latent, a row of ones past row 255. -/
theorem columns_apply (b : Fin 16) (s : Fin 8) (a : Fin 272) (r : Fin 256) (ha : a.val < 256) :
    val_main_v89 (F := Ideal) x0 x2 x3 x5 (ix4 b s a r)
      = rmsQ (fun k => proj x0 x2 x3 b (⟨s.val * 256 + r.val, by have := s.isLt; have := r.isLt; omega⟩ : Fin 2048) ⟨256 + k.val, by have := k.isLt; omega⟩)
          (rowOf (φ := .f32) x5 0) ⟨a.val, ha⟩ := by
  have hb := b.isLt
  have hs := s.isLt
  have hr := r.isLt
  rw [← key_apply x0 x2 x3 x5 b _ (⟨a.val, ha⟩ : Fin 256)]
  show val_main_v88 (F := Ideal) x0 x2 x3 x5 (ix4 b s a r)
    = val_main_v51 (F := Ideal) x0 x2 x3 x5 (ix3 b (⟨s.val * 256 + r.val, by omega⟩ : Fin 2048) (⟨a.val, ha⟩ : Fin 256))
  unfold val_main_v88
  refine (pad_apply_of_inside ![0, 0, 0, 0] ![0, 0, 16, 0] ![0, 0, 0, 0] _ _ pads_S16x8x256x256_S16x8x272x256_000_000_0160_000 _
    (ix4 b s a r) (ix4 b s (⟨a.val, ha⟩ : Fin 256) r) fun d => ?_).trans ?_
  · match d with
    | ⟨0, _⟩ => show b.val = 0 + b.val * (0 + 1); omega
    | ⟨1, _⟩ => show s.val = 0 + s.val * (0 + 1); omega
    | ⟨2, _⟩ => show a.val = 0 + a.val * (0 + 1); omega
    | ⟨3, _⟩ => show r.val = 0 + r.val * (0 + 1); omega
  rw [val_main_v87_apply, val_main_v86_apply]
  refine congrArg _ (funext fun d => Fin.ext ?_)
  match d with
  | ⟨0, _⟩ => show (((b.val * 8 + s.val) * 256 + r.val) * 256 + a.val) / 524288 = b.val; omega
  | ⟨1, _⟩ => show (((b.val * 8 + s.val) * 256 + r.val) * 256 + a.val) / 256 % 2048 = s.val * 256 + r.val; omega
  | ⟨2, _⟩ => show (((b.val * 8 + s.val) * 256 + r.val) * 256 + a.val) % 256 = a.val; omega

theorem columns_ones (b : Fin 16) (s : Fin 8) (a : Fin 272) (r : Fin 256) (ha : ¬a.val < 256) :
    val_main_v89 (F := Ideal) x0 x2 x3 x5 (ix4 b s a r) = (1 : EReal) := by
  show val_main_v88 (F := Ideal) x0 x2 x3 x5 (ix4 b s a r) = (1 : EReal)
  unfold val_main_v88
  refine (pad_apply_of_not_inside ![0, 0, 0, 0] ![0, 0, 16, 0] ![0, 0, 0, 0] _ _ pads_S16x8x256x256_S16x8x272x256_000_000_0160_000 _
    (ix4 b s a r) (2 : Fin S16x8x256x256.rank) fun hin => ?_).trans ?_
  · have h3 : (a.val - 0) / (0 + 1) < 256 := hin.2.2
    omega
  · exact Ideal.ofBits_one_f32

/-- The transposed index-head weights, a row of zeros past row 3. -/
theorem weights_apply (b : Fin 16) (a : Fin 8) (t : Fin 2048) (ha : a.val < 4) :
    val_main_v93 (F := Ideal) x0 x2 x3 (ix3 b a t)
      = proj x0 x2 x3 b t ⟨576 + a.val, by omega⟩ * Ideal.ofBits .f32 0x3F000000#32 := by
  unfold val_main_v93
  refine (pad_apply_of_inside ![0, 0, 0] ![0, 4, 0] ![0, 0, 0] _ _ pads_S16x4x2048_S16x8x2048_000_040_000 _
    (ix3 b a t) (ix3 b (⟨a.val, ha⟩ : Fin 4) t) fun d => ?_).trans ?_
  · match d with
    | ⟨0, _⟩ => show b.val = 0 + b.val * (0 + 1); omega
    | ⟨1, _⟩ => show a.val = 0 + a.val * (0 + 1); omega
    | ⟨2, _⟩ => show t.val = 0 + t.val * (0 + 1); omega
  have e : idx_main_v19 (idx_main_v92 (ix3 b (⟨a.val, ha⟩ : Fin 4) t)) = ix3 b t (⟨576 + a.val, by omega⟩ : Fin 5188) :=
    funext fun d => match d with | ⟨0, _⟩ => rfl | ⟨1, _⟩ => rfl | ⟨2, _⟩ => rfl
  rw [val_main_v92_apply, val_main_v91_apply, val_main_v19_apply, e, proj_apply, val_main_v90_apply, val_main_cst_16_apply]
  rfl

theorem weights_zero (b : Fin 16) (a : Fin 8) (t : Fin 2048) (ha : ¬a.val < 4) :
    val_main_v93 (F := Ideal) x0 x2 x3 (ix3 b a t) = (0 : EReal) := by
  unfold val_main_v93
  refine (pad_apply_of_not_inside ![0, 0, 0] ![0, 4, 0] ![0, 0, 0] _ _ pads_S16x4x2048_S16x8x2048_000_040_000 _
    (ix3 b a t) (1 : Fin S16x4x2048.rank) fun hin => ?_).trans ?_
  · have h3 : (a.val - 0) / (0 + 1) < 4 := hin.2.2
    omega
  · show (((0#32 : BitVec 32).toInt : ℝ) : EReal) = 0
    simp

end Cert.MixPreRefIdeal.Rows
-- ==== Proof.PreEquation.lean ====
module

public import proofs.«01_k».proof.Defs
public import proofs.«01_k».proof.Proof.PreWide
public import proofs.«01_k».proof.Proof.PreRefRows
public import proofs.«01_k».proof.Proof.Gen.MixPreRefIdeal.Run
public import proofs.«01_k».proof.Proof.Gen.MixPreRefIdeal.Read

/-!
# Six results of the mixer's first call are the layer's
-/

@[expose] public section

namespace Cert.Proof.Pre

open Idealize.ShloMosaic Idealize.ShloMosaic.ValueIdx Idealize.SL.Sem Layer

variable (x : Vec Ideal Cert.MixPreIdeal.S16x2048x1024 .f32) (g : Vec Ideal Cert.MixPreIdeal.S1x1024 .f32)
  (w : Vec Ideal Cert.MixPreIdeal.S1x1024x5188 .f32)

/-- The reference's projected row, from column `o` on, is the token's row times those columns. -/
theorem proj_from (o n : ℕ) (h : o + n ≤ 5188) (b : Fin 16) (t : Fin 2048) (k : Fin n) :
    Cert.MixPreRefIdeal.Rows.proj x g w b t (⟨o + k.val, by have := k.isLt; omega⟩ : Fin 5188)
      = mul (Cert.MixPreIdeal.Rows.tokenRow x g b t) (Cert.MixPreIdeal.Rows.columns w o n h) k := rfl

/-- The query latent. -/
theorem equation_query (gq : Vec Ideal Cert.MixPreIdeal.S1x256 .f32) :
    Cert.MixPreRefIdeal.Read.val_main_v37 (F := Ideal) x g w gq = Cert.MixPreIdeal.Rows.queries x g w gq := by
  funext i
  obtain ⟨b, t, k, rfl⟩ : ∃ (b : Fin 16) (t : Fin 2048) (k : Fin 256), i = ix3 b t k := ⟨i 0, i 1, i 2, eq_ix3 i⟩
  refine (Cert.MixPreRefIdeal.Rows.query_apply x g w gq b t k).trans ?_
  have e : (fun k : Fin 256 => Cert.MixPreRefIdeal.Rows.proj x g w b t (⟨k.val, by have := k.isLt; omega⟩ : Fin 5188))
      = mul (Cert.MixPreIdeal.Rows.tokenRow x g b t) (Cert.MixPreIdeal.Rows.columns w 0 256 (by omega)) := funext fun k => by
    rw [← proj_from x g w 0 256 (by omega) b t k]
    exact congrArg _ (Fin.ext (Nat.zero_add _).symm)
  rw [e]
  rfl

/-- The key latent. -/
theorem equation_key (gk : Vec Ideal Cert.MixPreIdeal.S1x256 .f32) :
    Cert.MixPreRefIdeal.Read.val_main_v52 (F := Ideal) x g w gk = Cert.MixPreIdeal.Rows.keys x g w gk := by
  funext i
  obtain ⟨b, t, k, rfl⟩ : ∃ (b : Fin 16) (t : Fin 2048) (k : Fin 256), i = ix3 b t k := ⟨i 0, i 1, i 2, eq_ix3 i⟩
  refine (Cert.MixPreRefIdeal.Rows.key_apply x g w gk b t k).trans ?_
  rw [show (fun k : Fin 256 => Cert.MixPreRefIdeal.Rows.proj x g w b t (⟨256 + k.val, by have := k.isLt; omega⟩ : Fin 5188))
      = mul (Cert.MixPreIdeal.Rows.tokenRow x g b t) (Cert.MixPreIdeal.Rows.columns w 256 256 (by omega)) from
    funext fun k => proj_from x g w 256 256 (by omega) b t k]
  rfl

/-- The index key. -/
theorem equation_index (gi bi : Vec Ideal Cert.MixPreIdeal.S1x64 .f32) :
    Cert.MixPreRefIdeal.Read.val_main_v77 (F := Ideal) x g w gi bi = Cert.MixPreIdeal.Rows.indexKeys x g w gi bi := by
  funext i
  obtain ⟨b, t, k, rfl⟩ : ∃ (b : Fin 16) (t : Fin 2048) (k : Fin 64), i = ix3 b t k := ⟨i 0, i 1, i 2, eq_ix3 i⟩
  refine (Cert.MixPreRefIdeal.Rows.index_apply x g w gi bi b t k).trans ?_
  rw [show (fun k : Fin 64 => Cert.MixPreRefIdeal.Rows.proj x g w b t (⟨512 + k.val, by have := k.isLt; omega⟩ : Fin 5188))
      = mul (Cert.MixPreIdeal.Rows.tokenRow x g b t) (Cert.MixPreIdeal.Rows.columns w 512 64 (by omega)) from
    funext fun k => proj_from x g w 512 64 (by omega) b t k]
  rfl

/-- The first gate. -/
theorem equation_gate : Cert.MixPreRefIdeal.Read.val_main_v85 (F := Ideal) x g w = Cert.MixPreIdeal.Rows.gates x g w := by
  funext i
  obtain ⟨b, t, k, rfl⟩ : ∃ (b : Fin 16) (t : Fin 2048) (k : Fin 1024), i = ix3 b t k := ⟨i 0, i 1, i 2, eq_ix3 i⟩
  refine (Cert.MixPreRefIdeal.Rows.gate_apply x g w b t k).trans ?_
  rw [proj_from x g w 2116 1024 (by omega) b t k]
  rfl

/-- The transposed key latent. -/
theorem equation_columns (gk : Vec Ideal Cert.MixPreIdeal.S1x256 .f32) :
    Cert.MixPreRefIdeal.Read.val_main_v89 (F := Ideal) x g w gk = Cert.MixPreIdeal.Rows.keyColumns x g w gk := by
  funext i
  obtain ⟨b, s, a, r, rfl⟩ : ∃ (b : Fin 16) (s : Fin 8) (a : Fin 272) (r : Fin 256), i = ix4 b s a r := ⟨i 0, i 1, i 2, i 3, eq_ix4 i⟩
  by_cases ha : a.val < 256
  · refine (Cert.MixPreRefIdeal.Rows.columns_apply x g w gk b s a r ha).trans (Eq.trans ?_ (dif_pos ha).symm)
    rw [show (fun k : Fin 256 => Cert.MixPreRefIdeal.Rows.proj x g w b
          (⟨s.val * 256 + r.val, by have := s.isLt; have := r.isLt; omega⟩ : Fin 2048) (⟨256 + k.val, by have := k.isLt; omega⟩ : Fin 5188))
        = mul (Cert.MixPreIdeal.Rows.tokenRow x g b (⟨s.val * 256 + r.val, by have := s.isLt; have := r.isLt; omega⟩ : Fin 2048))
            (Cert.MixPreIdeal.Rows.columns w 256 256 (by omega)) from
      funext fun k => proj_from x g w 256 256 (by omega) b _ k]
  · exact (Cert.MixPreRefIdeal.Rows.columns_ones x g w gk b s a r ha).trans
      (Cert.MixPreIdeal.Rows.keyColumns_ones x g w gk (ix4 b s a r) ha).symm

theorem weightRows_zero (i : Cert.MixPreIdeal.S16x8x2048.Idx) (hi : ¬(i 1).val < 4) : Cert.MixPreIdeal.Rows.weightRows x g w i = (0 : EReal) := by
  unfold Cert.MixPreIdeal.Rows.weightRows
  exact dif_neg hi

/-- The transposed index-head weights. -/
theorem equation_weights : Cert.MixPreRefIdeal.Read.val_main_v93 (F := Ideal) x g w = Cert.MixPreIdeal.Rows.weightRows x g w := by
  funext i
  obtain ⟨b, a, t, rfl⟩ : ∃ (b : Fin 16) (a : Fin 8) (t : Fin 2048), i = ix3 b a t := ⟨i 0, i 1, i 2, eq_ix3 i⟩
  by_cases ha : a.val < 4
  · refine (Cert.MixPreRefIdeal.Rows.weights_apply x g w b a t ha).trans (Eq.trans ?_ (dif_pos ha).symm)
    exact congrArg (· * Ideal.ofBits .f32 0x3F000000#32) (proj_from x g w 576 4 (by omega) b t (⟨a.val, ha⟩ : Fin 4))
  · refine (Cert.MixPreRefIdeal.Rows.weights_zero x g w b a t ha).trans ?_
    exact (weightRows_zero x g w (ix3 b a t) ha).symm

/-- The kernel's run and the reference's end with equal results. -/
theorem algebraic [hK : Cert.MixPreIdeal.Facts] [hR : Cert.MixPreRefIdeal.Facts] : Cert.algebraic_MixPreIdeal_MixPreRefIdeal := by
  intro m ρ m' ρ' _ hagree
  refine ⟨fun c => Cert.MixPreIdeal.Rows.result21 m c, fun c => Cert.MixPreIdeal.Rows.result22 m c,
    fun c => Cert.MixPreIdeal.Rows.result23 m c, fun c => Cert.MixPreIdeal.Rows.result24 m c,
    fun c => Cert.MixPreIdeal.Rows.result25 m c, fun c => Cert.MixPreIdeal.Rows.result26 m c,
    Cert.MixPreIdeal.Rows.run_results m ρ, ?_⟩
  refine (θ_run Cert.MixPreRefIdeal.defs _ _).mono
    (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩)
    (Cert.MixPreRefIdeal.Value.run (F := Ideal) m' ρ')
  all_goals obtain ⟨a0, a1, a2, a3, a4, a5, a6, a7, -⟩ := hagree c
  · rw [Cert.MixPreRefIdeal.Read.val_main_v37_eq, a0, a2, a3, a4]
    exact equation_query _ _ _ _
  · rw [Cert.MixPreRefIdeal.Read.val_main_v52_eq, a0, a2, a3, a5]
    exact equation_key _ _ _ _
  · rw [Cert.MixPreRefIdeal.Read.val_main_v89_eq m' c, a0, a2, a3, a5]
    exact equation_columns _ _ _ _
  · rw [Cert.MixPreRefIdeal.Read.val_main_v77_eq m' c, a0, a2, a3, a6, a7]
    exact equation_index _ _ _ _ _
  · rw [Cert.MixPreRefIdeal.Read.val_main_v93_eq, a0, a2, a3]
    exact equation_weights _ _ _
  · rw [Cert.MixPreRefIdeal.Read.val_main_v85_eq, a0, a2, a3]
    exact equation_gate _ _ _

end Cert.Proof.Pre
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.FfnIdeal.Value
public import proofs.«01_k».proof.Proof.Gen.PostIdeal.Value
public import proofs.«01_k».proof.Proof.Gen.FfnRefIdeal.Run
public import proofs.«01_k».proof.Proof.Gen.PostRefIdeal.Run
public import proofs.«01_k».proof.Proof.Gen.FfnRefIdeal.Read
public import proofs.«01_k».proof.Proof.Gen.PostRefIdeal.Read
public import proofs.«01_k».proof.Proof.FfnEquation
public import proofs.«01_k».proof.Proof.PostEquation
public import proofs.«01_k».proof.Proof.Gen.MixDsa
public import proofs.«01_k».proof.Proof.Gen.MixDsa.Skeleton
public import proofs.«01_k».proof.Proof.Gen.MixDsa.Loops
public import proofs.«01_k».proof.Proof.Gen.MixDsa.Launch
public import proofs.«01_k».proof.Proof.Gen.MixDsa.Points
public import proofs.«01_k».proof.Proof.Gen.MixDsaIdeal
public import proofs.«01_k».proof.Proof.Gen.MixDsaIdeal.Skeleton
public import proofs.«01_k».proof.Proof.Gen.MixDsaIdeal.Loops
public import proofs.«01_k».proof.Proof.Gen.MixDsaIdeal.Launch
public import proofs.«01_k».proof.Proof.Gen.MixDsaIdeal.Points
public import proofs.«01_k».proof.Proof.DsaFrame
public import proofs.«01_k».proof.Proof.DsaIdealFrame
public import proofs.«01_k».proof.Proof.Gen.MixPre
public import proofs.«01_k».proof.Proof.Gen.MixPre.Skeleton
public import proofs.«01_k».proof.Proof.Gen.MixPre.Launch
public import proofs.«01_k».proof.Proof.Gen.MixPre.Points
public import proofs.«01_k».proof.Proof.Gen.MixPre.Frame.RunA
public import proofs.«01_k».proof.Proof.Gen.MixPre.Frame.RunB
public import proofs.«01_k».proof.Proof.Gen.MixPreIdeal
public import proofs.«01_k».proof.Proof.Gen.MixPreIdeal.Skeleton
public import proofs.«01_k».proof.Proof.Gen.MixPreIdeal.Launch
public import proofs.«01_k».proof.Proof.Gen.MixPreIdeal.Points
public import proofs.«01_k».proof.Proof.Gen.MixPreIdeal.Frame.RunA
public import proofs.«01_k».proof.Proof.Gen.MixPreIdeal.Frame.RunB
public import proofs.«01_k».proof.Proof.Gen.MixPreRefIdeal
public import proofs.«01_k».proof.Proof.Gen.MixPreRefIdeal.Run
public import proofs.«01_k».proof.Proof.Gen.MixPreRefIdeal.Read
public import proofs.«01_k».proof.Proof.PreBitsRun
public import proofs.«01_k».proof.Proof.PreRun
public import proofs.«01_k».proof.Proof.PreEquation
public import Idealize.ShloMosaic.Adequacy
public import Idealize.ShloMosaic.Init

@[expose] public section

noncomputable section

namespace Cert.Proof

open Idealize.ShloMosaic Idealize.SL.Sem Cert.Ffn

/-- The reference of the first call runs, keeps its arguments and declares no semaphore. -/
theorem frame_ffn : Cert.quiescent_FfnRefIdeal := fun m ρ _ =>
  (θ_run Cert.FfnRefIdeal.defs _ _).mono
    (fun r h => ⟨fun c => (h c).2, sem_eq_zero_of_no_sems (by decide) r.2⟩)
    (Cert.FfnRefIdeal.Value.run (F := Ideal) m ρ)

/-- The reference of the last call runs, keeps its arguments and declares no semaphore. -/
theorem frame_post : Cert.quiescent_PostRefIdeal := fun m ρ _ =>
  (θ_run Cert.PostRefIdeal.defs _ _).mono
    (fun r h => ⟨fun c => (h c).2, sem_eq_zero_of_no_sems (by decide) r.2⟩)
    (Cert.PostRefIdeal.Value.run (F := Ideal) m ρ)

/-- The reference of the mixer's first call runs, keeps its arguments and declares no semaphore. -/
theorem frame_pre : Cert.quiescent_MixPreRefIdeal := fun m ρ _ =>
  (θ_run Cert.MixPreRefIdeal.defs _ _).mono
    (fun r h => ⟨fun c => (h c).2.2.2.2.2.2, sem_eq_zero_of_no_sems (by decide) r.2⟩)
    (Cert.MixPreRefIdeal.Value.run (F := Ideal) m ρ)

theorem claim : Cert.Claim := ⟨Cert.Ffn.Gen.facts, Cert.FfnIdeal.Gen.facts, Cert.FfnRefIdeal.Gen.facts, Cert.Post.Gen.facts, Cert.PostIdeal.Gen.facts, Cert.PostRefIdeal.Gen.facts,
  Cert.MixDsa.Gen.facts, Cert.MixDsaIdeal.Gen.facts,
  Cert.MixPre.Gen.facts, Cert.MixPreIdeal.Gen.facts, Cert.MixPreRefIdeal.Gen.facts,
  fun m ρ _ => Cert.Ffn.Gen.frame m ρ, fun m ρ _ => Cert.FfnIdeal.Gen.frame m ρ, frame_ffn,
  fun m ρ _ => Cert.Post.Gen.frame m ρ, fun m ρ _ => Cert.PostIdeal.Gen.frame m ρ, frame_post,
  fun m ρ _ => MixDsaRun.frame m ρ, fun m ρ _ => MixDsaIdealRun.frame m ρ,
  fun m ρ _ => Cert.MixPre.Named.frame m ρ, fun m ρ _ => Cert.MixPreIdeal.Named.frame m ρ, frame_pre,
  trivial, Ffn.algebraic, trivial, Post.algebraic, trivial, trivial, Pre.algebraic⟩

end Cert.Proof

end
